-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v6) = v0 c
          ∧ r.2.mem ((c.tc : Thread Cert.GateUpRefIdeal.nD Cert.GateUpRefIdeal.τ).loc Cert.GateUpRefIdeal.main_v8) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_v6) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0_0)) (v1 : (c : Dev Cert.InIdeal.nD) → Buf (Elt Ideal) ((c.tc : Thread Cert.InIdeal.nD Cert.InIdeal.τ).loc Cert.InIdeal.main_v0_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0_0) = v0 c
          ∧ r.2.mem ((c.tc : Thread Cert.InIdeal.nD Cert.InIdeal.τ).loc Cert.InIdeal.main_v0_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v6) = v0 c
          ∧ r.2.mem ((c.tc : Thread Cert.InRefIdeal.nD Cert.InRefIdeal.τ).loc Cert.InRefIdeal.main_v8) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v3_0)) (v1 : (c : Dev Cert.FfnIdeal.nD) → Buf (Elt Ideal) ((c.tc : Thread Cert.FfnIdeal.nD Cert.FfnIdeal.τ).loc Cert.FfnIdeal.main_v3_1)) (v2 : (c : Dev Cert.FfnIdeal.nD) → Buf (Elt Ideal) ((c.tc : Thread Cert.FfnIdeal.nD Cert.FfnIdeal.τ).loc Cert.FfnIdeal.main_v3_2)) (v3 : (c : Dev Cert.FfnIdeal.nD) → Buf (Elt Ideal) ((c.tc : Thread Cert.FfnIdeal.nD Cert.FfnIdeal.τ).loc Cert.FfnIdeal.main_v3_3)) (v4 : (c : Dev Cert.FfnIdeal.nD) → Buf (Elt Ideal) ((c.tc : Thread Cert.FfnIdeal.nD Cert.FfnIdeal.τ).loc Cert.FfnIdeal.main_v3_4)) (v5 : (c : Dev Cert.FfnIdeal.nD) → Buf (Elt Ideal) ((c.tc : Thread Cert.FfnIdeal.nD Cert.FfnIdeal.τ).loc Cert.FfnIdeal.main_v3_5)) (v6 : (c : Dev Cert.FfnIdeal.nD) → Buf (Elt Ideal) ((c.tc : Thread Cert.FfnIdeal.nD Cert.FfnIdeal.τ).loc Cert.FfnIdeal.main_v3_6)) (v7 : (c : Dev Cert.FfnIdeal.nD) → Buf (Elt Ideal) ((c.tc : Thread Cert.FfnIdeal.nD Cert.FfnIdeal.τ).loc Cert.FfnIdeal.main_v3_7)) (v8 : (c : Dev Cert.FfnIdeal.nD) → Buf (Elt Ideal) ((c.tc : Thread Cert.FfnIdeal.nD Cert.FfnIdeal.τ).loc Cert.FfnIdeal.main_v3_8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3_0) = v0 c
          ∧ r.2.mem ((c.tc : Thread Cert.FfnIdeal.nD Cert.FfnIdeal.τ).loc Cert.FfnIdeal.main_v3_1) = v1 c
          ∧ r.2.mem ((c.tc : Thread Cert.FfnIdeal.nD Cert.FfnIdeal.τ).loc Cert.FfnIdeal.main_v3_2) = v2 c
          ∧ r.2.mem ((c.tc : Thread Cert.FfnIdeal.nD Cert.FfnIdeal.τ).loc Cert.FfnIdeal.main_v3_3) = v3 c
          ∧ r.2.mem ((c.tc : Thread Cert.FfnIdeal.nD Cert.FfnIdeal.τ).loc Cert.FfnIdeal.main_v3_4) = v4 c
          ∧ r.2.mem ((c.tc : Thread Cert.FfnIdeal.nD Cert.FfnIdeal.τ).loc Cert.FfnIdeal.main_v3_5) = v5 c
          ∧ r.2.mem ((c.tc : Thread Cert.FfnIdeal.nD Cert.FfnIdeal.τ).loc Cert.FfnIdeal.main_v3_6) = v6 c
          ∧ r.2.mem ((c.tc : Thread Cert.FfnIdeal.nD Cert.FfnIdeal.τ).loc Cert.FfnIdeal.main_v3_7) = v7 c
          ∧ r.2.mem ((c.tc : Thread Cert.FfnIdeal.nD Cert.FfnIdeal.τ).loc Cert.FfnIdeal.main_v3_8) = v8 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v101) = v0 c
          ∧ r.2.mem ((c.tc : Thread Cert.FfnRefIdeal.nD Cert.FfnRefIdeal.τ).loc Cert.FfnRefIdeal.main_v102) = v1 c
          ∧ r.2.mem ((c.tc : Thread Cert.FfnRefIdeal.nD Cert.FfnRefIdeal.τ).loc Cert.FfnRefIdeal.main_v103) = v2 c
          ∧ r.2.mem ((c.tc : Thread Cert.FfnRefIdeal.nD Cert.FfnRefIdeal.τ).loc Cert.FfnRefIdeal.main_v104) = v3 c
          ∧ r.2.mem ((c.tc : Thread Cert.FfnRefIdeal.nD Cert.FfnRefIdeal.τ).loc Cert.FfnRefIdeal.main_v100) = v4 c
          ∧ r.2.mem ((c.tc : Thread Cert.FfnRefIdeal.nD Cert.FfnRefIdeal.τ).loc Cert.FfnRefIdeal.main_v105) = v5 c
          ∧ r.2.mem ((c.tc : Thread Cert.FfnRefIdeal.nD Cert.FfnRefIdeal.τ).loc Cert.FfnRefIdeal.main_v83) = v6 c
          ∧ r.2.mem ((c.tc : Thread Cert.FfnRefIdeal.nD Cert.FfnRefIdeal.τ).loc Cert.FfnRefIdeal.main_v58) = v7 c
          ∧ r.2.mem ((c.tc : Thread Cert.FfnRefIdeal.nD Cert.FfnRefIdeal.τ).loc Cert.FfnRefIdeal.main_v106) = v8 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v2_0)) (v1 : (c : Dev Cert.MixIdeal.nD) → Buf (Elt Ideal) ((c.tc : Thread Cert.MixIdeal.nD Cert.MixIdeal.τ).loc Cert.MixIdeal.main_v2_1)) (v2 : (c : Dev Cert.MixIdeal.nD) → Buf (Elt Ideal) ((c.tc : Thread Cert.MixIdeal.nD Cert.MixIdeal.τ).loc Cert.MixIdeal.main_v2_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2_0) = v0 c
          ∧ r.2.mem ((c.tc : Thread Cert.MixIdeal.nD Cert.MixIdeal.τ).loc Cert.MixIdeal.main_v2_1) = v1 c
          ∧ r.2.mem ((c.tc : Thread Cert.MixIdeal.nD Cert.MixIdeal.τ).loc Cert.MixIdeal.main_v2_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v66) = v0 c
          ∧ r.2.mem ((c.tc : Thread Cert.MixRefIdeal.nD Cert.MixRefIdeal.τ).loc Cert.MixRefIdeal.main_v67) = v1 c
          ∧ r.2.mem ((c.tc : Thread Cert.MixRefIdeal.nD Cert.MixRefIdeal.τ).loc Cert.MixRefIdeal.main_v49) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hIn : Cert.In.Facts) (hInIdeal : Cert.InIdeal.Facts) (hInRefIdeal : Cert.InRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_In (hIn := hIn)
    ∧ quiescent_InIdeal (hInIdeal := hInIdeal)
    ∧ quiescent_InRefIdeal (hInRefIdeal := hInRefIdeal)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Mix (hMix := hMix)
    ∧ quiescent_MixIdeal (hMixIdeal := hMixIdeal)
    ∧ quiescent_MixRefIdeal (hMixRefIdeal := hMixRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_In_InIdeal
    ∧ algebraic_InIdeal_InRefIdeal (hInIdeal := hInIdeal) (hInRefIdeal := hInRefIdeal)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Mix_MixIdeal
    ∧ algebraic_MixIdeal_MixRefIdeal (hMixIdeal := hMixIdeal) (hMixRefIdeal := hMixRefIdeal)
-- ==== Pre_finite.lean ====
abbrev S1x8192x4x64 : Shape := ⟨4, ![1, 8192, 4, 64]⟩
abbrev S1x8192x4 : Shape := ⟨3, ![1, 8192, 4]⟩
abbrev S_ : Shape := ⟨0, ![]⟩

class Facts : Prop where
  bcast_S_S1x8192x4x64 : S_.BroadcastsInDim S1x8192x4x64 (![] : Fin 0 → Fin S1x8192x4x64.rank)
  reducesTo_S1x8192x4x64_S_d0_1_2_3 : S1x8192x4x64.ReducesTo [0, 1, 2, 3] S_
  h_S_ : 0 < S_.numel
  bcast_S_S1x8192x4 : S_.BroadcastsInDim S1x8192x4 (![] : Fin 0 → Fin S1x8192x4.rank)
  reducesTo_S1x8192x4_S_d0_1_2 : S1x8192x4.ReducesTo [0, 1, 2] S_

variable [Facts]

def fn_part1 {F : FTy → Type} [FloatOps F] (main_arg4 : FVec F S1x8192x4 .f32) (main_v13 : IVec S_ 1) (main_v16 : IVec S1x8192x4x64 1) : IVec S_ 1 :=
  let main_c_5 : IVec S_ 1 := constantI S_ 1 1#1
  let main_v17 : IVec S_ 1 := (fun x v => Host.reduce IntOp.andi x v reducesTo_S1x8192x4x64_S_d0_1_2_3 h_S_) main_v16 main_c_5
  let main_v18 : IVec S_ 1 := andi main_v13 main_v17
  let main_v19 : FVec F S1x8192x4 .f32 := Host.absf main_arg4
  let main_cst_6 : FVec F S_ .f32 := constant S_ .f32 0x7F800000#32
  let main_v20 : FVec F S1x8192x4 .f32 := broadcastInDim S1x8192x4 ![] bcast_S_S1x8192x4 main_cst_6
  let main_v21 : IVec S1x8192x4 1 := cmpf .olt main_v19 main_v20
  let main_c_7 : IVec S_ 1 := constantI S_ 1 1#1
  let main_v22 : IVec S_ 1 := (fun x v => Host.reduce IntOp.andi x v reducesTo_S1x8192x4_S_d0_1_2 h_S_) main_v21 main_c_7
  let main_v23 : IVec S_ 1 := andi main_v18 main_v22
  main_v23

def fn {F : FTy → Type} [FloatOps F] (main_arg0 : FVec F S1x8192x4x64 .f32) (main_arg1 : FVec F S1x8192x4x64 .f32) (main_arg2 : FVec F S1x8192x4x64 .f32) (main_arg3 : FVec F S1x8192x4x64 .f32) (main_arg4 : FVec F S1x8192x4 .f32) : IVec S_ 1 :=
  let main_v0 : FVec F S1x8192x4x64 .f32 := Host.absf main_arg0
  let main_cst : FVec F S_ .f32 := constant S_ .f32 0x7F800000#32
  let main_v1 : FVec F S1x8192x4x64 .f32 := broadcastInDim S1x8192x4x64 ![] bcast_S_S1x8192x4x64 main_cst
  let main_v2 : IVec S1x8192x4x64 1 := cmpf .olt main_v0 main_v1
  let main_c : IVec S_ 1 := constantI S_ 1 1#1
  let main_v3 : IVec S_ 1 := (fun x v => Host.reduce IntOp.andi x v reducesTo_S1x8192x4x64_S_d0_1_2_3 h_S_) main_v2 main_c
  let main_v4 : FVec F S1x8192x4x64 .f32 := Host.absf main_arg1
  let main_cst_0 : FVec F S_ .f32 := constant S_ .f32 0x7F800000#32
  let main_v5 : FVec F S1x8192x4x64 .f32 := broadcastInDim S1x8192x4x64 ![] bcast_S_S1x8192x4x64 main_cst_0
  let main_v6 : IVec S1x8192x4x64 1 := cmpf .olt main_v4 main_v5
  let main_c_1 : IVec S_ 1 := constantI S_ 1 1#1
  let main_v7 : IVec S_ 1 := (fun x v => Host.reduce IntOp.andi x v reducesTo_S1x8192x4x64_S_d0_1_2_3 h_S_) main_v6 main_c_1
  let main_v8 : IVec S_ 1 := andi main_v3 main_v7
  let main_v9 : FVec F S1x8192x4x64 .f32 := Host.absf main_arg2
  let main_cst_2 : FVec F S_ .f32 := constant S_ .f32 0x7F800000#32
  let main_v10 : FVec F S1x8192x4x64 .f32 := broadcastInDim S1x8192x4x64 ![] bcast_S_S1x8192x4x64 main_cst_2
  let main_v11 : IVec S1x8192x4x64 1 := cmpf .olt main_v9 main_v10
  let main_c_3 : IVec S_ 1 := constantI S_ 1 1#1
  let main_v12 : IVec S_ 1 := (fun x v => Host.reduce IntOp.andi x v reducesTo_S1x8192x4x64_S_d0_1_2_3 h_S_) main_v11 main_c_3
  let main_v13 : IVec S_ 1 := andi main_v8 main_v12
  let main_v14 : FVec F S1x8192x4x64 .f32 := Host.absf main_arg3
  let main_cst_4 : FVec F S_ .f32 := constant S_ .f32 0x7F800000#32
  let main_v15 : FVec F S1x8192x4x64 .f32 := broadcastInDim S1x8192x4x64 ![] bcast_S_S1x8192x4x64 main_cst_4
  let main_v16 : IVec S1x8192x4x64 1 := cmpf .olt main_v14 main_v15
  fn_part1 (F := F) main_arg4 main_v13 main_v16
-- ==== Pre_finite_ffn.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x5632 .f32) (main_arg5 : FVec F S2816x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x5632 .f32 := Host.absf main_arg4
  let main_cst_6 : FVec F S_ .f32 := constant S_ .f32 0x7F800000#32
  let main_v20 : FVec F S1024x5632 .f32 := broadcastInDim S1024x5632 ![] bcast_S_S1024x5632 main_cst_6
  let main_v21 : IVec S1024x5632 1 := cmpf .olt main_v19 main_v20
  let main_c_7 : IVec S_ 1 := constantI S_ 1 1#1
  let main_v22 : IVec S_ 1 := (fun x v => Host.reduce IntOp.andi x v reducesTo_S1024x5632_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1024x5632 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Kernel.lean ====
abbrev S1x8192x4x64 : Shape := ⟨4, ![1, 8192, 4, 64]⟩
abbrev S1x8192x4 : Shape := ⟨3, ![1, 8192, 4]⟩
abbrev S1x4x128x16x4x64 : Shape := ⟨6, ![1, 4, 128, 16, 4, 64]⟩
abbrev S1x16x4x4x128x64 : Shape := ⟨6, ![1, 16, 4, 4, 128, 64]⟩
abbrev S1x16x4x1x128x64 : Shape := ⟨6, ![1, 16, 4, 1, 128, 64]⟩
abbrev S_ : Shape := ⟨0, ![]⟩
abbrev S1x16x4x3x128x64 : Shape := ⟨6, ![1, 16, 4, 3, 128, 64]⟩
abbrev S1x16x4x4x256x64 : Shape := ⟨6, ![1, 16, 4, 4, 256, 64]⟩
abbrev S1x16x4x4x128x256 : Shape := ⟨6, ![1, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S1 : Shape := ⟨1, ![1]⟩
abbrev S4x1x1x1 : Shape := ⟨4, ![4, 1, 1, 1]⟩
abbrev S1x1x128x256 : Shape := ⟨4, ![1, 1, 128, 256]⟩
abbrev S4x1x128x256 : Shape := ⟨4, ![4, 1, 128, 256]⟩
abbrev S1x1x4x1x128x256 : Shape := ⟨6, ![1, 1, 4, 1, 128, 256]⟩
abbrev S1x16x4x4x128 : Shape := ⟨5, ![1, 16, 4, 4, 128]⟩
abbrev S1x16x4x4x128x1 : Shape := ⟨6, ![1, 16, 4, 4, 128, 1]⟩
abbrev S1x4x128x16x4 : Shape := ⟨5, ![1, 4, 128, 16, 4]⟩
abbrev S512x16x256 : Shape := ⟨3, ![512, 16, 256]⟩
abbrev S16x512x256 : Shape := ⟨3, ![16, 512, 256]⟩
abbrev S16x512x768 : Shape := ⟨3, ![16, 512, 768]⟩
abbrev S1x8192x4x1 : Shape := ⟨4, ![1, 8192, 4, 1]⟩
abbrev S512x256 : Shape := ⟨2, ![512, 256]⟩
abbrev S1x512x256 : Shape := ⟨3, ![1, 512, 256]⟩
abbrev S1x512x768 : Shape := ⟨3, ![1, 512, 768]⟩
abbrev S640x256 : Shape := ⟨2, ![640, 256]⟩
abbrev S256x256 : Shape := ⟨2, ![256, 256]⟩
abbrev S1x128x1 : Shape := ⟨3, ![1, 128, 1]⟩
abbrev S512x1 : Shape := ⟨2, ![512, 1]⟩
abbrev S512x128 : Shape := ⟨2, ![512, 128]⟩

abbrev nBuf : Space → Nat
  | .hbm => 193
  | .vmem => 29
  | .smem => 0
  | _ => 0

abbrev hbmTy0_0 (i : Nat) : BufTy := match i % 128 with
  | 0 => ⟨S1x8192x4x64, .f32⟩
  | 1 => ⟨S1x8192x4x64, .f32⟩
  | 2 => ⟨S1x8192x4x64, .f32⟩
  | 3 => ⟨S1x8192x4x64, .f32⟩
  | 4 => ⟨S1x8192x4, .f32⟩
  | 5 => ⟨S1x4x128x16x4x64, .f32⟩
  | 6 => ⟨S1x16x4x4x128x64, .f32⟩
  | 7 => ⟨S1x4x128x16x4x64, .f32⟩
  | 8 => ⟨S1x16x4x4x128x64, .f32⟩
  | 9 => ⟨S1x16x4x1x128x64, .f32⟩
  | 10 => ⟨S_, .f32⟩
  | 11 => ⟨S1x16x4x1x128x64, .f32⟩
  | 12 => ⟨S1x16x4x3x128x64, .f32⟩
  | 13 => ⟨S1x16x4x4x128x64, .f32⟩
  | 14 => ⟨S_, .f32⟩
  | 15 => ⟨S1x16x4x1x128x64, .f32⟩
  | 16 => ⟨S1x16x4x4x256x64, .f32⟩
  | 17 => ⟨S1x4x128x16x4x64, .f32⟩
  | 18 => ⟨S1x16x4x4x128x64, .f32⟩
  | 19 => ⟨S1x16x4x1x128x64, .f32⟩
  | 20 => ⟨S_, .f32⟩
  | 21 => ⟨S1x16x4x1x128x64, .f32⟩
  | 22 => ⟨S1x16x4x3x128x64, .f32⟩
  | 23 => ⟨S1x16x4x4x128x64, .f32⟩
  | 24 => ⟨S_, .f32⟩
  | 25 => ⟨S1x16x4x1x128x64, .f32⟩
  | 26 => ⟨S1x16x4x4x256x64, .f32⟩
  | 27 => ⟨S1x16x4x4x128x256, .f32⟩
  | 28 => ⟨S_, .f32⟩
  | 29 => ⟨S1x16x4x4x128x256, .f32⟩
  | 30 => ⟨S1x16x4x4x128x256, .f32⟩
  | 31 => ⟨S128, .i32⟩
  | 32 => ⟨S128x1, .i32⟩
  | 33 => ⟨S_, .i32⟩
  | 34 => ⟨S128x1, .i32⟩
  | 35 => ⟨S128x1, .i32⟩
  | 36 => ⟨S256, .i32⟩
  | 37 => ⟨S1x256, .i32⟩
  | 38 => ⟨S128x256, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S128x256, .i32⟩
  | 46 => ⟨S128x256, .i1⟩
  | 47 => ⟨S128x256, .i1⟩
  | 48 => ⟨S4, .i32⟩
  | 49 => ⟨S4x1x1, .i32⟩
  | 50 => ⟨S_, .i32⟩
  | 51 => ⟨S4x1x1, .i32⟩
  | 52 => ⟨S4x1x1, .i1⟩
  | 53 => ⟨S256, .i32⟩
  | 54 => ⟨S1x1x256, .i32⟩
  | 55 => ⟨S_, .i32⟩
  | 56 => ⟨S1x1x256, .i32⟩
  | 57 => ⟨S1x1x256, .i1⟩
  | 58 => ⟨S4x1x256, .i1⟩
  | 59 => ⟨S4x1x256, .i1⟩
  | 60 => ⟨S4x1x256, .i1⟩
  | 61 => ⟨S1x128x256, .i1⟩
  | 62 => ⟨S4x1x256, .i1⟩
  | 63 => ⟨S4x128x256, .i1⟩
  | 64 => ⟨S4x128x256, .i1⟩
  | 65 => ⟨S4x128x256, .i1⟩
  | 66 => ⟨S_, .i32⟩
  | 67 => ⟨S128x256, .i32⟩
  | 68 => ⟨S128x256, .i32⟩
  | 69 => ⟨S_, .i32⟩
  | 70 => ⟨S128x256, .i32⟩
  | 71 => ⟨S128x256, .i32⟩
  | 72 => ⟨S128x256, .f32⟩
  | 73 => ⟨S_, .f32⟩
  | 74 => ⟨S1, .f32⟩
  | 75 => ⟨S_, .f32⟩
  | 76 => ⟨S1, .f32⟩
  | 77 => ⟨S_, .f32⟩
  | 78 => ⟨S1, .f32⟩
  | 79 => ⟨S_, .f32⟩
  | 80 => ⟨S1, .f32⟩
  | 81 => ⟨S4, .f32⟩
  | 82 => ⟨S4x1x1x1, .f32⟩
  | 83 => ⟨S4x1x1x1, .f32⟩
  | 84 => ⟨S1x1x128x256, .f32⟩
  | 85 => ⟨S4x1x128x256, .f32⟩
  | 86 => ⟨S4x1x128x256, .f32⟩
  | 87 => ⟨S4x1x128x256, .f32⟩
  | 88 => ⟨S1x1x4x1x128x256, .f32⟩
  | 89 => ⟨S1x16x4x4x128x256, .f32⟩
  | 90 => ⟨S1x16x4x4x128x256, .f32⟩
  | 91 => ⟨S_, .f32⟩
  | 92 => ⟨S_, .f32⟩
  | 93 => ⟨S1x16x4x4x128x256, .i1⟩
  | 94 => ⟨S1x16x4x4x128x256, .f32⟩
  | 95 => ⟨S1x16x4x4x128x256, .f32⟩
  | 96 => ⟨S_, .f32⟩
  | 97 => ⟨S1x16x4x4x128x256, .f32⟩
  | 98 => ⟨S_, .f32⟩
  | 99 => ⟨S1x16x4x4x128, .f32⟩
  | 100 => ⟨S1x16x4x4x128x1, .f32⟩
  | 101 => ⟨S1x16x4x4x128x256, .f32⟩
  | 102 => ⟨S1x16x4x4x128x256, .i1⟩
  | 103 => ⟨S1x16x4x4x128x256, .f32⟩
  | 104 => ⟨S_, .f32⟩
  | 105 => ⟨S1x16x4x4x128, .f32⟩
  | 106 => ⟨S1x16x4x4x128x1, .f32⟩
  | 107 => ⟨S1x16x4x4x128x256, .f32⟩
  | 108 => ⟨S1x16x4x4x128x256, .f32⟩
  | 109 => ⟨S1x16x4x4x128x256, .f32⟩
  | 110 => ⟨S_, .f32⟩
  | 111 => ⟨S1x16x4x4x128, .f32⟩
  | 112 => ⟨S1x16x4x4x128x1, .f32⟩
  | 113 => ⟨S1x16x4x4x128x64, .f32⟩
  | 114 => ⟨S1x16x4x4x128x64, .f32⟩
  | 115 => ⟨S1x16x4x4x128x64, .f32⟩
  | 116 => ⟨S1x16x4x4x128x1, .f32⟩
  | 117 => ⟨S_, .f32⟩
  | 118 => ⟨S1x16x4x4x128x1, .f32⟩
  | 119 => ⟨S1x16x4x4x128x1, .f32⟩
  | 120 => ⟨S1x16x4x4x128x1, .f32⟩
  | 121 => ⟨S1x16x4x4x128x1, .f32⟩
  | 122 => ⟨S1x16x4x4x128, .f32⟩
  | 123 => ⟨S1x4x128x16x4x64, .f32⟩
  | 124 => ⟨S1x8192x4x64, .f32⟩
  | 125 => ⟨S1x4x128x16x4, .f32⟩
  | 126 => ⟨S1x8192x4, .f32⟩
  | 127 => ⟨S512x16x256, .f32⟩
  | _ => ⟨S1x8192x4x64, .f32⟩

abbrev hbmTy0_1 (i : Nat) : BufTy := match i % 128 with
  | 0 => ⟨S16x512x256, .f32⟩
  | 1 => ⟨S512x16x256, .f32⟩
  | 2 => ⟨S16x512x256, .f32⟩
  | 3 => ⟨S512x16x256, .f32⟩
  | 4 => ⟨S16x512x256, .f32⟩
  | 5 => ⟨S16x512x768, .f32⟩
  | 6 => ⟨S16x512x768, .bf16⟩
  | 7 => ⟨S1x8192x4x64, .f32⟩
  | 8 => ⟨S_, .f32⟩
  | 9 => ⟨S1x8192x4, .f32⟩
  | 10 => ⟨S1x8192x4, .f32⟩
  | 11 => ⟨S512x16x256, .f32⟩
  | 12 => ⟨S16x512x256, .f32⟩
  | 13 => ⟨S16x512x256, .bf16⟩
  | 14 => ⟨S1x8192x4x1, .f32⟩
  | 15 => ⟨S1x8192x4x64, .f32⟩
  | 16 => ⟨S512x16x256, .f32⟩
  | 17 => ⟨S16x512x256, .f32⟩
  | 18 => ⟨S1x8192x4x1, .f32⟩
  | 19 => ⟨S1x8192x4x64, .f32⟩
  | 20 => ⟨S512x16x256, .f32⟩
  | 21 => ⟨S16x512x256, .f32⟩
  | 22 => ⟨S128x256, .i32⟩
  | 23 => ⟨S_, .i32⟩
  | 24 => ⟨S128x256, .i32⟩
  | 25 => ⟨S128x256, .i32⟩
  | 26 => ⟨S128x256, .i32⟩
  | 27 => ⟨S128x256, .i32⟩
  | 28 => ⟨S_, .i32⟩
  | 29 => ⟨S128x256, .i32⟩
  | 30 => ⟨S128x256, .i1⟩
  | 31 => ⟨S_, .i32⟩
  | 32 => ⟨S128x256, .i32⟩
  | 33 => ⟨S128x256, .i1⟩
  | 34 => ⟨S128x256, .i1⟩
  | 35 => ⟨S_, .i32⟩
  | 36 => ⟨S128x256, .i32⟩
  | 37 => ⟨S128x256, .i32⟩
  | 38 => ⟨S_, .i32⟩
  | 39 => ⟨S128x256, .i32⟩
  | 40 => ⟨S128x256, .i32⟩
  | 41 => ⟨S128x256, .f32⟩
  | 42 => ⟨S_, .f32⟩
  | 43 => ⟨S1, .f32⟩
  | 44 => ⟨S_, .f32⟩
  | 45 => ⟨S1, .f32⟩
  | 46 => ⟨S_, .f32⟩
  | 47 => ⟨S1, .f32⟩
  | 48 => ⟨S_, .f32⟩
  | 49 => ⟨S1, .f32⟩
  | 50 => ⟨S4, .f32⟩
  | 51 => ⟨S4x1x1, .f32⟩
  | 52 => ⟨S4x1x1, .f32⟩
  | 53 => ⟨S1x128x256, .f32⟩
  | 54 => ⟨S4x128x256, .f32⟩
  | 55 => ⟨S4x128x256, .f32⟩
  | 56 => ⟨S4x128x256, .f32⟩
  | 57 => ⟨S1x128x256, .i1⟩
  | 58 => ⟨S_, .f32⟩
  | 59 => ⟨S_, .f32⟩
  | 60 => ⟨S4x128x256, .i1⟩
  | 61 => ⟨S4x128x256, .f32⟩
  | 62 => ⟨S4x128x256, .f32⟩
  | 63 => ⟨S512x256, .f32⟩
  | 64 => ⟨S16x512x768, .bf16⟩
  | _ => ⟨S1x8192x4x64, .f32⟩

abbrev hbmTy (i : Nat) : BufTy := match i / 128 with
  | 0 => hbmTy0_0 i
  | 1 => hbmTy0_1 i
  | _ => ⟨S1x8192x4x64, .f32⟩

abbrev bufTy : (tb : Table) → Fin (tcTables nBuf tb) → BufTy
  | .hbm, ⟨i, _⟩ => hbmTy i
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x128x256, .bf16⟩
  | .local _ .vmem, ⟨17, _⟩ => ⟨S1x128x256, .bf16⟩
  | .local _ .vmem, ⟨18, _⟩ => ⟨S1x128x256, .bf16⟩
  | .local _ .vmem, ⟨19, _⟩ => ⟨S1x128x256, .bf16⟩
  | .local _ .vmem, ⟨20, _⟩ => ⟨S1x128x256, .f32⟩
  | .local _ .vmem, ⟨21, _⟩ => ⟨S1x128x256, .f32⟩
  | .local _ .vmem, ⟨22, _⟩ => ⟨S1x128x256, .f32⟩
  | .local _ .vmem, ⟨23, _⟩ => ⟨S1x128x256, .f32⟩
  | .local _ .vmem, ⟨24, _⟩ => ⟨S512x256, .f32⟩
  | .local _ .vmem, ⟨25, _⟩ => ⟨S1x512x768, .bf16⟩
  | .local _ .vmem, ⟨26, _⟩ => ⟨S1x512x768, .bf16⟩
  | .local _ .vmem, ⟨27, _⟩ => ⟨S640x256, .f32⟩
  | .local _ .vmem, ⟨28, _⟩ => ⟨S640x256, .f32⟩
  | _, _ => ⟨S1x8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_8 : Ref sig .tc := ⟨.hbm, 66, rfl⟩
abbrev main_v51 : Ref sig .tc := ⟨.hbm, 67, rfl⟩
abbrev main_v52 : Ref sig .tc := ⟨.hbm, 68, rfl⟩
abbrev main_c_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_call0_v0 : Ref sig .tc := ⟨.hbm, 92, rfl⟩
abbrev main_v70_1 : Ref sig .tc := ⟨.hbm, 93, rfl⟩
abbrev main_call0_v2 : Ref sig .tc := ⟨.hbm, 94, rfl⟩
abbrev main_v70_0 : Ref sig .tc := ⟨.hbm, 95, rfl⟩
abbrev main_call0_cst : Ref sig .tc := ⟨.hbm, 96, rfl⟩
abbrev main_v70_2 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_19 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_c_20 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_c_21 : Ref sig .tc := ⟨.hbm, 156, rfl⟩
abbrev main_v123 : Ref sig .tc := ⟨.hbm, 157, rfl⟩
abbrev main_v124 : Ref sig .tc := ⟨.hbm, 158, rfl⟩
abbrev main_c_22 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_c_23 : Ref sig .tc := ⟨.hbm, 163, rfl⟩
abbrev main_v128 : Ref sig .tc := ⟨.hbm, 164, rfl⟩
abbrev main_v129 : Ref sig .tc := ⟨.hbm, 165, rfl⟩
abbrev main_c_24 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_25 : Ref sig .tc := ⟨.hbm, 170, rfl⟩
abbrev main_v133 : Ref sig .tc := ⟨.hbm, 171, rfl⟩
abbrev main_cst_26 : Ref sig .tc := ⟨.hbm, 172, rfl⟩
abbrev main_v134 : Ref sig .tc := ⟨.hbm, 173, rfl⟩
abbrev main_cst_27 : Ref sig .tc := ⟨.hbm, 174, rfl⟩
abbrev main_v135 : Ref sig .tc := ⟨.hbm, 175, rfl⟩
abbrev main_cst_28 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_cst_29 : Ref sig .tc := ⟨.hbm, 186, rfl⟩
abbrev main_call1_v0 : Ref sig .tc := ⟨.hbm, 187, rfl⟩
abbrev main_call1_v1 : Ref sig .tc := ⟨.hbm, 188, rfl⟩
abbrev main_call1_v2 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c3_i32 : BitVec 32 := 3#32
  let v2 : BitVec 32 := Scalar.minsi v1 c3_i32
  let c0_i32 : BitVec 32 := 0#32
  let c0_i32_0 : BitVec 32 := 0#32
  ![arg0.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c3_i32 : BitVec 32 := 3#32
  let v2 : BitVec 32 := Scalar.minsi v1 c3_i32
  let c0_i32 : BitVec 32 := 0#32
  let c0_i32_0 : BitVec 32 := 0#32
  ![arg0.toNat, v2.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c3_i32 : BitVec 32 := 3#32
  let v2 : BitVec 32 := Scalar.minsi v1 c3_i32
  let c0_i32 : BitVec 32 := 0#32
  let c0_i32_0 : BitVec 32 := 0#32
  ![arg0.toNat, v2.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c3_i32 : BitVec 32 := 3#32
  let v2 : BitVec 32 := Scalar.minsi v1 c3_i32
  let c0_i32 : BitVec 32 := 0#32
  let c0_i32_0 : BitVec 32 := 0#32
  ![arg0.toNat, v2.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x8192x4x64 : Shape := ⟨4, ![1, 8192, 4, 64]⟩
abbrev S1x8192x4 : Shape := ⟨3, ![1, 8192, 4]⟩
abbrev S1x4x128x16x4x64 : Shape := ⟨6, ![1, 4, 128, 16, 4, 64]⟩
abbrev S1x16x4x4x128x64 : Shape := ⟨6, ![1, 16, 4, 4, 128, 64]⟩
abbrev S1x16x4x1x128x64 : Shape := ⟨6, ![1, 16, 4, 1, 128, 64]⟩
abbrev S_ : Shape := ⟨0, ![]⟩
abbrev S1x16x4x3x128x64 : Shape := ⟨6, ![1, 16, 4, 3, 128, 64]⟩
abbrev S1x16x4x4x256x64 : Shape := ⟨6, ![1, 16, 4, 4, 256, 64]⟩
abbrev S1x16x4x4x128x256 : Shape := ⟨6, ![1, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S1 : Shape := ⟨1, ![1]⟩
abbrev S4x1x1x1 : Shape := ⟨4, ![4, 1, 1, 1]⟩
abbrev S1x1x128x256 : Shape := ⟨4, ![1, 1, 128, 256]⟩
abbrev S4x1x128x256 : Shape := ⟨4, ![4, 1, 128, 256]⟩
abbrev S1x1x4x1x128x256 : Shape := ⟨6, ![1, 1, 4, 1, 128, 256]⟩
abbrev S1x16x4x4x128 : Shape := ⟨5, ![1, 16, 4, 4, 128]⟩
abbrev S1x16x4x4x128x1 : Shape := ⟨6, ![1, 16, 4, 4, 128, 1]⟩
abbrev S1x4x128x16x4 : Shape := ⟨5, ![1, 4, 128, 16, 4]⟩
abbrev S1x16x4x4x64x256 : Shape := ⟨6, ![1, 16, 4, 4, 64, 256]⟩
abbrev S16x4x4x128 : Shape := ⟨4, ![16, 4, 4, 128]⟩
abbrev S512x16x256 : Shape := ⟨3, ![512, 16, 256]⟩
abbrev S16x512x256 : Shape := ⟨3, ![16, 512, 256]⟩
abbrev S16x512x768 : Shape := ⟨3, ![16, 512, 768]⟩

abbrev nBuf : Space → Nat
  | .hbm => 200
  | .vmem => 0
  | .smem => 0
  | _ => 0

abbrev hbmTy0_0 (i : Nat) : BufTy := match i % 128 with
  | 0 => ⟨S1x8192x4x64, .f32⟩
  | 1 => ⟨S1x8192x4x64, .f32⟩
  | 2 => ⟨S1x8192x4x64, .f32⟩
  | 3 => ⟨S1x8192x4x64, .f32⟩
  | 4 => ⟨S1x8192x4, .f32⟩
  | 5 => ⟨S1x4x128x16x4x64, .f32⟩
  | 6 => ⟨S1x16x4x4x128x64, .f32⟩
  | 7 => ⟨S1x4x128x16x4x64, .f32⟩
  | 8 => ⟨S1x16x4x4x128x64, .f32⟩
  | 9 => ⟨S1x16x4x1x128x64, .f32⟩
  | 10 => ⟨S_, .f32⟩
  | 11 => ⟨S1x16x4x1x128x64, .f32⟩
  | 12 => ⟨S1x16x4x3x128x64, .f32⟩
  | 13 => ⟨S1x16x4x4x128x64, .f32⟩
  | 14 => ⟨S_, .f32⟩
  | 15 => ⟨S1x16x4x1x128x64, .f32⟩
  | 16 => ⟨S1x16x4x4x256x64, .f32⟩
  | 17 => ⟨S1x4x128x16x4x64, .f32⟩
  | 18 => ⟨S1x16x4x4x128x64, .f32⟩
  | 19 => ⟨S1x16x4x1x128x64, .f32⟩
  | 20 => ⟨S_, .f32⟩
  | 21 => ⟨S1x16x4x1x128x64, .f32⟩
  | 22 => ⟨S1x16x4x3x128x64, .f32⟩
  | 23 => ⟨S1x16x4x4x128x64, .f32⟩
  | 24 => ⟨S_, .f32⟩
  | 25 => ⟨S1x16x4x1x128x64, .f32⟩
  | 26 => ⟨S1x16x4x4x256x64, .f32⟩
  | 27 => ⟨S1x16x4x4x128x256, .f32⟩
  | 28 => ⟨S_, .f32⟩
  | 29 => ⟨S1x16x4x4x128x256, .f32⟩
  | 30 => ⟨S1x16x4x4x128x256, .f32⟩
  | 31 => ⟨S128, .i32⟩
  | 32 => ⟨S128x1, .i32⟩
  | 33 => ⟨S_, .i32⟩
  | 34 => ⟨S128x1, .i32⟩
  | 35 => ⟨S128x1, .i32⟩
  | 36 => ⟨S256, .i32⟩
  | 37 => ⟨S1x256, .i32⟩
  | 38 => ⟨S128x256, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S128x256, .i32⟩
  | 46 => ⟨S128x256, .i1⟩
  | 47 => ⟨S128x256, .i1⟩
  | 48 => ⟨S4, .i32⟩
  | 49 => ⟨S4x1x1, .i32⟩
  | 50 => ⟨S_, .i32⟩
  | 51 => ⟨S4x1x1, .i32⟩
  | 52 => ⟨S4x1x1, .i1⟩
  | 53 => ⟨S256, .i32⟩
  | 54 => ⟨S1x1x256, .i32⟩
  | 55 => ⟨S_, .i32⟩
  | 56 => ⟨S1x1x256, .i32⟩
  | 57 => ⟨S1x1x256, .i1⟩
  | 58 => ⟨S4x1x256, .i1⟩
  | 59 => ⟨S4x1x256, .i1⟩
  | 60 => ⟨S4x1x256, .i1⟩
  | 61 => ⟨S1x128x256, .i1⟩
  | 62 => ⟨S4x1x256, .i1⟩
  | 63 => ⟨S4x128x256, .i1⟩
  | 64 => ⟨S4x128x256, .i1⟩
  | 65 => ⟨S4x128x256, .i1⟩
  | 66 => ⟨S_, .i32⟩
  | 67 => ⟨S128x256, .i32⟩
  | 68 => ⟨S128x256, .i32⟩
  | 69 => ⟨S_, .i32⟩
  | 70 => ⟨S128x256, .i32⟩
  | 71 => ⟨S128x256, .i32⟩
  | 72 => ⟨S128x256, .f32⟩
  | 73 => ⟨S_, .f32⟩
  | 74 => ⟨S1, .f32⟩
  | 75 => ⟨S_, .f32⟩
  | 76 => ⟨S1, .f32⟩
  | 77 => ⟨S_, .f32⟩
  | 78 => ⟨S1, .f32⟩
  | 79 => ⟨S_, .f32⟩
  | 80 => ⟨S1, .f32⟩
  | 81 => ⟨S4, .f32⟩
  | 82 => ⟨S4x1x1x1, .f32⟩
  | 83 => ⟨S4x1x1x1, .f32⟩
  | 84 => ⟨S1x1x128x256, .f32⟩
  | 85 => ⟨S4x1x128x256, .f32⟩
  | 86 => ⟨S4x1x128x256, .f32⟩
  | 87 => ⟨S4x1x128x256, .f32⟩
  | 88 => ⟨S1x1x4x1x128x256, .f32⟩
  | 89 => ⟨S1x16x4x4x128x256, .f32⟩
  | 90 => ⟨S1x16x4x4x128x256, .f32⟩
  | 91 => ⟨S_, .f32⟩
  | 92 => ⟨S_, .f32⟩
  | 93 => ⟨S1x16x4x4x128x256, .i1⟩
  | 94 => ⟨S1x16x4x4x128x256, .f32⟩
  | 95 => ⟨S1x16x4x4x128x256, .f32⟩
  | 96 => ⟨S_, .f32⟩
  | 97 => ⟨S1x16x4x4x128x256, .f32⟩
  | 98 => ⟨S_, .f32⟩
  | 99 => ⟨S1x16x4x4x128, .f32⟩
  | 100 => ⟨S1x16x4x4x128x1, .f32⟩
  | 101 => ⟨S1x16x4x4x128x256, .f32⟩
  | 102 => ⟨S1x16x4x4x128x256, .i1⟩
  | 103 => ⟨S1x16x4x4x128x256, .f32⟩
  | 104 => ⟨S_, .f32⟩
  | 105 => ⟨S1x16x4x4x128, .f32⟩
  | 106 => ⟨S1x16x4x4x128x1, .f32⟩
  | 107 => ⟨S1x16x4x4x128x256, .f32⟩
  | 108 => ⟨S1x16x4x4x128x256, .f32⟩
  | 109 => ⟨S1x16x4x4x128x256, .f32⟩
  | 110 => ⟨S_, .f32⟩
  | 111 => ⟨S1x16x4x4x128, .f32⟩
  | 112 => ⟨S1x16x4x4x128x1, .f32⟩
  | 113 => ⟨S1x16x4x4x128x64, .f32⟩
  | 114 => ⟨S1x16x4x4x128x64, .f32⟩
  | 115 => ⟨S1x16x4x4x128x64, .f32⟩
  | 116 => ⟨S1x16x4x4x128x1, .f32⟩
  | 117 => ⟨S_, .f32⟩
  | 118 => ⟨S1x16x4x4x128x1, .f32⟩
  | 119 => ⟨S1x16x4x4x128x1, .f32⟩
  | 120 => ⟨S1x16x4x4x128x1, .f32⟩
  | 121 => ⟨S1x16x4x4x128x1, .f32⟩
  | 122 => ⟨S1x16x4x4x128, .f32⟩
  | 123 => ⟨S1x4x128x16x4x64, .f32⟩
  | 124 => ⟨S1x8192x4x64, .f32⟩
  | 125 => ⟨S1x4x128x16x4, .f32⟩
  | 126 => ⟨S1x8192x4, .f32⟩
  | 127 => ⟨S1x4x128x16x4, .f32⟩
  | _ => ⟨S1x8192x4x64, .f32⟩

abbrev hbmTy0_1 (i : Nat) : BufTy := match i % 128 with
  | 0 => ⟨S1x16x4x4x128, .f32⟩
  | 1 => ⟨S1x4x128x16x4x64, .f32⟩
  | 2 => ⟨S1x16x4x4x128x64, .f32⟩
  | 3 => ⟨S1x16x4x4x128x1, .f32⟩
  | 4 => ⟨S1x16x4x4x128x1, .f32⟩
  | 5 => ⟨S1x16x4x4x128x64, .f32⟩
  | 6 => ⟨S1x16x4x4x128x64, .f32⟩
  | 7 => ⟨S1x16x4x4x128x64, .f32⟩
  | 8 => ⟨S_, .f32⟩
  | 9 => ⟨S1x16x4x4x128, .f32⟩
  | 10 => ⟨S1x16x4x4x128x1, .f32⟩
  | 11 => ⟨S1x16x4x4x128x1, .f32⟩
  | 12 => ⟨S1x16x4x4x128x1, .f32⟩
  | 13 => ⟨S1x16x4x4x128x64, .f32⟩
  | 14 => ⟨S1x16x4x4x128x64, .f32⟩
  | 15 => ⟨S1x16x4x4x64x256, .f32⟩
  | 16 => ⟨S1x16x4x4x256x64, .f32⟩
  | 17 => ⟨S1x16x4x4x128x256, .f32⟩
  | 18 => ⟨S_, .f32⟩
  | 19 => ⟨S16x4x4x128, .f32⟩
  | 20 => ⟨S1x16x4x4x128, .f32⟩
  | 21 => ⟨S1x16x4x4x128x256, .f32⟩
  | 22 => ⟨S1x16x4x4x128x256, .f32⟩
  | 23 => ⟨S1x16x4x4x128x256, .f32⟩
  | 24 => ⟨S1x16x4x4x128x256, .f32⟩
  | 25 => ⟨S_, .f32⟩
  | 26 => ⟨S1x16x4x4x128, .f32⟩
  | 27 => ⟨S1x16x4x4x128x1, .f32⟩
  | 28 => ⟨S1x16x4x4x128x1, .f32⟩
  | 29 => ⟨S_, .f32⟩
  | 30 => ⟨S16x4x4x128, .f32⟩
  | 31 => ⟨S1x16x4x4x128, .f32⟩
  | 32 => ⟨S1x16x4x4x128, .f32⟩
  | 33 => ⟨S1x16x4x4x128x256, .f32⟩
  | 34 => ⟨S1x16x4x4x128x256, .f32⟩
  | 35 => ⟨S1x16x4x4x128x256, .f32⟩
  | 36 => ⟨S_, .f32⟩
  | 37 => ⟨S1x16x4x4x128x256, .f32⟩
  | 38 => ⟨S1x16x4x4x128x256, .f32⟩
  | 39 => ⟨S_, .f32⟩
  | 40 => ⟨S1x16x4x4x128x256, .f32⟩
  | 41 => ⟨S1x16x4x4x128x256, .f32⟩
  | 42 => ⟨S1x16x4x4x256x64, .f32⟩
  | 43 => ⟨S1x16x4x4x128x64, .f32⟩
  | 44 => ⟨S1x16x4x4x128x64, .f32⟩
  | 45 => ⟨S1x16x4x4x128x64, .f32⟩
  | 46 => ⟨S1x16x4x1x128x64, .f32⟩
  | 47 => ⟨S1x16x4x3x128x64, .f32⟩
  | 48 => ⟨S_, .f32⟩
  | 49 => ⟨S1x16x4x4x128x64, .f32⟩
  | 50 => ⟨S1x16x4x4x128x64, .f32⟩
  | 51 => ⟨S1x4x128x16x4x64, .f32⟩
  | 52 => ⟨S1x8192x4x64, .f32⟩
  | 53 => ⟨S1x16x4x4x128x64, .f32⟩
  | 54 => ⟨S1x16x4x4x128x64, .f32⟩
  | 55 => ⟨S1x16x4x1x128x64, .f32⟩
  | 56 => ⟨S1x16x4x3x128x64, .f32⟩
  | 57 => ⟨S_, .f32⟩
  | 58 => ⟨S1x16x4x4x128x64, .f32⟩
  | 59 => ⟨S1x16x4x4x128x64, .f32⟩
  | 60 => ⟨S1x4x128x16x4x64, .f32⟩
  | 61 => ⟨S1x8192x4x64, .f32⟩
  | 62 => ⟨S1x4x128x16x4x64, .f32⟩
  | 63 => ⟨S1x8192x4x64, .f32⟩
  | 64 => ⟨S512x16x256, .f32⟩
  | 65 => ⟨S16x512x256, .f32⟩
  | 66 => ⟨S512x16x256, .f32⟩
  | 67 => ⟨S16x512x256, .f32⟩
  | 68 => ⟨S512x16x256, .f32⟩
  | 69 => ⟨S16x512x256, .f32⟩
  | 70 => ⟨S16x512x768, .f32⟩
  | 71 => ⟨S16x512x768, .bf16⟩
  | _ => ⟨S1x8192x4x64, .f32⟩

abbrev hbmTy (i : Nat) : BufTy := match i / 128 with
  | 0 => hbmTy0_0 i
  | 1 => hbmTy0_1 i
  | _ => ⟨S1x8192x4x64, .f32⟩

abbrev bufTy : (tb : Table) → Fin (tcTables nBuf tb) → BufTy
  | .hbm, ⟨i, _⟩ => hbmTy i
  | _, _ => ⟨S1x8192x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_8 : Ref sig .tc := ⟨.hbm, 66, rfl⟩
abbrev main_v51 : Ref sig .tc := ⟨.hbm, 67, rfl⟩
abbrev main_v52 : Ref sig .tc := ⟨.hbm, 68, rfl⟩
abbrev main_c_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_call0_v0 : Ref sig .tc := ⟨.hbm, 92, rfl⟩
abbrev main_v70_1 : Ref sig .tc := ⟨.hbm, 93, rfl⟩
abbrev main_call0_v2 : Ref sig .tc := ⟨.hbm, 94, rfl⟩
abbrev main_v70_0 : Ref sig .tc := ⟨.hbm, 95, rfl⟩
abbrev main_call0_cst : Ref sig .tc := ⟨.hbm, 96, rfl⟩
abbrev main_v70_2 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_19 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_20 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_21 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_22 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_call1_cst : Ref sig .tc := ⟨.hbm, 164, rfl⟩
abbrev main_call1_v0 : Ref sig .tc := ⟨.hbm, 165, rfl⟩
abbrev main_v129 : Ref sig .tc := ⟨.hbm, 166, rfl⟩
abbrev main_cst_23 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_24 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_cst_25 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩

abbrev nD : Nat := 1
abbrev τ : Topo := Topo.v7x

variable {F : FTy → Type} [FloatOps F]
-- ==== GateUp.lean ====
abbrev S8192x5632 : Shape := ⟨2, ![8192, 5632]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .f32⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== GateUpRefIdeal.lean ====
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .f32⟩
  | .hbm, ⟨11, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Down.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In.lean ====
abbrev S8192x5376 : Shape := ⟨2, ![8192, 5376]⟩
abbrev S8192x1024 : Shape := ⟨2, ![8192, 1024]⟩
abbrev S5376x1024 : Shape := ⟨2, ![5376, 1024]⟩
abbrev S2048x1792 : Shape := ⟨2, ![2048, 1792]⟩
abbrev S2048x1024 : Shape := ⟨2, ![2048, 1024]⟩
abbrev S1792x1024 : Shape := ⟨2, ![1792, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x5376, .bf16⟩
  | .hbm, ⟨1, _⟩ => ⟨S8192x1024, .bf16⟩
  | .hbm, ⟨2, _⟩ => ⟨S5376x1024, .f32⟩
  | .hbm, ⟨3, _⟩ => ⟨S5376x1024, .bf16⟩
  | .local _ .vmem, ⟨0, _⟩ => ⟨S2048x1792, .bf16⟩
  | .local _ .vmem, ⟨1, _⟩ => ⟨S2048x1792, .bf16⟩
  | .local _ .vmem, ⟨2, _⟩ => ⟨S2048x1024, .bf16⟩
  | .local _ .vmem, ⟨3, _⟩ => ⟨S2048x1024, .bf16⟩
  | .local _ .vmem, ⟨4, _⟩ => ⟨S1792x1024, .f32⟩
  | .local _ .vmem, ⟨5, _⟩ => ⟨S1792x1024, .f32⟩
  | .local _ .vmem, ⟨6, _⟩ => ⟨S1792x1024, .bf16⟩
  | .local _ .vmem, ⟨7, _⟩ => ⟨S1792x1024, .bf16⟩
  | _, _ => ⟨S8192x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1792x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== InRefIdeal.lean ====
abbrev S8192x5376 : Shape := ⟨2, ![8192, 5376]⟩
abbrev S8192x1024 : Shape := ⟨2, ![8192, 1024]⟩
abbrev S_ : Shape := ⟨0, ![]⟩
abbrev S1024x5376 : Shape := ⟨2, ![1024, 5376]⟩
abbrev S5376x1024 : Shape := ⟨2, ![5376, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x5376, .bf16⟩
  | .hbm, ⟨1, _⟩ => ⟨S8192x1024, .bf16⟩
  | .hbm, ⟨2, _⟩ => ⟨S_, .f32⟩
  | .hbm, ⟨3, _⟩ => ⟨S1024x5376, .f32⟩
  | .hbm, ⟨4, _⟩ => ⟨S8192x1024, .f32⟩
  | .hbm, ⟨5, _⟩ => ⟨S8192x5376, .f32⟩
  | .hbm, ⟨6, _⟩ => ⟨S8192x5376, .f32⟩
  | .hbm, ⟨7, _⟩ => ⟨S5376x1024, .f32⟩
  | .hbm, ⟨8, _⟩ => ⟨S1024x5376, .f32⟩
  | .hbm, ⟨9, _⟩ => ⟨S5376x1024, .f32⟩
  | .hbm, ⟨10, _⟩ => ⟨S5376x1024, .f32⟩
  | .hbm, ⟨11, _⟩ => ⟨S5376x1024, .bf16⟩
  | _, _ => ⟨S8192x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Ffn.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S8192x2816 : Shape := ⟨2, ![8192, 2816]⟩
abbrev S8192x5632 : Shape := ⟨2, ![8192, 5632]⟩
abbrev S1x128 : Shape := ⟨2, ![1, 128]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S256x256 : Shape := ⟨2, ![256, 256]⟩
abbrev S1024 : Shape := ⟨1, ![1024]⟩
abbrev S1 : Shape := ⟨1, ![1]⟩
abbrev S1x1 : Shape := ⟨2, ![1, 1]⟩

abbrev nBuf : Space → Nat
  | .hbm => 18
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S2816x1024, .f32⟩
  | .hbm, ⟨6, _⟩ => ⟨S5632x1024, .f32⟩
  | .hbm, ⟨7, _⟩ => ⟨S5632x1024, .bf16⟩
  | .hbm, ⟨8, _⟩ => ⟨S2816x1024, .bf16⟩
  | .hbm, ⟨9, _⟩ => ⟨S8192x1024, .bf16⟩
  | .hbm, ⟨10, _⟩ => ⟨S8192x2816, .bf16⟩
  | .hbm, ⟨11, _⟩ => ⟨S8192x5632, .bf16⟩
  | .hbm, ⟨12, _⟩ => ⟨S8192x1024, .bf16⟩
  | .hbm, ⟨13, _⟩ => ⟨S8192x1024, .f32⟩
  | .hbm, ⟨14, _⟩ => ⟨S8192x1024, .bf16⟩
  | .hbm, ⟨15, _⟩ => ⟨S1x1024, .f32⟩
  | .hbm, ⟨16, _⟩ => ⟨S1x1024, .f32⟩
  | .hbm, ⟨17, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S5632x1024, .bf16⟩
  | .local _ .vmem, ⟨7, _⟩ => ⟨S2816x1024, .bf16⟩
  | .local _ .vmem, ⟨8, _⟩ => ⟨S256x1024, .bf16⟩
  | .local _ .vmem, ⟨9, _⟩ => ⟨S256x1024, .bf16⟩
  | .local _ .vmem, ⟨10, _⟩ => ⟨S256x2816, .bf16⟩
  | .local _ .vmem, ⟨11, _⟩ => ⟨S256x2816, .bf16⟩
  | .local _ .vmem, ⟨12, _⟩ => ⟨S256x5632, .bf16⟩
  | .local _ .vmem, ⟨13, _⟩ => ⟨S256x5632, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | .local _ .vmem, ⟨21, _⟩ => ⟨S1x1024, .f32⟩
  | .local _ .vmem, ⟨22, _⟩ => ⟨S1x128, .f32⟩
  | .local _ .vmem, ⟨23, _⟩ => ⟨S256x5632, .f32⟩
  | .local _ .vmem, ⟨24, _⟩ => ⟨S256x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev main_v3_7 : Ref sig .tc := ⟨.hbm, 16, rfl⟩
abbrev main_v3_8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FfnRefIdeal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S1x128 : Shape := ⟨2, ![1, 128]⟩

abbrev nBuf : Space → Nat
  | .hbm => 154
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1024x5632, .f32⟩
  | 5 => ⟨S2816x1024, .f32⟩
  | 6 => ⟨S_, .f32⟩
  | 7 => ⟨S8192x5632, .f32⟩
  | 8 => ⟨S_, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S8192x1024, .f32⟩
  | 29 => ⟨S8192x5632, .f32⟩
  | 30 => ⟨S8192x5632, .f32⟩
  | 31 => ⟨S8192x2816, .f32⟩
  | 32 => ⟨S8192x2816, .f32⟩
  | 33 => ⟨S8192x2816, .f32⟩
  | 34 => ⟨S8192x2816, .f32⟩
  | 35 => ⟨S_, .f32⟩
  | 36 => ⟨S8192x2816, .f32⟩
  | 37 => ⟨S8192x2816, .f32⟩
  | 38 => ⟨S_, .f32⟩
  | 39 => ⟨S8192x2816, .f32⟩
  | 40 => ⟨S8192x2816, .f32⟩
  | 41 => ⟨S_, .f32⟩
  | 42 => ⟨S8192x2816, .f32⟩
  | 43 => ⟨S8192x2816, .f32⟩
  | 44 => ⟨S8192x2816, .f32⟩
  | 45 => ⟨S8192x2816, .f32⟩
  | 46 => ⟨S8192x2816, .f32⟩
  | 47 => ⟨S8192x1024, .f32⟩
  | 48 => ⟨S8192x1024, .f32⟩
  | 49 => ⟨S8192x1024, .f32⟩
  | 50 => ⟨S8192x1024, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S_, .f32⟩
  | 75 => ⟨S8192, .f32⟩
  | 76 => ⟨S_, .f32⟩
  | 77 => ⟨S8192, .f32⟩
  | 78 => ⟨S8192, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S8192, .f32⟩
  | 87 => ⟨S_, .f32⟩
  | 88 => ⟨S8192, .f32⟩
  | 89 => ⟨S8192, .f32⟩
  | 90 => ⟨S8192x1024, .f32⟩
  | 91 => ⟨S8192x1024, .f32⟩
  | 92 => ⟨S8192x1024, .f32⟩
  | 93 => ⟨S_, .f32⟩
  | 94 => ⟨S1024, .f32⟩
  | 95 => ⟨S1x1024, .f32⟩
  | 96 => ⟨S8192x1024, .f32⟩
  | 97 => ⟨S8192x1024, .f32⟩
  | 98 => ⟨S8192x1024, .f32⟩
  | 99 => ⟨S_, .f32⟩
  | 100 => ⟨S8192, .f32⟩
  | 101 => ⟨S8192x1, .f32⟩
  | 102 => ⟨S8192x1024, .f32⟩
  | 103 => ⟨S8192x1024, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x2816, .f32⟩
  | 116 => ⟨S8192x2816, .f32⟩
  | 117 => ⟨S8192x2816, .f32⟩
  | 118 => ⟨S8192x2816, .f32⟩
  | 119 => ⟨S8192x2816, .f32⟩
  | 120 => ⟨S8192x2816, .f32⟩
  | 121 => ⟨S8192x2816, .f32⟩
  | 122 => ⟨S8192x5632, .f32⟩
  | 123 => ⟨S8192x1024, .f32⟩
  | 124 => ⟨S8192x1024, .f32⟩
  | 125 => ⟨S_, .f32⟩
  | 126 => ⟨S1024, .f32⟩
  | 127 => ⟨S1x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S8192, .f32⟩
  | 5 => ⟨S8192x1, .f32⟩
  | 6 => ⟨S8192x1024, .f32⟩
  | 7 => ⟨S8192x1024, .f32⟩
  | 8 => ⟨S8192x1024, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .bf16⟩
  | 21 => ⟨S8192x2816, .bf16⟩
  | 22 => ⟨S8192x5632, .bf16⟩
  | 23 => ⟨S8192x1024, .bf16⟩
  | 24 => ⟨S8192x1024, .bf16⟩
  | 25 => ⟨S1x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v21_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v21_1 : Ref sig .tc := ⟨.hbm, 44, rfl⟩
abbrev main_v21_0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_cst_6 : Ref sig .tc := ⟨.hbm, 54, rfl⟩
abbrev main_v29 : Ref sig .tc := ⟨.hbm, 55, rfl⟩
abbrev main_v30 : Ref sig .tc := ⟨.hbm, 56, rfl⟩
abbrev main_cst_7 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_cst_11 : Ref sig .tc := ⟨.hbm, 76, rfl⟩
abbrev main_v46 : Ref sig .tc := ⟨.hbm, 77, rfl⟩
abbrev main_v47 : Ref sig .tc := ⟨.hbm, 78, rfl⟩
abbrev main_cst_12 : Ref sig .tc := ⟨.hbm, 79, rfl⟩
abbrev main_v48 : Ref sig .tc := ⟨.hbm, 80, rfl⟩
abbrev main_cst_13 : Ref sig .tc := ⟨.hbm, 81, rfl⟩
abbrev main_v49 : Ref sig .tc := ⟨.hbm, 82, rfl⟩
abbrev main_cst_14 : Ref sig .tc := ⟨.hbm, 83, rfl⟩
abbrev main_cst_15 : Ref sig .tc := ⟨.hbm, 84, rfl⟩
abbrev main_v50 : Ref sig .tc := ⟨.hbm, 85, rfl⟩
abbrev main_v51 : Ref sig .tc := ⟨.hbm, 86, rfl⟩
abbrev main_cst_16 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_17 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_18 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_19 : Ref sig .tc := ⟨.hbm, 105, rfl⟩
abbrev main_v67 : Ref sig .tc := ⟨.hbm, 106, rfl⟩
abbrev main_v68 : Ref sig .tc := ⟨.hbm, 107, rfl⟩
abbrev main_cst_20 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_21 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_22 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_23 : Ref sig .tc := ⟨.hbm, 138, rfl⟩
abbrev main_v93 : Ref sig .tc := ⟨.hbm, 139, rfl⟩
abbrev main_v94 : Ref sig .tc := ⟨.hbm, 140, rfl⟩
abbrev main_cst_24 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩

abbrev nD : Nat := 1
abbrev τ : Topo := Topo.v7x

variable {F : FTy → Type} [FloatOps F]
-- ==== Mix.lean ====
abbrev S1x8192x768 : Shape := ⟨3, ![1, 8192, 768]⟩
abbrev S4x2048x768 : Shape := ⟨3, ![4, 2048, 768]⟩
abbrev S16x512x768 : Shape := ⟨3, ![16, 512, 768]⟩
abbrev S8192x1024 : Shape := ⟨2, ![8192, 1024]⟩
abbrev S8192x2048 : Shape := ⟨2, ![8192, 2048]⟩
abbrev S1x1024 : Shape := ⟨2, ![1, 1024]⟩
abbrev S1024x5376 : Shape := ⟨2, ![1024, 5376]⟩
abbrev S5376x1024 : Shape := ⟨2, ![5376, 1024]⟩
abbrev S8192x5376 : Shape := ⟨2, ![8192, 5376]⟩
abbrev S1x512x768 : Shape := ⟨3, ![1, 512, 768]⟩
abbrev S4x128x768 : Shape := ⟨3, ![4, 128, 768]⟩
abbrev S16x32x768 : Shape := ⟨3, ![16, 32, 768]⟩
abbrev S512x1024 : Shape := ⟨2, ![512, 1024]⟩
abbrev S512x2048 : Shape := ⟨2, ![512, 2048]⟩
abbrev S512x5376 : Shape := ⟨2, ![512, 5376]⟩
abbrev S6x512x128 : Shape := ⟨3, ![6, 512, 128]⟩
abbrev S512x768 : Shape := ⟨2, ![512, 768]⟩
abbrev S512x256 : Shape := ⟨2, ![512, 256]⟩
abbrev S1x128x128 : Shape := ⟨3, ![1, 128, 128]⟩
abbrev S128x128 : Shape := ⟨2, ![128, 128]⟩
abbrev S1x512x128 : Shape := ⟨3, ![1, 512, 128]⟩
abbrev S512x128 : Shape := ⟨2, ![512, 128]⟩
abbrev S1x32x128 : Shape := ⟨3, ![1, 32, 128]⟩
abbrev S32x128 : Shape := ⟨2, ![32, 128]⟩
abbrev S512 : Shape := ⟨1, ![512]⟩
abbrev S512x1 : Shape := ⟨2, ![512, 1]⟩
abbrev S1024 : Shape := ⟨1, ![1024]⟩

abbrev nBuf : Space → Nat
  | .hbm => 14
  | .vmem => 22
  | .smem => 0
  | _ => 0

abbrev bufTy : (tb : Table) → Fin (tcTables nBuf tb) → BufTy
  | .hbm, ⟨0, _⟩ => ⟨S1x8192x768, .bf16⟩
  | .hbm, ⟨1, _⟩ => ⟨S4x2048x768, .bf16⟩
  | .hbm, ⟨2, _⟩ => ⟨S16x512x768, .bf16⟩
  | .hbm, ⟨3, _⟩ => ⟨S8192x1024, .bf16⟩
  | .hbm, ⟨4, _⟩ => ⟨S8192x2048, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1024x5376, .f32⟩
  | .hbm, ⟨9, _⟩ => ⟨S5376x1024, .f32⟩
  | .hbm, ⟨10, _⟩ => ⟨S5376x1024, .bf16⟩
  | .hbm, ⟨11, _⟩ => ⟨S8192x1024, .f32⟩
  | .hbm, ⟨12, _⟩ => ⟨S8192x5376, .bf16⟩
  | .hbm, ⟨13, _⟩ => ⟨S1x1024, .f32⟩
  | .local _ .vmem, ⟨0, _⟩ => ⟨S1x512x768, .bf16⟩
  | .local _ .vmem, ⟨1, _⟩ => ⟨S1x512x768, .bf16⟩
  | .local _ .vmem, ⟨2, _⟩ => ⟨S4x128x768, .bf16⟩
  | .local _ .vmem, ⟨3, _⟩ => ⟨S4x128x768, .bf16⟩
  | .local _ .vmem, ⟨4, _⟩ => ⟨S16x32x768, .bf16⟩
  | .local _ .vmem, ⟨5, _⟩ => ⟨S16x32x768, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S5376x1024, .bf16⟩
  | .local _ .vmem, ⟨16, _⟩ => ⟨S512x1024, .f32⟩
  | .local _ .vmem, ⟨17, _⟩ => ⟨S512x1024, .f32⟩
  | .local _ .vmem, ⟨18, _⟩ => ⟨S512x5376, .bf16⟩
  | .local _ .vmem, ⟨19, _⟩ => ⟨S512x5376, .bf16⟩
  | .local _ .vmem, ⟨20, _⟩ => ⟨S1x1024, .f32⟩
  | .local _ .vmem, ⟨21, _⟩ => ⟨S6x512x128, .f32⟩
  | _, _ => ⟨S1x8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5376x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x5376 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixRefIdeal.lean ====
abbrev S1x8192x768 : Shape := ⟨3, ![1, 8192, 768]⟩
abbrev S4x2048x768 : Shape := ⟨3, ![4, 2048, 768]⟩
abbrev S16x512x768 : Shape := ⟨3, ![16, 512, 768]⟩
abbrev S8192x1024 : Shape := ⟨2, ![8192, 1024]⟩
abbrev S8192x2048 : Shape := ⟨2, ![8192, 2048]⟩
abbrev S1x1024 : Shape := ⟨2, ![1, 1024]⟩
abbrev S1024x5376 : Shape := ⟨2, ![1024, 5376]⟩
abbrev S8192x1x768 : Shape := ⟨3, ![8192, 1, 768]⟩
abbrev S8192x3x256 : Shape := ⟨3, ![8192, 3, 256]⟩
abbrev S2048x4x768 : Shape := ⟨3, ![2048, 4, 768]⟩
abbrev S512x16x768 : Shape := ⟨3, ![512, 16, 768]⟩
abbrev S8192x1x256 : Shape := ⟨3, ![8192, 1, 256]⟩
abbrev S8192x256 : Shape := ⟨2, ![8192, 256]⟩
abbrev S8192x5376 : Shape := ⟨2, ![8192, 5376]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 85
  | .vmem => 0
  | .smem => 0
  | _ => 0

abbrev bufTy : (tb : Table) → Fin (tcTables nBuf tb) → BufTy
  | .hbm, ⟨0, _⟩ => ⟨S1x8192x768, .bf16⟩
  | .hbm, ⟨1, _⟩ => ⟨S4x2048x768, .bf16⟩
  | .hbm, ⟨2, _⟩ => ⟨S16x512x768, .bf16⟩
  | .hbm, ⟨3, _⟩ => ⟨S8192x1024, .bf16⟩
  | .hbm, ⟨4, _⟩ => ⟨S8192x2048, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1024x5376, .f32⟩
  | .hbm, ⟨9, _⟩ => ⟨S1x8192x768, .f32⟩
  | .hbm, ⟨10, _⟩ => ⟨S8192x1x768, .f32⟩
  | .hbm, ⟨11, _⟩ => ⟨S8192x3x256, .f32⟩
  | .hbm, ⟨12, _⟩ => ⟨S4x2048x768, .f32⟩
  | .hbm, ⟨13, _⟩ => ⟨S2048x4x768, .f32⟩
  | .hbm, ⟨14, _⟩ => ⟨S8192x3x256, .f32⟩
  | .hbm, ⟨15, _⟩ => ⟨S16x512x768, .f32⟩
  | .hbm, ⟨16, _⟩ => ⟨S512x16x768, .f32⟩
  | .hbm, ⟨17, _⟩ => ⟨S8192x3x256, .f32⟩
  | .hbm, ⟨18, _⟩ => ⟨S8192x1x256, .f32⟩
  | .hbm, ⟨19, _⟩ => ⟨S8192x256, .f32⟩
  | .hbm, ⟨20, _⟩ => ⟨S8192x1x256, .f32⟩
  | .hbm, ⟨21, _⟩ => ⟨S8192x256, .f32⟩
  | .hbm, ⟨22, _⟩ => ⟨S8192x1x256, .f32⟩
  | .hbm, ⟨23, _⟩ => ⟨S8192x256, .f32⟩
  | .hbm, ⟨24, _⟩ => ⟨S8192x1x256, .f32⟩
  | .hbm, ⟨25, _⟩ => ⟨S8192x256, .f32⟩
  | .hbm, ⟨26, _⟩ => ⟨S8192x1x256, .f32⟩
  | .hbm, ⟨27, _⟩ => ⟨S8192x256, .f32⟩
  | .hbm, ⟨28, _⟩ => ⟨S8192x1x256, .f32⟩
  | .hbm, ⟨29, _⟩ => ⟨S8192x256, .f32⟩
  | .hbm, ⟨30, _⟩ => ⟨S8192x1x256, .f32⟩
  | .hbm, ⟨31, _⟩ => ⟨S8192x256, .f32⟩
  | .hbm, ⟨32, _⟩ => ⟨S8192x1x256, .f32⟩
  | .hbm, ⟨33, _⟩ => ⟨S8192x256, .f32⟩
  | .hbm, ⟨34, _⟩ => ⟨S8192x1x256, .f32⟩
  | .hbm, ⟨35, _⟩ => ⟨S8192x256, .f32⟩
  | .hbm, ⟨36, _⟩ => ⟨S8192x1024, .f32⟩
  | .hbm, ⟨37, _⟩ => ⟨S8192x2048, .f32⟩
  | .hbm, ⟨38, _⟩ => ⟨S8192x5376, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x5376, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x5376, .bf16⟩
  | _, _ => ⟨S1x8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_4 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Proof.Blocks.lean ====
module

public import Idealize.ShloMosaic.PureOps.Ideal

@[expose] public section

noncomputable section

namespace Cert.Blocks

/-- A sum over 8192 rows, taken in four runs of 2048 rows added one after the other, is the sum over all the rows. -/
theorem rows (f : Fin 8192 → EReal) (s : Fin 4 → EReal)
    (h : ∀ k : Fin 4, s k = ∑ i : Fin 2048, f ⟨2048 * k.val + i.val, by omega⟩) :
    s 0 + s 1 + s 2 + s 3 = ∑ i, f i := by
  rw [← Fin.sum_univ_four, ← Equiv.sum_comp (finProdFinEquiv (m := 4) (n := 2048)) f, Fintype.sum_prod_type]
  refine Finset.sum_congr rfl fun k _ => (h k).trans (Finset.sum_congr rfl fun i _ => congrArg f (Fin.ext ?_))
  exact Nat.add_comm _ _

/-- An accumulator over grid points in fours: the first point of each four sets it to its own part, the others add
    theirs. If the parts of a four are the four runs of rows of `f`, the last point leaves the sum over all the rows. -/
theorem last {N : ℕ} (o p : Fin N → EReal) (first : ∀ t : Fin N, t.val % 4 = 0 → o t = p t)
    (later : ∀ t : Fin N, ¬t.val % 4 = 0 → o t = o ⟨t.val - 1, Nat.lt_of_le_of_lt (Nat.sub_le _ _) t.isLt⟩ + p t)
    (f : Fin 8192 → EReal) (t : Fin N) (h : t.val % 4 = 3)
    (hp : ∀ u : Fin N, u.val / 4 = t.val / 4 → p u = ∑ i : Fin 2048, f ⟨2048 * (u.val % 4) + i.val, by omega⟩) :
    o t = ∑ i, f i := by
  obtain ⟨n, hn⟩ := t
  dsimp only at h hp
  let u (k : Fin 4) : Fin N := ⟨n - (3 - k.val), by omega⟩
  have e0 := first (u 0) (show (n - 3) % 4 = 0 by omega)
  have e1 := later (u 1) (show ¬(n - 2) % 4 = 0 by omega)
  have e2 := later (u 2) (show ¬(n - 1) % 4 = 0 by omega)
  have e3 := later (u 3) (show ¬(n - 0) % 4 = 0 by omega)
  refine (e3.trans (congrArg (· + _) (e2.trans (congrArg (· + _) (e1.trans (congrArg (· + _) e0)))))).trans ?_
  refine rows f (fun k => p (u k)) fun k => (hp (u k) (show (n - (3 - k.val)) / 4 = n / 4 by omega)).trans ?_
  refine Finset.sum_congr rfl fun i _ => congrArg f (Fin.ext ?_)
  show 2048 * ((n - (3 - k.val)) % 4) + i.val = 2048 * k.val + i.val
  omega

end Cert.Blocks

end
-- ==== Proof.GateUpDw.lean ====
module

public import proofs.«01_k».proof.Proof.Gen.GateUpIdeal.Value
public import proofs.«01_k».proof.Proof.Gen.GateUpRefIdeal.Run
public import proofs.«01_k».proof.Proof.Blocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.GateUpIdeal.Dw

open Cert.GateUpIdeal Cert.GateUpIdeal.Gen

/-! The gradient of the gate and up weights: the rows' products summed over the 8192 rows. -/

/-- The gradient at an element: the sum over the rows of the cotangent's entry times the input's. -/
def grad (a : S8192x5632.Idx → EReal) (b : S8192x1024.Idx → EReal) (x : S5632x1024.Idx) : EReal :=
  ∑ i : Fin 8192, a (ix2 i (x 0)) * b (ix2 i (x 1))

variable (m : (ℓ : Loc nD τ sig) → Buf (Elt Ideal) ℓ) (c : Dev nD)

/-- The product of a point's two blocks at an element. -/
def part (t : Fin cfg0.N) (x : S1408x1024.Idx) : EReal :=
  ∑ i : Fin 2048, (id (iblk m c 0 t (ix2 i (x 0))) : EReal) * (id (iblk m c 1 t (ix2 i (x 1))) : EReal)

/-- The first point over a block of weights leaves its own product. -/
theorem first (t : Fin cfg0.N) (h0 : t.val % 4 = 0) (x : S1408x1024.Idx) :
    (outsAt0 m c t.val t.isLt).1 x = part m c t x := by
  rw [outsAt0_A m c t h0 (by omega)]
  dsimp only
  frame_out
  pointwise [k0_pay2, k0_pay1]
  rfl

/-- Each later point adds its product to what the point before left. -/
theorem later (t : Fin cfg0.N) (h0 : ¬t.val % 4 = 0) (x : S1408x1024.Idx) :
    (outsAt0 m c t.val t.isLt).1 x = (outsAt0 m c (t.val - 1) (Nat.lt_of_le_of_lt (Nat.sub_le _ _) t.isLt)).1 x + part m c t x := by
  by_cases h1 : t.val % 4 = 3
  · rw [outsAt0_C m c t h0 h1]
    dsimp only
    frame_out
    pointwise [k0_pay2]
    rfl
  · rw [outsAt0_B m c t h0 h1]
    dsimp only
    frame_out
    pointwise [k0_pay2]
    rfl

/-- The last point over a block of weights writes the narrow copy. -/
theorem copy (t : Fin cfg0.N) (h1 : t.val % 4 = 3) (x : S1408x1024.Idx) :
    (outsAt0 m c t.val t.isLt).2 x = (outsAt0 m c t.val t.isLt).1 x := by
  rw [outsAt0_C m c t (by omega) h1]
  dsimp only
  frame_out
  pointwise [k0_pay3]

/-- The cotangent's block: the point's rows and weights. -/
theorem idx0 : ∀ t : Fin cfg0.N, win0_0.index t = ![t.val % 4, t.val / 4] := (by decide +kernel : ∀ t : Fin grid0.N, _)
/-- The input's block: the point's rows. -/
theorem idx1 : ∀ t : Fin cfg0.N, win0_1.index t = ![t.val % 4, 0] := (by decide +kernel : ∀ t : Fin grid0.N, _)
/-- The gradient's block: the point's weights. -/
theorem idx2 : ∀ t : Fin cfg0.N, win0_2.index t = ![t.val / 4, 0] := (by decide +kernel : ∀ t : Fin grid0.N, _)
/-- The narrow copy's block: the point's weights. -/
theorem idx3 : ∀ t : Fin cfg0.N, win0_3.index t = ![t.val / 4, 0] := (by decide +kernel : ∀ t : Fin grid0.N, _)

/-- There are sixteen points. -/
theorem lt (t : Fin cfg0.N) : t.val < 16 := lt_of_lt_of_eq t.isLt (show cfg0.N = 16 from N_0)

/-- An entry of the cotangent's block. -/
theorem blk0 (t : Fin cfg0.N) (i : Fin 2048) (r : Fin 1408) :
    iblk m c 0 t (ix2 i r) = m ((c : Thread nD τ).loc main_arg0)
      (ix2 ⟨2048 * (t.val % 4) + i.val, by omega⟩ ⟨1408 * (t.val / 4) + r.val, by have := lt t; omega⟩) := by
  blk_ext [iblk, idx0 t]
/-- An entry of the input's block. -/
theorem blk1 (t : Fin cfg0.N) (i : Fin 2048) (l : Fin 1024) :
    iblk m c 1 t (ix2 i l) = m ((c : Thread nD τ).loc main_arg1) (ix2 ⟨2048 * (t.val % 4) + i.val, by omega⟩ l) := by
  blk_ext [iblk, idx1 t]

/-- The last point over a block of weights leaves their gradient. -/
theorem done (t : Fin cfg0.N) (h : t.val % 4 = 3) (x : S1408x1024.Idx) :
    (outsAt0 m c t.val t.isLt).1 x = grad (m ((c : Thread nD τ).loc main_arg0)) (m ((c : Thread nD τ).loc main_arg1))
      (ix2 ⟨1408 * (t.val / 4) + (x 0).val, by have := lt t; have : (x 0).val < 1408 := (x 0).isLt; omega⟩ (x 1)) := by
  refine Blocks.last (fun t => (outsAt0 m c t.val t.isLt).1 x) (fun t => part m c t x) (fun t h => first m c t h x)
    (fun t h => later m c t h x) (fun i => _) t h fun u hu => Finset.sum_congr rfl fun i _ => ?_
  refine congrArg₂ (· * ·) ((blk0 m c u i (x 0)).trans (congrArg (fun j => m ((c : Thread nD τ).loc main_arg0) (ix2 _ j)) (Fin.ext ?_))) (blk1 m c u i (x 1))
  exact congrArg (fun n => 1408 * n + (x 0).val) hu

/-- The gradient's array after the run. -/
theorem arr2 : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine (done m c t h3 _).trans ?_
  blk_ext [idx2 t]
/-- The narrow copy's array after the run. -/
theorem arr3 : (dats m 0 c).arrAt 3 cfg0.N = grad (m ((c : Thread nD τ).loc main_arg0)) (m ((c : Thread nD τ).loc main_arg1)) := by
  refine (dats m 0 c).arrAt_eq_of_covers 3 _ (by decide +kernel) fun t hf y => ?_
  have h3 := (flush0_3 t).mp hf
  blk_simp
  rw [after0_3]
  refine ((copy m c t h3 _).trans (done m c t h3 _)).trans ?_
  blk_ext [idx3 t]

end Cert.GateUpIdeal.Dw

namespace Cert.GateUpRefIdeal.Dw

open Cert.GateUpRefIdeal Cert.GateUpRefIdeal.Gen

/-- The reference's gradient, from the products over the rows. -/
theorem wide (a : FVec Ideal S8192x5632 .bf16) (b : FVec Ideal S8192x1024 .bf16) :
    (transpose S5632x1024 [1, 0] (transpose S1024x5632 [1, 0] (Host.dotGeneral dot_S8192x5632_S8192x1024_S5632x1024_0_0_1_1_n_n none (extf .f32 a bitsLt_bf16_f32) (extf .f32 b bitsLt_bf16_f32)) transposes_S5632x1024_S1024x5632_1_0) transposes_S1024x5632_S5632x1024_1_0 : FVec Ideal S5632x1024 .f32)
      = Cert.GateUpIdeal.Dw.grad a b := by
  funext x
  pointwise [Cert.GateUpIdeal.Dw.grad]

end Cert.GateUpRefIdeal.Dw

end
-- ==== Proof.DownDw.lean ====
module

public import proofs.«01_k».proof.Proof.Gen.DownIdeal.Value
public import proofs.«01_k».proof.Proof.Gen.DownRefIdeal.Run
public import proofs.«01_k».proof.Proof.Blocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.DownIdeal.Dw

open Cert.DownIdeal Cert.DownIdeal.Gen

/-! The gradient of the down weights: the rows' products summed over the 8192 rows. -/

/-- The gradient at an element: the sum over the rows of the input's entry times the cotangent's. -/
def grad (a : S8192x2816.Idx → EReal) (b : S8192x1024.Idx → EReal) (x : S2816x1024.Idx) : EReal :=
  ∑ i : Fin 8192, a (ix2 i (x 0)) * b (ix2 i (x 1))

variable (m : (ℓ : Loc nD τ sig) → Buf (Elt Ideal) ℓ) (c : Dev nD)

/-- The product of a point's two blocks at an element. -/
def part (t : Fin cfg0.N) (x : S1408x1024.Idx) : EReal :=
  ∑ i : Fin 2048, (id (iblk m c 0 t (ix2 i (x 0))) : EReal) * (id (iblk m c 1 t (ix2 i (x 1))) : EReal)

/-- The first point over a block of weights leaves its own product. -/
theorem first (t : Fin cfg0.N) (h0 : t.val % 4 = 0) (x : S1408x1024.Idx) :
    (outsAt0 m c t.val t.isLt).1 x = part m c t x := by
  rw [outsAt0_A m c t h0 (by omega)]
  dsimp only
  frame_out
  pointwise [k0_pay2, k0_pay1]
  rfl

/-- Each later point adds its product to what the point before left. -/
theorem later (t : Fin cfg0.N) (h0 : ¬t.val % 4 = 0) (x : S1408x1024.Idx) :
    (outsAt0 m c t.val t.isLt).1 x = (outsAt0 m c (t.val - 1) (Nat.lt_of_le_of_lt (Nat.sub_le _ _) t.isLt)).1 x + part m c t x := by
  by_cases h1 : t.val % 4 = 3
  · rw [outsAt0_C m c t h0 h1]
    dsimp only
    frame_out
    pointwise [k0_pay2]
    rfl
  · rw [outsAt0_B m c t h0 h1]
    dsimp only
    frame_out
    pointwise [k0_pay2]
    rfl

/-- The last point over a block of weights writes the narrow copy. -/
theorem copy (t : Fin cfg0.N) (h1 : t.val % 4 = 3) (x : S1408x1024.Idx) :
    (outsAt0 m c t.val t.isLt).2 x = (outsAt0 m c t.val t.isLt).1 x := by
  rw [outsAt0_C m c t (by omega) h1]
  dsimp only
  frame_out
  pointwise [k0_pay3]

/-- The input's block: the point's rows and weights. -/
theorem idx0 : ∀ t : Fin cfg0.N, win0_0.index t = ![t.val % 4, t.val / 4] := (by decide +kernel : ∀ t : Fin grid0.N, _)
/-- The cotangent's block: the point's rows. -/
theorem idx1 : ∀ t : Fin cfg0.N, win0_1.index t = ![t.val % 4, 0] := (by decide +kernel : ∀ t : Fin grid0.N, _)
/-- The gradient's block: the point's weights. -/
theorem idx2 : ∀ t : Fin cfg0.N, win0_2.index t = ![t.val / 4, 0] := (by decide +kernel : ∀ t : Fin grid0.N, _)
/-- The narrow copy's block: the point's weights. -/
theorem idx3 : ∀ t : Fin cfg0.N, win0_3.index t = ![t.val / 4, 0] := (by decide +kernel : ∀ t : Fin grid0.N, _)

/-- There are eight points. -/
theorem lt (t : Fin cfg0.N) : t.val < 8 := lt_of_lt_of_eq t.isLt (show cfg0.N = 8 from N_0)

/-- An entry of the input's block. -/
theorem blk0 (t : Fin cfg0.N) (i : Fin 2048) (r : Fin 1408) :
    iblk m c 0 t (ix2 i r) = m ((c : Thread nD τ).loc main_arg0)
      (ix2 ⟨2048 * (t.val % 4) + i.val, by omega⟩ ⟨1408 * (t.val / 4) + r.val, by have := lt t; omega⟩) := by
  blk_ext [iblk, idx0 t]
/-- An entry of the cotangent's block. -/
theorem blk1 (t : Fin cfg0.N) (i : Fin 2048) (l : Fin 1024) :
    iblk m c 1 t (ix2 i l) = m ((c : Thread nD τ).loc main_arg1) (ix2 ⟨2048 * (t.val % 4) + i.val, by omega⟩ l) := by
  blk_ext [iblk, idx1 t]

/-- The last point over a block of weights leaves their gradient. -/
theorem done (t : Fin cfg0.N) (h : t.val % 4 = 3) (x : S1408x1024.Idx) :
    (outsAt0 m c t.val t.isLt).1 x = grad (m ((c : Thread nD τ).loc main_arg0)) (m ((c : Thread nD τ).loc main_arg1))
      (ix2 ⟨1408 * (t.val / 4) + (x 0).val, by have := lt t; have : (x 0).val < 1408 := (x 0).isLt; omega⟩ (x 1)) := by
  refine Blocks.last (fun t => (outsAt0 m c t.val t.isLt).1 x) (fun t => part m c t x) (fun t h => first m c t h x)
    (fun t h => later m c t h x) (fun i => _) t h fun u hu => Finset.sum_congr rfl fun i _ => ?_
  refine congrArg₂ (· * ·) ((blk0 m c u i (x 0)).trans (congrArg (fun j => m ((c : Thread nD τ).loc main_arg0) (ix2 _ j)) (Fin.ext ?_))) (blk1 m c u i (x 1))
  exact congrArg (fun n => 1408 * n + (x 0).val) hu

/-- The gradient's array after the run. -/
theorem arr2 : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine (done m c t h3 _).trans ?_
  blk_ext [idx2 t]
/-- The narrow copy's array after the run. -/
theorem arr3 : (dats m 0 c).arrAt 3 cfg0.N = grad (m ((c : Thread nD τ).loc main_arg0)) (m ((c : Thread nD τ).loc main_arg1)) := by
  refine (dats m 0 c).arrAt_eq_of_covers 3 _ (by decide +kernel) fun t hf y => ?_
  have h3 := (flush0_3 t).mp hf
  blk_simp
  rw [after0_3]
  refine ((copy m c t h3 _).trans (done m c t h3 _)).trans ?_
  blk_ext [idx3 t]

end Cert.DownIdeal.Dw

namespace Cert.DownRefIdeal.Dw

open Cert.DownRefIdeal Cert.DownRefIdeal.Gen

/-- The reference's gradient, from the products over the rows. -/
theorem wide (a : FVec Ideal S8192x2816 .bf16) (b : FVec Ideal S8192x1024 .bf16) :
    (transpose S2816x1024 [1, 0] (Host.dotGeneral dot_S8192x1024_S8192x2816_S1024x2816_0_0_1_1_n_n none (extf .f32 b bitsLt_bf16_f32) (extf .f32 a bitsLt_bf16_f32)) transposes_S1024x2816_S2816x1024_1_0 : FVec Ideal S2816x1024 .f32)
      = Cert.DownIdeal.Dw.grad a b := by
  funext x
  pointwise [Cert.DownIdeal.Dw.grad]
  exact Finset.sum_congr rfl fun k _ => mul_comm _ _

end Cert.DownRefIdeal.Dw

end
-- ==== Proof.InDw.lean ====
module

public import proofs.«01_k».proof.Proof.Gen.InIdeal.Value
public import proofs.«01_k».proof.Proof.Gen.InRefIdeal.Run
public import proofs.«01_k».proof.Proof.Blocks
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InIdeal.Dw

open Cert.InIdeal Cert.InIdeal.Gen

/-! The gradient of the first projection's weights: the rows' products summed over the 8192 rows. -/

/-- The gradient at an element: the sum over the rows of the cotangent's entry times the input's. -/
def grad (a : S8192x5376.Idx → EReal) (b : S8192x1024.Idx → EReal) (x : S5376x1024.Idx) : EReal :=
  ∑ i : Fin 8192, a (ix2 i (x 0)) * b (ix2 i (x 1))

variable (m : (ℓ : Loc nD τ sig) → Buf (Elt Ideal) ℓ) (c : Dev nD)

/-- The product of a point's two blocks at an element. -/
def part (t : Fin cfg0.N) (x : S1792x1024.Idx) : EReal :=
  ∑ i : Fin 2048, (id (iblk m c 0 t (ix2 i (x 0))) : EReal) * (id (iblk m c 1 t (ix2 i (x 1))) : EReal)

/-- The first point over a block of weights leaves its own product. -/
theorem first (t : Fin cfg0.N) (h0 : t.val % 4 = 0) (x : S1792x1024.Idx) :
    (outsAt0 m c t.val t.isLt).1 x = part m c t x := by
  rw [outsAt0_A m c t h0 (by omega)]
  dsimp only
  frame_out
  pointwise [k0_pay2, k0_pay1]
  rfl

/-- Each later point adds its product to what the point before left. -/
theorem later (t : Fin cfg0.N) (h0 : ¬t.val % 4 = 0) (x : S1792x1024.Idx) :
    (outsAt0 m c t.val t.isLt).1 x = (outsAt0 m c (t.val - 1) (Nat.lt_of_le_of_lt (Nat.sub_le _ _) t.isLt)).1 x + part m c t x := by
  by_cases h1 : t.val % 4 = 3
  · rw [outsAt0_C m c t h0 h1]
    dsimp only
    frame_out
    pointwise [k0_pay2]
    rfl
  · rw [outsAt0_B m c t h0 h1]
    dsimp only
    frame_out
    pointwise [k0_pay2]
    rfl

/-- The last point over a block of weights writes the narrow copy. -/
theorem copy (t : Fin cfg0.N) (h1 : t.val % 4 = 3) (x : S1792x1024.Idx) :
    (outsAt0 m c t.val t.isLt).2 x = (outsAt0 m c t.val t.isLt).1 x := by
  rw [outsAt0_C m c t (by omega) h1]
  dsimp only
  frame_out
  pointwise [k0_pay3]

/-- The cotangent's block: the point's rows and weights. -/
theorem idx0 : ∀ t : Fin cfg0.N, win0_0.index t = ![t.val % 4, t.val / 4] := (by decide +kernel : ∀ t : Fin grid0.N, _)
/-- The input's block: the point's rows. -/
theorem idx1 : ∀ t : Fin cfg0.N, win0_1.index t = ![t.val % 4, 0] := (by decide +kernel : ∀ t : Fin grid0.N, _)
/-- The gradient's block: the point's weights. -/
theorem idx2 : ∀ t : Fin cfg0.N, win0_2.index t = ![t.val / 4, 0] := (by decide +kernel : ∀ t : Fin grid0.N, _)
/-- The narrow copy's block: the point's weights. -/
theorem idx3 : ∀ t : Fin cfg0.N, win0_3.index t = ![t.val / 4, 0] := (by decide +kernel : ∀ t : Fin grid0.N, _)

/-- There are twelve points. -/
theorem lt (t : Fin cfg0.N) : t.val < 12 := lt_of_lt_of_eq t.isLt (show cfg0.N = 12 from N_0)

/-- An entry of the cotangent's block. -/
theorem blk0 (t : Fin cfg0.N) (i : Fin 2048) (r : Fin 1792) :
    iblk m c 0 t (ix2 i r) = m ((c : Thread nD τ).loc main_arg0)
      (ix2 ⟨2048 * (t.val % 4) + i.val, by omega⟩ ⟨1792 * (t.val / 4) + r.val, by have := lt t; omega⟩) := by
  blk_ext [iblk, idx0 t]
/-- An entry of the input's block. -/
theorem blk1 (t : Fin cfg0.N) (i : Fin 2048) (l : Fin 1024) :
    iblk m c 1 t (ix2 i l) = m ((c : Thread nD τ).loc main_arg1) (ix2 ⟨2048 * (t.val % 4) + i.val, by omega⟩ l) := by
  blk_ext [iblk, idx1 t]

/-- The last point over a block of weights leaves their gradient. -/
theorem done (t : Fin cfg0.N) (h : t.val % 4 = 3) (x : S1792x1024.Idx) :
    (outsAt0 m c t.val t.isLt).1 x = grad (m ((c : Thread nD τ).loc main_arg0)) (m ((c : Thread nD τ).loc main_arg1))
      (ix2 ⟨1792 * (t.val / 4) + (x 0).val, by have := lt t; have : (x 0).val < 1792 := (x 0).isLt; omega⟩ (x 1)) := by
  refine Blocks.last (fun t => (outsAt0 m c t.val t.isLt).1 x) (fun t => part m c t x) (fun t h => first m c t h x)
    (fun t h => later m c t h x) (fun i => _) t h fun u hu => Finset.sum_congr rfl fun i _ => ?_
  refine congrArg₂ (· * ·) ((blk0 m c u i (x 0)).trans (congrArg (fun j => m ((c : Thread nD τ).loc main_arg0) (ix2 _ j)) (Fin.ext ?_))) (blk1 m c u i (x 1))
  exact congrArg (fun n => 1792 * n + (x 0).val) hu

/-- The gradient's array after the run. -/
theorem arr2 : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  refine (done m c t h3 _).trans ?_
  blk_ext [idx2 t]
/-- The narrow copy's array after the run. -/
theorem arr3 : (dats m 0 c).arrAt 3 cfg0.N = grad (m ((c : Thread nD τ).loc main_arg0)) (m ((c : Thread nD τ).loc main_arg1)) := by
  refine (dats m 0 c).arrAt_eq_of_covers 3 _ (by decide +kernel) fun t hf y => ?_
  have h3 := (flush0_3 t).mp hf
  blk_simp
  rw [after0_3]
  refine ((copy m c t h3 _).trans (done m c t h3 _)).trans ?_
  blk_ext [idx3 t]

end Cert.InIdeal.Dw

namespace Cert.InRefIdeal.Dw

open Cert.InRefIdeal Cert.InRefIdeal.Gen

/-- The reference's gradient, from the products over the rows. -/
theorem wide (a : FVec Ideal S8192x5376 .bf16) (b : FVec Ideal S8192x1024 .bf16) :
    (transpose S5376x1024 [1, 0] (transpose S1024x5376 [1, 0] (Host.dotGeneral dot_S8192x5376_S8192x1024_S5376x1024_0_0_1_1_n_n none (extf .f32 a bitsLt_bf16_f32) (extf .f32 b bitsLt_bf16_f32)) transposes_S5376x1024_S1024x5376_1_0) transposes_S1024x5376_S5376x1024_1_0 : FVec Ideal S5376x1024 .f32)
      = Cert.InIdeal.Dw.grad a b := by
  funext x
  pointwise [Cert.InIdeal.Dw.grad]

end Cert.InRefIdeal.Dw

end
-- ==== Proof.FfnRow.lean ====
module

public import Idealize.ShloMosaic.Lib.Pipeline.ValueKit
public import Idealize.ShloMosaic.Lib.Pointwise

@[expose] public section

noncomputable section

open Idealize.ShloMosaic

namespace Cert.FfnRow

/-- One row of the residual stream. -/
abbrev Lanes := Fin 1024 → EReal

/-- The mean square plus epsilon. -/
def ms (h : Lanes) : EReal := Ideal.div (∑ k, h k * h k) (Ideal.ofBits .f32 0x44800000#32) + Ideal.ofBits .f32 0x358637BD#32
/-- The reciprocal root mean square. -/
def rms (h : Lanes) : EReal := Ideal.rsqrt (ms h)
/-- The gradient of `h` through its normalisation, from that of the normalised row. -/
def back (h t : Lanes) (l : Fin 1024) : EReal :=
  rms h * t l - h l * (rms h * rms h * rms h) * Ideal.div (∑ k, t k * h k) (Ideal.ofBits .f32 0x44800000#32)

/-- A gate's lane among the gates and up projections. -/
def lo (j : Fin 2816) : Fin 5632 := ⟨j.val, by omega⟩
/-- An up projection's lane among the gates and up projections. -/
def hi (j : Fin 2816) : Fin 5632 := ⟨2816 + j.val, by omega⟩

/-- The gradient of a gate, from its value, its up projection and the gradient of their product. -/
def gate (g u d : EReal) : EReal := d * u * (Ideal.logistic g * (1 + g * (1 - Ideal.logistic g)))

/-- The gains of the two norms and the two weight matrices. -/
structure Par where
  (gf gz : Lanes) (wgu : Fin 5632 → Lanes) (wd : Fin 2816 → Lanes)

namespace Par
variable (P : Par) (h tg : Lanes)

/-- The normalised row. -/
def f (l : Fin 1024) : EReal := h l * rms h * P.gf l
/-- Gates and up projections. -/
def gu (n : Fin 5632) : EReal := ∑ k, P.f h k * P.wgu n k
/-- The activation. -/
def act (j : Fin 2816) : EReal := P.gu h (lo j) * Ideal.logistic (P.gu h (lo j)) * P.gu h (hi j)
/-- The row after the layer. -/
def h3 (l : Fin 1024) : EReal := h l + ∑ j, P.act h j * P.wd j l
/-- The distance from the target. -/
def diff (l : Fin 1024) : EReal := P.h3 h l * rms (P.h3 h) * P.gz l - tg l
/-- Its gradient. -/
def dy (l : Fin 1024) : EReal := P.diff h tg l * Ideal.ofBits .f32 0x3A800000#32
/-- What the row gives the gain of the last norm. -/
def dgz (l : Fin 1024) : EReal := P.dy h tg l * P.h3 h l * rms (P.h3 h)
/-- The gradient of the row after the layer. -/
def dh3 (l : Fin 1024) : EReal := back (P.h3 h) (fun k => P.dy h tg k * P.gz k) l
/-- The gradient of the activation. -/
def dact (j : Fin 2816) : EReal := ∑ k, P.dh3 h tg k * P.wd j k
/-- The gradient of the gates and up projections. -/
def dgu (n : Fin 5632) : EReal :=
  if c : n.val < 2816 then gate (P.gu h (lo ⟨n.val, c⟩)) (P.gu h (hi ⟨n.val, c⟩)) (P.dact h tg ⟨n.val, c⟩)
  else P.dact h tg ⟨n.val - 2816, by omega⟩ * (P.gu h (lo ⟨n.val - 2816, by omega⟩) * Ideal.logistic (P.gu h (lo ⟨n.val - 2816, by omega⟩)))
/-- The gradient of the normalised row. -/
def df (l : Fin 1024) : EReal := ∑ n, P.dgu h tg n * P.wgu n l
/-- The gradient of the row. -/
def dh2 (l : Fin 1024) : EReal := P.dh3 h tg l + back h (fun k => P.df h tg k * P.gf k) l
/-- What the row gives the gain of the first norm. -/
def dgf (l : Fin 1024) : EReal := P.df h tg l * h l * rms h
end Par

/-- One row of an array of 8192 rows. -/
def line (X : (⟨2, ![8192, 1024]⟩ : Shape).Idx → EReal) (s : Fin 8192) : Lanes := fun k => X (ix2 s k)
/-- The gains and weights as the caller holds them. -/
def pars (g z : (⟨2, ![1, 1024]⟩ : Shape).Idx → EReal) (w : (⟨2, ![1024, 5632]⟩ : Shape).Idx → EReal)
    (d : (⟨2, ![2816, 1024]⟩ : Shape).Idx → EReal) : Par :=
  ⟨fun k => g (ix2 0 k), fun k => z (ix2 0 k), fun n k => w (ix2 k n), fun j k => d (ix2 j k)⟩

end Cert.FfnRow

end
-- ==== Proof.FfnPoint.lean ====
module

public import proofs.«01_k».proof.Proof.FfnRow
public import proofs.«01_k».proof.Proof.Gen.FfnIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnIdeal.Point

open Cert.FfnIdeal Cert.FfnIdeal.Gen Cert.FfnRow

/-- A row of a block. -/
def row (X : Vec Ideal S256x1024 .f32) (i : Fin 256) : Lanes := fun k => X (ix2 i k)
/-- The gains and weights that every point reads whole. -/
def par (g z : Vec Ideal S1x1024 .f32) (w : Vec Ideal S5632x1024 .bf16) (d : Vec Ideal S2816x1024 .bf16) : Par :=
  ⟨fun k => g (ix2 0 k), fun k => z (ix2 0 k), fun n k => w (ix2 n k), fun j k => d (ix2 j k)⟩

variable (X T : Vec Ideal S256x1024 .f32) (g z : Vec Ideal S1x1024 .f32) (w : Vec Ideal S5632x1024 .bf16) (d : Vec Ideal S2816x1024 .bf16)

/-- A row's reciprocal root mean square. -/
theorem rms_at (i : Fin 256) : k0_pay4 X (ix2 i 0) = rms (row X i) := by
  pointwise [k0_pay4]; rfl
/-- The normalised block. -/
theorem f_at (i : Fin 256) (l : Fin 1024) : k0_pay5 X g (ix2 i l) = (par g z w d).f (row X i) l := by
  pointwise [k0_pay5]
  rw [rms_at]; rfl
/-- Gates and up projections. -/
theorem gu_at (i : Fin 256) (n : Fin 5632) : k0_pay6 X g w (ix2 i n) = (par g z w d).gu (row X i) n := by
  pointwise [k0_pay6]
  simp only [f_at X g z w d]; rfl

section
variable {A : Vec Ideal S256x2816 .bf16} (hA : ∀ i j, A (ix2 i j) = (par g z w d).act (row X i) j)
include hA

/-- The block after the layer. -/
theorem h3_at (i : Fin 256) (l : Fin 1024) : k0_pay20 X A d (ix2 i l) = (par g z w d).h3 (row X i) l := by
  pointwise [k0_pay20]
  simp only [hA]; rfl
/-- Its reciprocal root mean squares. -/
theorem rms3_at (i : Fin 256) : k0_pay21 X A d (ix2 i 0) = rms ((par g z w d).h3 (row X i)) := by
  pointwise [k0_pay21]
  simp only [h3_at X g z w d hA]; rfl
/-- The distances from the target. -/
theorem diff_at (i : Fin 256) (l : Fin 1024) : k0_pay22 X A d z T (ix2 i l) = (par g z w d).diff (row X i) (row T i) l := by
  pointwise [k0_pay22]
  rw [h3_at X g z w d hA, rms3_at X g z w d hA]; rfl
/-- Their gradients. -/
theorem dy_at (i : Fin 256) (l : Fin 1024) : k0_pay23 X A d z T (ix2 i l) = (par g z w d).dy (row X i) (row T i) l := by
  pointwise [k0_pay23]
  rw [diff_at X T g z w d hA]; rfl
/-- The gradient of the block after the layer. -/
theorem dh3_at (i : Fin 256) (l : Fin 1024) :
    k0_pay27 (k0_pay20 X A d) (k0_pay21 X A d) (k0_pay24 X A d z T) (k0_pay25 X A d z T) (k0_pay26 X A d) (ix2 i l)
      = (par g z w d).dh3 (row X i) (row T i) l := by
  pointwise [k0_pay27, k0_pay25, k0_pay26, k0_pay24]
  simp only [h3_at X g z w d hA, rms3_at X g z w d hA, dy_at X T g z w d hA]; rfl
/-- What each row gives the gain of the last norm. -/
theorem dgz_at (i : Fin 256) (l : Fin 1024) :
    k0_pay28 (k0_pay20 X A d) (k0_pay21 X A d) (k0_pay23 X A d z T) (ix2 i l) = (par g z w d).dgz (row X i) (row T i) l := by
  pointwise [k0_pay28]
  simp only [h3_at X g z w d hA, rms3_at X g z w d hA, dy_at X T g z w d hA]; rfl
/-- The same gradient as it is stored. -/
theorem dh3b_at (i : Fin 256) (l : Fin 1024) :
    k0_pay29 (k0_pay20 X A d) (k0_pay21 X A d) (k0_pay24 X A d z T) (k0_pay25 X A d z T) (k0_pay26 X A d) (ix2 i l)
      = (par g z w d).dh3 (row X i) (row T i) l := by
  pointwise [k0_pay29]
  exact dh3_at X T g z w d hA i l
/-- The gradient of the activation. -/
theorem dact_at (i : Fin 256) (j : Fin 2816) :
    k0_pay30 (k0_pay20 X A d) (k0_pay21 X A d) (k0_pay24 X A d z T) (k0_pay25 X A d z T) (k0_pay26 X A d) d (ix2 i j)
      = (par g z w d).dact (row X i) (row T i) j := by
  pointwise [k0_pay30]
  simp only [dh3b_at X T g z w d hA]; rfl

variable {D : Vec Ideal S256x5632 .bf16} (hD : ∀ i n, D (ix2 i n) = (par g z w d).dgu (row X i) (row T i) n)
include hD

omit hA in
/-- The gradient of the normalised block. -/
theorem df_at (i : Fin 256) (l : Fin 1024) : k0_pay70 D w (ix2 i l) = (par g z w d).df (row X i) (row T i) l := by
  pointwise [k0_pay70]
  simp only [hD]; rfl
omit hA in
/-- What each row gives the gain of the first norm. -/
theorem dgf_at (i : Fin 256) (l : Fin 1024) : k0_pay71 X (k0_pay4 X) D w (ix2 i l) = (par g z w d).dgf (row X i) (row T i) l := by
  pointwise [k0_pay71]
  simp only [df_at X T g z w d hD, rms_at]; rfl
/-- The gradient of the block. -/
theorem dh2_at (i : Fin 256) (l : Fin 1024) :
    k0_pay72 X (k0_pay4 X) g (k0_pay27 (k0_pay20 X A d) (k0_pay21 X A d) (k0_pay24 X A d z T) (k0_pay25 X A d z T) (k0_pay26 X A d)) D w (ix2 i l)
      = (par g z w d).dh2 (row X i) (row T i) l := by
  pointwise [k0_pay72]
  simp only [df_at X T g z w d hD, rms_at, dh3_at X T g z w d hA]; rfl
end

end Cert.FfnIdeal.Point

end
-- ==== Proof.FfnPiece.lean ====
module

public import proofs.«01_k».proof.Proof.FfnPoint
public import Idealize.ShloMosaic.Lib.Pipeline.ReadBack

@[expose] public section

set_option maxRecDepth 16384

noncomputable section

open Idealize.ShloMosaic Idealize.ShloMosaic.TcCoe Idealize.SL.Sem

namespace Cert.FfnIdeal.Point

open Cert.FfnIdeal Cert.FfnIdeal.Gen Cert.FfnRow

/-- A run of columns lies in the activations. -/
theorem mid_inb (k : Fin 11) (a) : (![0, 256 * k.val] : Fin 2 → ℕ) a + S256x256.size a ≤ S256x2816.size a := by
  have := k.isLt
  fin_cases a <;> simp; omega
/-- The gate half of a run of columns lies in the scratch. -/
theorem low_inb (k : Fin 11) (a) : (![0, 256 * k.val] : Fin 2 → ℕ) a + S256x256.size a ≤ S256x5632.size a := by
  have := k.isLt
  fin_cases a <;> simp; omega
/-- The up half of a run of columns lies in the scratch. -/
theorem high_inb (k : Fin 11) (a) : (![0, 2816 + 256 * k.val] : Fin 2 → ℕ) a + S256x256.size a ≤ S256x5632.size a := by
  have := k.isLt
  fin_cases a <;> simp; omega
/-- Chunk `k` of the activation's lanes. -/
def mid (k : Fin 11) : Rect S256x2816 := Rect.unit (s := S256x2816) ![0, 256 * k.val] S256x256.size (mid_inb k)
/-- Chunk `k` of the gates' lanes. -/
def low (k : Fin 11) : Rect S256x5632 := Rect.unit (s := S256x5632) ![0, 256 * k.val] S256x256.size (low_inb k)
/-- Chunk `k` of the up projections' lanes. -/
def high (k : Fin 11) : Rect S256x5632 := Rect.unit (s := S256x5632) ![0, 2816 + 256 * k.val] S256x256.size (high_inb k)

/-- Lane `l` of chunk `k`. -/
def at_ (k : Fin 11) (l : Fin 256) : Fin 2816 := ⟨256 * k.val + l.val, by omega⟩

/-- Where a run of columns reads the activations. -/
theorem mid_emb (k : Fin 11) (i l : Fin 256) : (mid k).emb (ix2 i l) = ix2 i (at_ k l) := by
  funext a; apply Fin.ext
  fin_cases a
  · show 0 + 1 * i.val = i.val; omega
  · show 256 * k.val + 1 * l.val = 256 * k.val + l.val; omega
/-- Where a run of columns reads the gates. -/
theorem low_emb (k : Fin 11) (i l : Fin 256) : (low k).emb (ix2 i l) = ix2 i (lo (at_ k l)) := by
  funext a; apply Fin.ext
  fin_cases a
  · show 0 + 1 * i.val = i.val; omega
  · show 256 * k.val + 1 * l.val = 256 * k.val + l.val; omega
/-- Where a run of columns reads the ups. -/
theorem high_emb (k : Fin 11) (i l : Fin 256) : (high k).emb (ix2 i l) = ix2 i (hi (at_ k l)) := by
  funext a; apply Fin.ext
  fin_cases a
  · show 0 + 1 * i.val = i.val; omega
  · show 2816 + 256 * k.val + 1 * l.val = 2816 + (256 * k.val + l.val); omega

/-- The indices of a chunk. -/
theorem mid_mem (k : Fin 11) (y : S256x2816.Idx) (h : 256 * k.val ≤ (y 1).val) (h' : (y 1).val < 256 * k.val + 256) : y ∈ (mid k).set := by
  refine (Rect.mem_set_unit (s := S256x2816) (off := ![0, 256 * k.val]) (size := S256x256.size) (inb := mid_inb k)).mpr fun a => ?_
  have h0 : (y 0).val < 256 := (y 0).isLt
  fin_cases a
  · show 0 ≤ (y 0).val ∧ (y 0).val < 0 + 256; omega
  · exact ⟨h, h'⟩
/-- The columns that the gate half of a run covers. -/
theorem low_mem (k : Fin 11) (y : S256x5632.Idx) (h : 256 * k.val ≤ (y 1).val) (h' : (y 1).val < 256 * k.val + 256) : y ∈ (low k).set := by
  refine (Rect.mem_set_unit (s := S256x5632) (off := ![0, 256 * k.val]) (size := S256x256.size) (inb := low_inb k)).mpr fun a => ?_
  have h0 : (y 0).val < 256 := (y 0).isLt
  fin_cases a
  · show 0 ≤ (y 0).val ∧ (y 0).val < 0 + 256; omega
  · exact ⟨h, h'⟩
/-- The columns that the up half of a run covers. -/
theorem high_mem (k : Fin 11) (y : S256x5632.Idx) (h : 2816 + 256 * k.val ≤ (y 1).val) (h' : (y 1).val < 2816 + 256 * k.val + 256) : y ∈ (high k).set := by
  refine (Rect.mem_set_unit (s := S256x5632) (off := ![0, 2816 + 256 * k.val]) (size := S256x256.size) (inb := high_inb k)).mpr fun a => ?_
  have h0 : (y 0).val < 256 := (y 0).isLt
  fin_cases a
  · show 0 ≤ (y 0).val ∧ (y 0).val < 0 + 256; omega
  · exact ⟨h, h'⟩

variable (U : Vec Ideal S256x5632 .f32) (C : Vec Ideal S256x2816 .f32)

/-- What a chunk's point of the body stores of the activation. -/
def actP (k : Fin 11) : View.Piece (Elt Ideal) S256x2816 .bf16 := ⟨mid k, k0_pay7 (View.ld U (low k)) (View.ld U (high k))⟩
/-- What it stores of the gates' gradient. -/
def lowP (k : Fin 11) : View.Piece (Elt Ideal) S256x5632 .bf16 := ⟨low k, k0_pay32 (View.ld C (mid k)) (View.ld U (low k)) (View.ld U (high k))⟩
/-- What it stores of the up projections' gradient. -/
def highP (k : Fin 11) : View.Piece (Elt Ideal) S256x5632 .bf16 := ⟨high k, k0_pay37 (View.ld C (mid k)) (View.ld U (low k))⟩

/-- The whole activation. -/
def actA (y : S256x2816.Idx) : EReal := U (ix2 (y 0) (lo (y 1))) * Ideal.logistic (U (ix2 (y 0) (lo (y 1)))) * U (ix2 (y 0) (hi (y 1)))
/-- The whole gradient of gates and up projections, by row and lane. -/
def dguAt (i : Fin 256) (n : Fin 5632) : EReal :=
  if c : n.val < 2816 then gate (U (ix2 i (lo ⟨n.val, c⟩))) (U (ix2 i (hi ⟨n.val, c⟩))) (C (ix2 i ⟨n.val, c⟩))
  else C (ix2 i ⟨n.val - 2816, by omega⟩) * (U (ix2 i (lo ⟨n.val - 2816, by omega⟩)) * Ideal.logistic (U (ix2 i (lo ⟨n.val - 2816, by omega⟩))))
/-- The same as an array. -/
def dguA (y : S256x5632.Idx) : EReal := dguAt U C (y 0) (y 1)

/-- The products that one store makes. -/
theorem act_pay (a b : Vec Ideal S256x256 .f32) (i l : Fin 256) : k0_pay7 a b (ix2 i l) = a (ix2 i l) * Ideal.logistic (a (ix2 i l)) * b (ix2 i l) := by
  pointwise [k0_pay7]
/-- What a run stores at a gate. -/
theorem low_pay (e a b : Vec Ideal S256x256 .f32) (i l : Fin 256) : k0_pay32 e a b (ix2 i l) = gate (a (ix2 i l)) (b (ix2 i l)) (e (ix2 i l)) := by
  pointwise [k0_pay32, k0_pay31]; rfl
/-- What a run stores at an up. -/
theorem high_pay (e a : Vec Ideal S256x256 .f32) (i l : Fin 256) : k0_pay37 e a (ix2 i l) = e (ix2 i l) * (a (ix2 i l) * Ideal.logistic (a (ix2 i l))) := by
  pointwise [k0_pay37, k0_pay35]

/-- A load of a run of gates. -/
theorem ld_low (k : Fin 11) (i l : Fin 256) : View.ld U (low k) (ix2 i l) = U (ix2 i (lo (at_ k l))) := congrArg U (low_emb k i l)
/-- A load of a run of ups. -/
theorem ld_high (k : Fin 11) (i l : Fin 256) : View.ld U (high k) (ix2 i l) = U (ix2 i (hi (at_ k l))) := congrArg U (high_emb k i l)
/-- A load of a run of the activations' gradients. -/
theorem ld_mid (k : Fin 11) (i l : Fin 256) : View.ld C (mid k) (ix2 i l) = C (ix2 i (at_ k l)) := congrArg C (mid_emb k i l)

/-- Each chunk's piece is a block of the whole. -/
theorem act_spec (k : Fin 11) (x : (actP U k).1.shape.Idx) : (actP U k).2 x = actA U ((actP U k).1.emb x) := by
  obtain ⟨i, l, rfl⟩ : ∃ (i l : Fin 256), x = ix2 i l := ⟨x 0, x 1, eq_ix2 x⟩
  refine (act_pay _ _ i l).trans ((?_ : _ = actA U (ix2 i (at_ k l))).trans (congrArg (actA U) (mid_emb k i l).symm))
  rw [ld_low, ld_high]; rfl
/-- A store into the gate half agrees with the whole array. -/
theorem low_spec (k : Fin 11) (x : (lowP U C k).1.shape.Idx) : (lowP U C k).2 x = dguA U C ((lowP U C k).1.emb x) := by
  obtain ⟨i, l, rfl⟩ : ∃ (i l : Fin 256), x = ix2 i l := ⟨x 0, x 1, eq_ix2 x⟩
  refine (low_pay _ _ _ i l).trans ((?_ : _ = dguAt U C i (lo (at_ k l))).trans (congrArg (dguA U C) (low_emb k i l).symm))
  rw [ld_low, ld_high, ld_mid, dguAt, dif_pos (show (lo (at_ k l)).val < 2816 from (at_ k l).isLt)]; rfl
/-- A store into the up half agrees with the whole array. -/
theorem high_spec (k : Fin 11) (x : (highP U C k).1.shape.Idx) : (highP U C k).2 x = dguA U C ((highP U C k).1.emb x) := by
  obtain ⟨i, l, rfl⟩ : ∃ (i l : Fin 256), x = ix2 i l := ⟨x 0, x 1, eq_ix2 x⟩
  refine (high_pay _ _ i l).trans ((?_ : _ = dguAt U C i (hi (at_ k l))).trans (congrArg (dguA U C) (high_emb k i l).symm))
  have e : ∀ h, (⟨(hi (at_ k l)).val - 2816, h⟩ : Fin 2816) = at_ k l := fun h => Fin.ext (by show 2816 + (at_ k l).val - 2816 = _; omega)
  rw [ld_low, ld_mid, dguAt, dif_neg (show ¬(hi (at_ k l)).val < 2816 from by show ¬2816 + _ < 2816; omega)]
  simp only [e]

/-- The pieces of the activation, the last first. -/
def actL : List (View.Piece (Elt Ideal) S256x2816 .bf16) :=
  [actP U 10, actP U 9, actP U 8, actP U 7, actP U 6, actP U 5, actP U 4, actP U 3, actP U 2, actP U 1, actP U 0]
/-- The pieces of the gradient of gates and up projections, the last first. -/
def dguL : List (View.Piece (Elt Ideal) S256x5632 .bf16) :=
  [highP U C 10, lowP U C 10, highP U C 9, lowP U C 9, highP U C 8, lowP U C 8, highP U C 7, lowP U C 7, highP U C 6, lowP U C 6, highP U C 5, lowP U C 5,
    highP U C 4, lowP U C 4, highP U C 3, lowP U C 3, highP U C 2, lowP U C 2, highP U C 1, lowP U C 1, highP U C 0, lowP U C 0]

/-- Stored chunk by chunk, the activation is whole. -/
theorem act_canon (y : S256x2816.Idx) : View.canon (actL U) y = actA U y := by
  have hy : (y 1).val < 2816 := (y 1).isLt
  refine View.canon_append_of_pieces (actA U) [] (actL U) ?_ y ⟨actP U ⟨(y 1).val / 256, by omega⟩, ?_, mid_mem _ y ?_ ?_⟩
  · have h := act_spec U
    simp only [actL, List.forall_mem_cons]
    exact ⟨h _, h _, h _, h _, h _, h _, h _, h _, h _, h _, h _, by simp⟩
  · generalize (⟨(y 1).val / 256, _⟩ : Fin 11) = k
    fin_cases k <;> simp [actL]
  · show 256 * ((y 1).val / 256) ≤ (y 1).val; omega
  · show (y 1).val < 256 * ((y 1).val / 256) + 256; omega
/-- Stored chunk by chunk, the gradient of gates and up projections is whole. -/
theorem dgu_canon (y : S256x5632.Idx) : View.canon (dguL U C) y = dguA U C y := by
  have hy : (y 1).val < 5632 := (y 1).isLt
  refine View.canon_append_of_pieces (dguA U C) [] (dguL U C) ?_ y ?_
  · have h := low_spec U C
    have g := high_spec U C
    simp only [dguL, List.forall_mem_cons]
    exact ⟨g _, h _, g _, h _, g _, h _, g _, h _, g _, h _, g _, h _, g _, h _, g _, h _, g _, h _, g _, h _, g _, h _, by simp⟩
  · by_cases c : (y 1).val < 2816
    · refine ⟨lowP U C ⟨(y 1).val / 256, by omega⟩, ?_, low_mem _ y ?_ ?_⟩
      · generalize (⟨(y 1).val / 256, _⟩ : Fin 11) = k
        fin_cases k <;> simp [dguL]
      · show 256 * ((y 1).val / 256) ≤ (y 1).val; omega
      · show (y 1).val < 256 * ((y 1).val / 256) + 256; omega
    · refine ⟨highP U C ⟨((y 1).val - 2816) / 256, by omega⟩, ?_, high_mem _ y ?_ ?_⟩
      · generalize (⟨((y 1).val - 2816) / 256, _⟩ : Fin 11) = k
        fin_cases k <;> simp [dguL]
      · show 2816 + 256 * (((y 1).val - 2816) / 256) ≤ (y 1).val; omega
      · show (y 1).val < 2816 + 256 * (((y 1).val - 2816) / 256) + 256; omega

end Cert.FfnIdeal.Point

end
-- ==== Proof.FfnOut.lean ====
module

public import proofs.«01_k».proof.Proof.FfnPiece
public import proofs.«01_k».proof.Proof.Gen.FfnIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.FfnIdeal.Point

open Cert.FfnIdeal Cert.FfnIdeal.Gen Cert.FfnRow

section
variable (X T : Vec Ideal S256x1024 .f32) (g z : Vec Ideal S1x1024 .f32) (w : Vec Ideal S5632x1024 .bf16) (d : Vec Ideal S2816x1024 .bf16)

/-- The stored activation, chunk by chunk, is the rows'. -/
theorem act_rows (i : Fin 256) (j : Fin 2816) : View.canon (actL (k0_pay6 X g w)) (ix2 i j) = (par g z w d).act (row X i) j := by
  refine (act_canon _ _).trans ?_
  show k0_pay6 X g w (ix2 i (lo j)) * Ideal.logistic (k0_pay6 X g w (ix2 i (lo j))) * k0_pay6 X g w (ix2 i (hi j)) = _
  rw [gu_at X g z w d, gu_at X g z w d]; rfl
/-- The activation read back whole. -/
theorem act_read {κ : Kind} {sp : Space} (v : View sig κ sp S256x2816 .bf16) (inb) (i : Fin 256) (j : Fin 2816) :
    v.readCov (actL (k0_pay6 X g w)) (Rect.unit (s := S256x2816) ![0, 0] S256x2816.size inb).toLoadRect (ix2 i j) = (par g z w d).act (row X i) j := by
  rw [View.readCov_eq_canon']
  refine Eq.trans (congrArg (View.canon (actL (k0_pay6 X g w))) ?_) (act_rows X g z w d i j)
  funext a; apply Fin.ext
  fin_cases a
  · show 0 + 1 * i.val = i.val; omega
  · show 0 + 1 * j.val = j.val; omega

variable {C : Vec Ideal S256x2816 .f32} (hC : ∀ i j, C (ix2 i j) = (par g z w d).dact (row X i) (row T i) j)
include hC
/-- The stored gradient of gates and up projections, chunk by chunk, is the rows'. -/
theorem dgu_rows (i : Fin 256) (n : Fin 5632) : View.canon (dguL (k0_pay6 X g w) C) (ix2 i n) = (par g z w d).dgu (row X i) (row T i) n := by
  refine (dgu_canon _ _ _).trans ?_
  show dguAt (k0_pay6 X g w) C i n = _
  unfold dguAt Par.dgu
  simp only [hC, gu_at X g z w d]
/-- The same read back whole. -/
theorem dgu_read {κ : Kind} {sp : Space} (v : View sig κ sp S256x5632 .bf16) (inb) (i : Fin 256) (n : Fin 5632) :
    v.readCov (dguL (k0_pay6 X g w) C) (Rect.unit (s := S256x5632) ![0, 0] S256x5632.size inb).toLoadRect (ix2 i n) = (par g z w d).dgu (row X i) (row T i) n := by
  rw [View.readCov_eq_canon']
  refine Eq.trans (congrArg (View.canon (dguL (k0_pay6 X g w) C)) ?_) (dgu_rows X T g z w d hC i n)
  funext a; apply Fin.ext
  fin_cases a
  · show 0 + 1 * i.val = i.val; omega
  · show 0 + 1 * n.val = n.val; omega
end

variable (m : (ℓ : Loc nD τ sig) → Buf (Elt Ideal) ℓ) (c : Dev nD) (t : Fin cfg0.N)

/-- The gains and weights that point `t` reads. -/
def P : Par := par (iblk m c 2 t) (iblk m c 3 t) (iblk m c 4 t) (iblk m c 5 t)
/-- Row `i` of the residual stream at point `t`. -/
def hr (i : Fin 256) : Lanes := row (iblk m c 0 t) i
/-- Row `i` of the target at point `t`. -/
def tr (i : Fin 256) : Lanes := row (iblk m c 1 t) i

/-- What point `t` writes of the normalised rows. -/
theorem out_f (i : Fin 256) (l : Fin 1024) : (outsAt0 m c t.val t.isLt).1 (ix2 i l) = (P m c t).f (hr m c t i) l := by
  by_cases h0 : t.val % 32 = 0
  on_goal 1 => rw [outsAt0_A m c t h0]
  on_goal 2 => rw [outsAt0_B m c t h0]
  all_goals
    dsimp only
    frame_open
    simp (disch := decide) only [↓ View.readCov_skip, ↓ View.readCov_cons_toLoadRect, ↓ View.readCov_fill]
    frame_out
    exact f_at _ _ _ _ _ i l
/-- What it writes of the activation. -/
theorem out_act (i : Fin 256) (j : Fin 2816) : (outsAt0 m c t.val t.isLt).2.1 (ix2 i j) = (P m c t).act (hr m c t i) j := by
  by_cases h0 : t.val % 32 = 0
  on_goal 1 => rw [outsAt0_A m c t h0]
  on_goal 2 => rw [outsAt0_B m c t h0]
  all_goals
    dsimp only
    frame_open
    simp (disch := decide) only [↓ View.readCov_skip, ↓ View.readCov_cons_toLoadRect, ↓ View.readCov_fill]
    frame_out
    exact act_rows _ _ _ _ _ i j
/-- What it writes of the gradient of gates and up projections. -/
theorem out_dgu (i : Fin 256) (n : Fin 5632) : (outsAt0 m c t.val t.isLt).2.2.1 (ix2 i n) = (P m c t).dgu (hr m c t i) (tr m c t i) n := by
  by_cases h0 : t.val % 32 = 0
  on_goal 1 => rw [outsAt0_A m c t h0]
  on_goal 2 => rw [outsAt0_B m c t h0]
  all_goals
    dsimp only
    frame_open
    simp (disch := decide) only [↓ View.readCov_skip, ↓ View.readCov_cons_toLoadRect, ↓ View.readCov_fill]
    frame_out
    exact dgu_rows _ _ _ _ _ _ (dact_at _ _ _ _ _ _ (act_read _ _ _ _ _ _ _)) i n
/-- What it writes of the gradient of the rows after the layer. -/
theorem out_dh3 (i : Fin 256) (l : Fin 1024) : (outsAt0 m c t.val t.isLt).2.2.2.1 (ix2 i l) = (P m c t).dh3 (hr m c t i) (tr m c t i) l := by
  by_cases h0 : t.val % 32 = 0
  on_goal 1 => rw [outsAt0_A m c t h0]
  on_goal 2 => rw [outsAt0_B m c t h0]
  all_goals
    dsimp only
    frame_open
    simp (disch := decide) only [↓ View.readCov_skip, ↓ View.readCov_cons_toLoadRect, ↓ View.readCov_fill]
    frame_out
    exact dh3b_at _ _ _ _ _ _ (act_read _ _ _ _ _ _ _) i l
/-- What it writes of the gradient of the rows. -/
theorem out_dh2 (i : Fin 256) (l : Fin 1024) : (outsAt0 m c t.val t.isLt).2.2.2.2.1 (ix2 i l) = (P m c t).dh2 (hr m c t i) (tr m c t i) l := by
  by_cases h0 : t.val % 32 = 0
  on_goal 1 => rw [outsAt0_A m c t h0]
  on_goal 2 => rw [outsAt0_B m c t h0]
  all_goals
    dsimp only
    frame_open
    simp (disch := decide) only [↓ View.readCov_skip, ↓ View.readCov_cons_toLoadRect, ↓ View.readCov_fill]
    frame_out
    exact dh2_at _ _ _ _ _ _ (act_read _ _ _ _ _ _ _) (dgu_read _ _ _ _ _ _ (dact_at _ _ _ _ _ _ (act_read _ _ _ _ _ _ _)) _ _) i l
/-- The same gradient in the other copy. -/
theorem out_dh2b (i : Fin 256) (l : Fin 1024) : (outsAt0 m c t.val t.isLt).2.2.2.2.2.1 (ix2 i l) = (P m c t).dh2 (hr m c t i) (tr m c t i) l := by
  by_cases h0 : t.val % 32 = 0
  on_goal 1 => rw [outsAt0_A m c t h0]
  on_goal 2 => rw [outsAt0_B m c t h0]
  all_goals
    dsimp only
    frame_open
    simp (disch := decide) only [↓ View.readCov_skip, ↓ View.readCov_cons_toLoadRect, ↓ View.readCov_fill]
    frame_out
    exact dh2_at _ _ _ _ _ _ (act_read _ _ _ _ _ _ _) (dgu_read _ _ _ _ _ _ (dact_at _ _ _ _ _ _ (act_read _ _ _ _ _ _ _)) _ _) i l

/-- Sums of a block over its rows, added to a row. -/
theorem add_dgf (v : Vec Ideal S256x1024 .f32) (o : Vec Ideal S1x1024 .f32) (l : Fin 1024) : k0_pay74 v o (ix2 0 l) = o (ix2 0 l) + ∑ i : Fin 256, v (ix2 i l) := by
  pointwise [k0_pay74]
/-- What a block adds to the gradient of the last gain. -/
theorem add_dgz (v : Vec Ideal S256x1024 .f32) (o : Vec Ideal S1x1024 .f32) (l : Fin 1024) : k0_pay75 v o (ix2 0 l) = o (ix2 0 l) + ∑ i : Fin 256, v (ix2 i l) := by
  pointwise [k0_pay75]
/-- What a block adds to the loss. -/
theorem add_loss (v : Vec Ideal S256x1024 .f32) (o : Vec Ideal S1x128 .f32) (l : Fin 128) :
    k0_pay76 v o (ix2 0 l) = o (ix2 0 l) + (∑ k : Fin 1024, ∑ i : Fin 256, v (ix2 i k) * v (ix2 i k)) * Ideal.ofBits .f32 0x3A000000#32 := by
  pointwise [k0_pay76]

/-- The block's share of the gradient of the first gain. -/
def sgf (l : Fin 1024) : EReal := ∑ i, (P m c t).dgf (hr m c t i) (tr m c t i) l
/-- The block's share of the gradient of the last gain. -/
def sgz (l : Fin 1024) : EReal := ∑ i, (P m c t).dgz (hr m c t i) (tr m c t i) l
/-- The block's share of the loss. -/
def sloss : EReal :=
  (∑ k, ∑ i, (P m c t).diff (hr m c t i) (tr m c t i) k * (P m c t).diff (hr m c t i) (tr m c t i) k) * Ideal.ofBits .f32 0x3A000000#32

/-- The first point stores its share over zero. -/
theorem first_dgf (h0 : t.val % 32 = 0) (l : Fin 1024) : (outsAt0 m c t.val t.isLt).2.2.2.2.2.2.1 (ix2 0 l) = 0 + sgf m c t l := by
  rw [outsAt0_A m c t h0]
  dsimp only
  frame_open
  simp (disch := decide) only [↓ View.readCov_skip, ↓ View.readCov_cons_toLoadRect, ↓ View.readCov_fill]
  frame_out
  refine (add_dgf _ _ l).trans ?_
  rw [show (k0_pay1 : FVec Ideal _ _) (ix2 0 l) = 0 from by pointwise [k0_pay1]]
  exact congrArg (fun f : Fin 256 → EReal => _ + ∑ i, f i) (funext fun i => dgf_at _ _ _ _ _ _ (dgu_read _ _ _ _ _ _ (dact_at _ _ _ _ _ _ (act_read _ _ _ _ _ _ _)) _ _) i l)
/-- Every later point adds its share. -/
theorem later_dgf (h0 : ¬t.val % 32 = 0) (l : Fin 1024) :
    (outsAt0 m c t.val t.isLt).2.2.2.2.2.2.1 (ix2 0 l) = (outsAt0 m c (t.val - 1) (Nat.lt_of_le_of_lt (Nat.sub_le _ _) t.isLt)).2.2.2.2.2.2.1 (ix2 0 l) + sgf m c t l := by
  rw [outsAt0_B m c t h0]
  dsimp only
  frame_open
  simp (disch := decide) only [↓ View.readCov_skip, ↓ View.readCov_cons_toLoadRect, ↓ View.readCov_fill]
  frame_out
  refine (add_dgf _ _ l).trans ?_
  exact congrArg (fun f : Fin 256 → EReal => _ + ∑ i, f i) (funext fun i => dgf_at _ _ _ _ _ _ (dgu_read _ _ _ _ _ _ (dact_at _ _ _ _ _ _ (act_read _ _ _ _ _ _ _)) _ _) i l)
/-- The first point stores its share over zero. -/
theorem first_dgz (h0 : t.val % 32 = 0) (l : Fin 1024) : (outsAt0 m c t.val t.isLt).2.2.2.2.2.2.2.1 (ix2 0 l) = 0 + sgz m c t l := by
  rw [outsAt0_A m c t h0]
  dsimp only
  frame_open
  simp (disch := decide) only [↓ View.readCov_skip, ↓ View.readCov_cons_toLoadRect, ↓ View.readCov_fill]
  frame_out
  refine (add_dgz _ _ l).trans ?_
  rw [show (k0_pay2 : FVec Ideal _ _) (ix2 0 l) = 0 from by pointwise [k0_pay2]]
  exact congrArg (fun f : Fin 256 → EReal => _ + ∑ i, f i) (funext fun i => dgz_at _ _ _ _ _ _ (act_read _ _ _ _ _ _ _) i l)
/-- Every later point adds its share. -/
theorem later_dgz (h0 : ¬t.val % 32 = 0) (l : Fin 1024) :
    (outsAt0 m c t.val t.isLt).2.2.2.2.2.2.2.1 (ix2 0 l) = (outsAt0 m c (t.val - 1) (Nat.lt_of_le_of_lt (Nat.sub_le _ _) t.isLt)).2.2.2.2.2.2.2.1 (ix2 0 l) + sgz m c t l := by
  rw [outsAt0_B m c t h0]
  dsimp only
  frame_open
  simp (disch := decide) only [↓ View.readCov_skip, ↓ View.readCov_cons_toLoadRect, ↓ View.readCov_fill]
  frame_out
  refine (add_dgz _ _ l).trans ?_
  exact congrArg (fun f : Fin 256 → EReal => _ + ∑ i, f i) (funext fun i => dgz_at _ _ _ _ _ _ (act_read _ _ _ _ _ _ _) i l)
/-- The first point stores its share over zero. -/
theorem first_loss (h0 : t.val % 32 = 0) (l : Fin 128) : (outsAt0 m c t.val t.isLt).2.2.2.2.2.2.2.2 (ix2 0 l) = 0 + sloss m c t := by
  rw [outsAt0_A m c t h0]
  dsimp only
  frame_open
  simp (disch := decide) only [↓ View.readCov_skip, ↓ View.readCov_cons_toLoadRect, ↓ View.readCov_fill]
  frame_out
  refine (add_loss _ _ l).trans ?_
  rw [show (k0_pay3 : FVec Ideal _ _) (ix2 0 l) = 0 from by pointwise [k0_pay3]]
  exact congrArg (fun f : Fin 256 → Fin 1024 → EReal => _ + (∑ k, ∑ i, f i k * f i k) * _) (funext fun i => funext fun k => diff_at _ _ _ _ _ _ (act_read _ _ _ _ _ _ _) i k)
/-- Every later point adds its share. -/
theorem later_loss (h0 : ¬t.val % 32 = 0) (l : Fin 128) :
    (outsAt0 m c t.val t.isLt).2.2.2.2.2.2.2.2 (ix2 0 l) = (outsAt0 m c (t.val - 1) (Nat.lt_of_le_of_lt (Nat.sub_le _ _) t.isLt)).2.2.2.2.2.2.2.2 (ix2 0 l) + sloss m c t := by
  rw [outsAt0_B m c t h0]
  dsimp only
  frame_open
  simp (disch := decide) only [↓ View.readCov_skip, ↓ View.readCov_cons_toLoadRect, ↓ View.readCov_fill]
  frame_out
  refine (add_loss _ _ l).trans ?_
  exact congrArg (fun f : Fin 256 → Fin 1024 → EReal => _ + (∑ k, ∑ i, f i k * f i k) * _) (funext fun i => funext fun k => diff_at _ _ _ _ _ _ (act_read _ _ _ _ _ _ _) i k)

end Cert.FfnIdeal.Point

end
-- ==== Proof.FfnArr.lean ====
module

public import proofs.«01_k».proof.Proof.FfnOut
public import Idealize.ShloMosaic.Lib.Claim

@[expose] public section

set_option maxRecDepth 16384

noncomputable section

open Idealize.ShloMosaic Idealize.ShloMosaic.TcCoe Idealize.SL.Sem

namespace Cert.FfnIdeal.Arr

open Cert.FfnIdeal Cert.FfnIdeal.Gen Cert.FfnIdeal.Point Cert.FfnRow

/-! The arrays the run leaves, as functions of the arguments' rows. -/

/-- A sum over 8192 rows is the sum over 32 blocks of the sums over each block's 256 rows. -/
theorem rows (f : Fin 8192 → EReal) :
    (∑ t : Fin 32, ∑ i : Fin 256, f ⟨256 * t.val + i.val, by omega⟩) = ∑ s, f s := by
  rw [← Equiv.sum_comp (finProdFinEquiv (m := 32) (n := 256)) f, Fintype.sum_prod_type]
  refine Finset.sum_congr rfl fun k _ => Finset.sum_congr rfl fun i _ => congrArg f (Fin.ext ?_)
  exact Nat.add_comm _ _

/-- An accumulator the first point sets to its share and every later point adds its share to holds, after the last
    point, the sum of all the shares. -/
theorem total {N : ℕ} (o p : Fin N → EReal) (hN : N = 32) (first : ∀ t : Fin N, t.val % 32 = 0 → o t = 0 + p t)
    (later : ∀ t : Fin N, ¬t.val % 32 = 0 → o t = o ⟨t.val - 1, Nat.lt_of_le_of_lt (Nat.sub_le _ _) t.isLt⟩ + p t)
    (t : Fin N) (h : t.val % 32 = 31) : o t = ∑ u : Fin 32, p (Fin.cast hN.symm u) := by
  subst hN
  have key : ∀ n (hn : n < 32), o ⟨n, hn⟩ = ∑ u : Fin (n + 1), p ⟨u.val, by omega⟩ := by
    intro n
    induction n with
    | zero => intro hn; rw [Fin.sum_univ_one]; exact (first _ rfl).trans (zero_add _)
    | succ n ih =>
      intro hn
      rw [Fin.sum_univ_castSucc]
      exact (later _ (show ¬(n + 1) % 32 = 0 by omega)).trans (congrArg (· + _) (ih (by omega)))
  obtain ⟨n, hn⟩ := t
  obtain rfl : n = 31 := by dsimp only at h; omega
  exact key 31 hn

variable (m : (ℓ : Loc nD τ sig) → Buf (Elt Ideal) ℓ) (c : Dev nD)

/-- There are 32 points. -/
theorem lt (t : Fin cfg0.N) : t.val < 32 := lt_of_lt_of_eq t.isLt (show cfg0.N = 32 from N_0)

/-- The hidden state's block: the point's rows. -/
theorem idx0 : ∀ t : Fin cfg0.N, win0_0.index t = ![t.val, 0] := (by decide +kernel : ∀ t : Fin grid0.N, _)
/-- The target's block: the point's rows. -/
theorem idx1 : ∀ t : Fin cfg0.N, win0_1.index t = ![t.val, 0] := (by decide +kernel : ∀ t : Fin grid0.N, _)
/-- The layer's gain is one block. -/
theorem idx2 : ∀ t : Fin cfg0.N, win0_2.index t = ![0, 0] := (by decide +kernel : ∀ t : Fin grid0.N, _)
/-- The last gain is one block. -/
theorem idx3 : ∀ t : Fin cfg0.N, win0_3.index t = ![0, 0] := (by decide +kernel : ∀ t : Fin grid0.N, _)
/-- The gate and up weights are one block. -/
theorem idx4 : ∀ t : Fin cfg0.N, win0_4.index t = ![0, 0] := (by decide +kernel : ∀ t : Fin grid0.N, _)
/-- The down weights are one block. -/
theorem idx5 : ∀ t : Fin cfg0.N, win0_5.index t = ![0, 0] := (by decide +kernel : ∀ t : Fin grid0.N, _)
/-- The normalized rows' block: the point's rows. -/
theorem idx6 : ∀ t : Fin cfg0.N, win0_6.index t = ![t.val, 0] := (by decide +kernel : ∀ t : Fin grid0.N, _)
/-- The activations' block: the point's rows. -/
theorem idx7 : ∀ t : Fin cfg0.N, win0_7.index t = ![t.val, 0] := (by decide +kernel : ∀ t : Fin grid0.N, _)
/-- The block of the gradients at gate and up: the point's rows. -/
theorem idx8 : ∀ t : Fin cfg0.N, win0_8.index t = ![t.val, 0] := (by decide +kernel : ∀ t : Fin grid0.N, _)
/-- The block of the gradients at the layer's output: the point's rows. -/
theorem idx9 : ∀ t : Fin cfg0.N, win0_9.index t = ![t.val, 0] := (by decide +kernel : ∀ t : Fin grid0.N, _)
/-- The block of the gradients at the layer's input: the point's rows. -/
theorem idx10 : ∀ t : Fin cfg0.N, win0_10.index t = ![t.val, 0] := (by decide +kernel : ∀ t : Fin grid0.N, _)
/-- The block of their narrow copy: the point's rows. -/
theorem idx11 : ∀ t : Fin cfg0.N, win0_11.index t = ![t.val, 0] := (by decide +kernel : ∀ t : Fin grid0.N, _)
/-- The gradient of the layer's gain is one block. -/
theorem idx12 : ∀ t : Fin cfg0.N, win0_12.index t = ![0, 0] := (by decide +kernel : ∀ t : Fin grid0.N, _)
/-- The gradient of the last gain is one block. -/
theorem idx13 : ∀ t : Fin cfg0.N, win0_13.index t = ![0, 0] := (by decide +kernel : ∀ t : Fin grid0.N, _)
/-- The loss is one block. -/
theorem idx14 : ∀ t : Fin cfg0.N, win0_14.index t = ![0, 0] := (by decide +kernel : ∀ t : Fin grid0.N, _)

/-- An entry of the hidden state's block. -/
theorem blk0 (t : Fin cfg0.N) (i : Fin 256) (l : Fin 1024) :
    iblk m c 0 t (ix2 i l) = m ((c : Thread nD τ).loc main_arg0) (ix2 ⟨256 * t.val + i.val, by have := lt t; omega⟩ l) := by
  blk_ext [iblk, idx0 t]
/-- An entry of the target's block. -/
theorem blk1 (t : Fin cfg0.N) (i : Fin 256) (l : Fin 1024) :
    iblk m c 1 t (ix2 i l) = m ((c : Thread nD τ).loc main_arg1) (ix2 ⟨256 * t.val + i.val, by have := lt t; omega⟩ l) := by
  blk_ext [iblk, idx1 t]
/-- An entry of the layer's gain. -/
theorem blk2 (t : Fin cfg0.N) (l : Fin 1024) :
    iblk m c 2 t (ix2 0 l) = m ((c : Thread nD τ).loc main_arg2) (ix2 0 l) := by
  blk_ext [iblk, idx2 t]
/-- An entry of the last gain. -/
theorem blk3 (t : Fin cfg0.N) (l : Fin 1024) :
    iblk m c 3 t (ix2 0 l) = m ((c : Thread nD τ).loc main_arg3) (ix2 0 l) := by
  blk_ext [iblk, idx3 t]
/-- An entry of the gate and up weights, which the host casts and transposes. -/
theorem blk4 (t : Fin cfg0.N) (n : Fin 5632) (l : Fin 1024) :
    iblk m c 4 t (ix2 n l) = m ((c : Thread nD τ).loc main_arg4) (ix2 l n) := by
  blk_ext! [iblk, idx4 t]
/-- An entry of the down weights, which the host casts. -/
theorem blk5 (t : Fin cfg0.N) (n : Fin 2816) (l : Fin 1024) :
    iblk m c 5 t (ix2 n l) = m ((c : Thread nD τ).loc main_arg5) (ix2 n l) := by
  blk_ext! [iblk, idx5 t]

/-- The gains and weights of the run. -/
abbrev W : Par := pars (m ((c : Thread nD τ).loc main_arg2)) (m ((c : Thread nD τ).loc main_arg3)) (m ((c : Thread nD τ).loc main_arg4)) (m ((c : Thread nD τ).loc main_arg5))
/-- A row of the hidden state. -/
abbrev H (s : Fin 8192) : Lanes := line (m ((c : Thread nD τ).loc main_arg0)) s
/-- A row of the target. -/
abbrev T (s : Fin 8192) : Lanes := line (m ((c : Thread nD τ).loc main_arg1)) s

/-- The row of the arrays that a point's row is. -/
abbrev spot (t : Fin cfg0.N) (i : Fin 256) : Fin 8192 := ⟨256 * t.val + i.val, by have := lt t; omega⟩

/-- Every point reads the same gains and weights. -/
theorem par_eq (t : Fin cfg0.N) : P m c t = W m c :=
  Par.mk.injEq .. ▸ ⟨funext fun k => blk2 m c t k, funext fun k => blk3 m c t k, funext fun n => funext fun k => blk4 m c t n k,
    funext fun j => funext fun k => blk5 m c t j k⟩
/-- A point's row of the hidden state. -/
theorem hr_eq (t : Fin cfg0.N) (i : Fin 256) : hr m c t i = H m c (spot t i) := funext fun k => blk0 m c t i k
/-- A point's row of the target. -/
theorem tr_eq (t : Fin cfg0.N) (i : Fin 256) : tr m c t i = T m c (spot t i) := funext fun k => blk1 m c t i k

/-- A function of a row and a lane, at an index with these coordinates. -/
theorem two {a b : ℕ} (F : Fin a → Fin b → EReal) {s : Fin a} {l : Fin b} {x : (⟨2, ![a, b]⟩ : Shape).Idx} (h : ix2 s l = x) :
    F s l = F (x 0) (x 1) := by
  subst h
  rfl
/-- A function of a lane, at an index with this coordinate. -/
theorem lane {a b : ℕ} (F : Fin b → EReal) {s : Fin a} {l : Fin b} {x : (⟨2, ![a, b]⟩ : Shape).Idx} (h : ix2 s l = x) :
    F l = F (x 1) := by
  subst h
  rfl

/-- The normalized rows. -/
theorem arr6 : (dats m 0 c).arrAt 6 cfg0.N = fun x => (W m c).f (H m c (x 0)) (x 1) := by
  refine (dats m 0 c).arrAt_eq_of_covers 6 _ (by decide +kernel) fun t hf y => ?_
  blk_simp
  rw [after0_6]
  obtain ⟨i, l, rfl⟩ : ∃ (i : Fin 256) (l : Fin 1024), y = ix2 i l := ⟨y 0, y 1, by blk_ext⟩
  refine (out_f m c t i l).trans ?_
  rw [par_eq, hr_eq]
  exact two (fun s l => (W m c).f (H m c s) l) (show ix2 (spot t i) l = (win0_6.blk t).view.emb (ix2 i l) from by blk_ext [idx6 t])
/-- The activations. -/
theorem arr7 : (dats m 0 c).arrAt 7 cfg0.N = fun x => (W m c).act (H m c (x 0)) (x 1) := by
  refine (dats m 0 c).arrAt_eq_of_covers 7 _ (by decide +kernel) fun t hf y => ?_
  blk_simp
  rw [after0_7]
  obtain ⟨i, l, rfl⟩ : ∃ (i : Fin 256) (l : Fin 2816), y = ix2 i l := ⟨y 0, y 1, by blk_ext⟩
  refine (out_act m c t i l).trans ?_
  rw [par_eq, hr_eq]
  exact two (fun s l => (W m c).act (H m c s) l) (show ix2 (spot t i) l = (win0_7.blk t).view.emb (ix2 i l) from by blk_ext [idx7 t])
/-- The gradients at gate and up. -/
theorem arr8 : (dats m 0 c).arrAt 8 cfg0.N = fun x => (W m c).dgu (H m c (x 0)) (T m c (x 0)) (x 1) := by
  refine (dats m 0 c).arrAt_eq_of_covers 8 _ (by decide +kernel) fun t hf y => ?_
  blk_simp
  rw [after0_8]
  obtain ⟨i, l, rfl⟩ : ∃ (i : Fin 256) (l : Fin 5632), y = ix2 i l := ⟨y 0, y 1, by blk_ext⟩
  refine (out_dgu m c t i l).trans ?_
  rw [par_eq, hr_eq, tr_eq]
  exact two (fun s l => (W m c).dgu (H m c s) (T m c s) l) (show ix2 (spot t i) l = (win0_8.blk t).view.emb (ix2 i l) from by blk_ext [idx8 t])
/-- The gradients at the layer's output. -/
theorem arr9 : (dats m 0 c).arrAt 9 cfg0.N = fun x => (W m c).dh3 (H m c (x 0)) (T m c (x 0)) (x 1) := by
  refine (dats m 0 c).arrAt_eq_of_covers 9 _ (by decide +kernel) fun t hf y => ?_
  blk_simp
  rw [after0_9]
  obtain ⟨i, l, rfl⟩ : ∃ (i : Fin 256) (l : Fin 1024), y = ix2 i l := ⟨y 0, y 1, by blk_ext⟩
  refine (out_dh3 m c t i l).trans ?_
  rw [par_eq, hr_eq, tr_eq]
  exact two (fun s l => (W m c).dh3 (H m c s) (T m c s) l) (show ix2 (spot t i) l = (win0_9.blk t).view.emb (ix2 i l) from by blk_ext [idx9 t])
/-- The gradients at the layer's input. -/
theorem arr10 : (dats m 0 c).arrAt 10 cfg0.N = fun x => (W m c).dh2 (H m c (x 0)) (T m c (x 0)) (x 1) := by
  refine (dats m 0 c).arrAt_eq_of_covers 10 _ (by decide +kernel) fun t hf y => ?_
  blk_simp
  rw [after0_10]
  obtain ⟨i, l, rfl⟩ : ∃ (i : Fin 256) (l : Fin 1024), y = ix2 i l := ⟨y 0, y 1, by blk_ext⟩
  refine (out_dh2 m c t i l).trans ?_
  rw [par_eq, hr_eq, tr_eq]
  exact two (fun s l => (W m c).dh2 (H m c s) (T m c s) l) (show ix2 (spot t i) l = (win0_10.blk t).view.emb (ix2 i l) from by blk_ext [idx10 t])
/-- Their narrow copy. -/
theorem arr11 : (dats m 0 c).arrAt 11 cfg0.N = fun x => (W m c).dh2 (H m c (x 0)) (T m c (x 0)) (x 1) := by
  refine (dats m 0 c).arrAt_eq_of_covers 11 _ (by decide +kernel) fun t hf y => ?_
  blk_simp
  rw [after0_11]
  obtain ⟨i, l, rfl⟩ : ∃ (i : Fin 256) (l : Fin 1024), y = ix2 i l := ⟨y 0, y 1, by blk_ext⟩
  refine (out_dh2b m c t i l).trans ?_
  rw [par_eq, hr_eq, tr_eq]
  exact two (fun s l => (W m c).dh2 (H m c s) (T m c s) l) (show ix2 (spot t i) l = (win0_11.blk t).view.emb (ix2 i l) from by blk_ext [idx11 t])
/-- The gradient of the layer's gain: the sum over the rows. -/
theorem arr12 : (dats m 0 c).arrAt 12 cfg0.N = fun x => ∑ s, (W m c).dgf (H m c s) (T m c s) (x 1) := by
  refine (dats m 0 c).arrAt_eq_of_covers 12 _ (by decide +kernel) fun t hf y => ?_
  have h := (flush0_12 t).mp hf
  blk_simp
  rw [after0_12]
  obtain ⟨i, l, rfl⟩ : ∃ (i : Fin 1) (l : Fin 1024), y = ix2 i l := ⟨y 0, y 1, by blk_ext⟩
  obtain rfl : i = 0 := Subsingleton.elim _ _
  refine (total (fun t => (outsAt0 m c t.val t.isLt).2.2.2.2.2.2.1 (ix2 0 l)) (fun t => sgf m c t l) N_0 (fun t h => first_dgf m c t h l)
    (fun t h => later_dgf m c t h l) t h).trans ?_
  refine Eq.trans (Finset.sum_congr rfl fun u _ => Finset.sum_congr rfl fun i _ => ?_)
    ((rows fun s => (W m c).dgf (H m c s) (T m c s) l).trans (lane (fun l => ∑ s, (W m c).dgf (H m c s) (T m c s) l)
      (show ix2 0 l = (win0_12.blk t).view.emb (ix2 0 l) from by blk_ext [idx12 t])))
  rw [par_eq, hr_eq, tr_eq]
  rfl
/-- The gradient of the last gain: the sum over the rows. -/
theorem arr13 : (dats m 0 c).arrAt 13 cfg0.N = fun x => ∑ s, (W m c).dgz (H m c s) (T m c s) (x 1) := by
  refine (dats m 0 c).arrAt_eq_of_covers 13 _ (by decide +kernel) fun t hf y => ?_
  have h := (flush0_13 t).mp hf
  blk_simp
  rw [after0_13]
  obtain ⟨i, l, rfl⟩ : ∃ (i : Fin 1) (l : Fin 1024), y = ix2 i l := ⟨y 0, y 1, by blk_ext⟩
  obtain rfl : i = 0 := Subsingleton.elim _ _
  refine (total (fun t => (outsAt0 m c t.val t.isLt).2.2.2.2.2.2.2.1 (ix2 0 l)) (fun t => sgz m c t l) N_0 (fun t h => first_dgz m c t h l)
    (fun t h => later_dgz m c t h l) t h).trans ?_
  refine Eq.trans (Finset.sum_congr rfl fun u _ => Finset.sum_congr rfl fun i _ => ?_)
    ((rows fun s => (W m c).dgz (H m c s) (T m c s) l).trans (lane (fun l => ∑ s, (W m c).dgz (H m c s) (T m c s) l)
      (show ix2 0 l = (win0_13.blk t).view.emb (ix2 0 l) from by blk_ext [idx13 t])))
  rw [par_eq, hr_eq, tr_eq]
  rfl
/-- The loss, as the blocks' shares in turn. -/
theorem arr14 : (dats m 0 c).arrAt 14 cfg0.N = fun _ => ∑ u : Fin 32, (∑ k, ∑ i : Fin 256,
      (W m c).diff (H m c ⟨256 * u.val + i.val, by omega⟩) (T m c ⟨256 * u.val + i.val, by omega⟩) k
        * (W m c).diff (H m c ⟨256 * u.val + i.val, by omega⟩) (T m c ⟨256 * u.val + i.val, by omega⟩) k) * Ideal.ofBits .f32 0x3A000000#32 := by
  refine (dats m 0 c).arrAt_eq_of_covers 14 _ (by decide +kernel) fun t hf y => ?_
  have h := (flush0_14 t).mp hf
  blk_simp
  rw [after0_14]
  obtain ⟨i, l, rfl⟩ : ∃ (i : Fin 1) (l : Fin 128), y = ix2 i l := ⟨y 0, y 1, by blk_ext⟩
  obtain rfl : i = 0 := Subsingleton.elim _ _
  refine (total (fun t => (outsAt0 m c t.val t.isLt).2.2.2.2.2.2.2.2 (ix2 0 l)) (fun t => sloss m c t) N_0 (fun t h => first_loss m c t h l)
    (fun t h => later_loss m c t h l) t h).trans ?_
  refine Finset.sum_congr rfl fun u _ => congrArg (· * _) (Finset.sum_congr rfl fun k _ => Finset.sum_congr rfl fun i _ => ?_)
  rw [par_eq, hr_eq, tr_eq]
  rfl

end Cert.FfnIdeal.Arr

end
-- ==== Proof.FfnReal.lean ====
module

public import proofs.«01_k».proof.Proof.FfnRow

@[expose] public section

set_option maxRecDepth 16384

noncomputable section

open Idealize.ShloMosaic

namespace Cert.FfnRow

/-! Over real arguments every quantity of a row is real, and the gradients in the reference's order of operations are
    the kernel's. -/

/-- A real number. -/
def Re (x : EReal) : Prop := ∃ r : ℝ, x = r

/-- A sum of real numbers. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The word is 1024. -/
theorem ofBits_1024 : Ideal.ofBits .f32 0x44800000#32 = ((1024 : ℝ) : EReal) := by simp [Ideal.ofBits, Ideal.ieee, -EReal.coe_mul]; norm_num
/-- The word is the epsilon of the mean square. -/
theorem ofBits_eps : Ideal.ofBits .f32 0x358637BD#32 = ((8796093 / 2 ^ 43 : ℝ) : EReal) := by simp [Ideal.ofBits, Ideal.ieee, -EReal.coe_mul]; norm_num
/-- The word is one over 1024. -/
theorem ofBits_r1024 : Ideal.ofBits .f32 0x3A800000#32 = ((1 / 1024 : ℝ) : EReal) := by simp [Ideal.ofBits, Ideal.ieee, -EReal.coe_mul]; norm_num
/-- The word is one over 2048. -/
theorem ofBits_r2048 : Ideal.ofBits .f32 0x3A000000#32 = ((1 / 2048 : ℝ) : EReal) := by simp [Ideal.ofBits, Ideal.ieee, -EReal.coe_mul]; norm_num
/-- The word is one half. -/
theorem ofBits_half : Ideal.ofBits .f32 0x3F000000#32 = ((1 / 2 : ℝ) : EReal) := by simp [Ideal.ofBits, Ideal.ieee, -EReal.coe_mul]; norm_num
/-- The word is minus one half. -/
theorem ofBits_neghalf : Ideal.ofBits .f32 0xBF000000#32 = ((-(1 / 2) : ℝ) : EReal) := by simp [Ideal.ofBits, Ideal.ieee, -EReal.coe_mul]; norm_num
/-- The word is two. -/
theorem ofBits_two : Ideal.ofBits .f32 0x40000000#32 = ((2 : ℝ) : EReal) := by simp [Ideal.ofBits, Ideal.ieee, -EReal.coe_mul]; norm_num

/-- A sum of two reals is real. -/
theorem Re.add {x y : EReal} : Re x → Re y → Re (x + y) := fun ⟨a, ha⟩ ⟨b, hb⟩ => ⟨a + b, by rw [ha, hb, EReal.coe_add]⟩
/-- A difference of two reals is real. -/
theorem Re.sub {x y : EReal} : Re x → Re y → Re (x - y) := fun ⟨a, ha⟩ ⟨b, hb⟩ => ⟨a - b, by rw [ha, hb, EReal.coe_sub]⟩
/-- A product of two reals is real. -/
theorem Re.mul {x y : EReal} : Re x → Re y → Re (x * y) := fun ⟨a, ha⟩ ⟨b, hb⟩ => ⟨a * b, by rw [ha, hb, EReal.coe_mul]⟩
/-- A sum of reals is real. -/
theorem Re.sum {ι : Type} {s : Finset ι} {f : ι → EReal} (h : ∀ i, Re (f i)) : Re (∑ i ∈ s, f i) := by
  choose r hr using h
  exact ⟨∑ i ∈ s, r i, by rw [coe_sum]; exact Finset.sum_congr rfl fun i _ => hr i⟩
/-- A quotient of a real by 1024. -/
theorem div_1024 (x : ℝ) : Ideal.div (x : EReal) (Ideal.ofBits .f32 0x44800000#32) = ((x / 1024 : ℝ) : EReal) := by
  rw [ofBits_1024, Ideal.div_coe (by norm_num), ← EReal.coe_mul, mul_one_div]
/-- A quotient of a real by 1024 is real. -/
theorem Re.div {x : EReal} : Re x → Re (Ideal.div x (Ideal.ofBits .f32 0x44800000#32)) := fun ⟨a, ha⟩ => ⟨a / 1024, by rw [ha, div_1024]⟩
/-- The logistic function of a real is real. -/
theorem Re.logistic {x : EReal} : Re x → Re (Ideal.logistic x) := fun ⟨a, ha⟩ => ⟨_, by rw [ha, Ideal.logistic_coe]⟩

/-- The mean square of a real row plus epsilon is positive, and its reciprocal square root is real. -/
theorem rms_spec {h : Lanes} (hh : ∀ k, Re (h k)) : ∃ x : ℝ, 0 < x ∧ ms h = x ∧ rms h = ((Real.sqrt x)⁻¹ : ℝ) := by
  choose r hr using hh
  have e : ms h = ((∑ k, r k * r k) / 1024 + 8796093 / 2 ^ 43 : ℝ) := by
    rw [ms, ofBits_eps, EReal.coe_add, ← div_1024, coe_sum]
    simp only [hr, EReal.coe_mul]
  have p : 0 < (∑ k, r k * r k) / 1024 + 8796093 / 2 ^ 43 :=
    add_pos_of_nonneg_of_pos (div_nonneg (Finset.sum_nonneg fun k _ => mul_self_nonneg _) (by norm_num)) (by norm_num)
  exact ⟨_, p, e, by rw [rms, e, Ideal.rsqrt_coe, if_neg (not_lt.mpr p.le), if_neg p.ne']⟩
/-- The reciprocal root mean square of a real row is real. -/
theorem Re.rms {h : Lanes} (hh : ∀ k, Re (h k)) : Re (rms h) := let ⟨_, _, _, e⟩ := rms_spec hh; ⟨_, e⟩
/-- The gradient through a normalisation is real. -/
theorem Re.back {h t : Lanes} (hh : ∀ k, Re (h k)) (ht : ∀ k, Re (t k)) (l : Fin 1024) : Re (back h t l) :=
  ((Re.rms hh).mul (ht l)).sub (((hh l).mul (((Re.rms hh).mul (Re.rms hh)).mul (Re.rms hh))).mul (Re.sum fun k => (ht k).mul (hh k)).div)

/-- The gradient of the mean square, halved and doubled, as differentiation gives it. -/
def share (h t : Lanes) : EReal :=
  Ideal.div ((∑ k, h k * t k) * (Ideal.ofBits .f32 0xBF000000#32 * Ideal.div (rms h) (ms h))) (Ideal.ofBits .f32 0x44800000#32)
/-- The gradient through a normalisation as differentiation gives it: the part through the row itself, then the mean
    square's share twice. -/
theorem back_form {h t : Lanes} (hh : ∀ k, Re (h k)) (ht : ∀ k, Re (t k)) (l : Fin 1024) :
    t l * rms h + h l * share h t + share h t * h l = back h t l := by
  obtain ⟨x, hx, em, er⟩ := rms_spec hh
  choose a ha using hh
  choose b hb using ht
  have s1 : ∑ k, h k * t k = ((∑ k, b k * a k : ℝ) : EReal) := by
    rw [coe_sum]
    exact Finset.sum_congr rfl fun k _ => by rw [ha, hb, mul_comm, EReal.coe_mul]
  have s2 : ∑ k, t k * h k = ((∑ k, b k * a k : ℝ) : EReal) := by
    rw [coe_sum]
    exact Finset.sum_congr rfl fun k _ => by rw [ha, hb, EReal.coe_mul]
  have q : (Real.sqrt x)⁻¹ * (Real.sqrt x)⁻¹ = 1 / x := by rw [← mul_inv, Real.mul_self_sqrt hx.le, one_div]
  rw [share, back, s1, s2, em, er, ha, hb, Ideal.div_coe hx.ne', ofBits_neghalf]
  simp only [← EReal.coe_mul, div_1024]
  norm_cast
  rw [q]
  ring

/-- A gate's gradient as differentiation gives it. -/
theorem gate_form {g u d : EReal} (hg : Re g) (hu : Re u) (hd : Re d) :
    d * u * Ideal.logistic g + g * (d * u) * (Ideal.logistic g * (1 - Ideal.logistic g)) = gate g u d := by
  obtain ⟨s, hs⟩ := hg.logistic
  obtain ⟨g', rfl⟩ := hg
  obtain ⟨u, rfl⟩ := hu
  obtain ⟨d, rfl⟩ := hd
  rw [gate, hs, ← EReal.coe_one]
  norm_cast
  ring

/-- The gains, the weights, a row and its target are real. -/
structure Par.Real (P : Par) (h tg : Lanes) : Prop where
  (gf : ∀ l, Re (P.gf l)) (gz : ∀ l, Re (P.gz l)) (wgu : ∀ n l, Re (P.wgu n l)) (wd : ∀ j l, Re (P.wd j l))
  (h : ∀ l, Re (h l)) (tg : ∀ l, Re (tg l))

namespace Par.Real
variable {P : Par} {h tg : Lanes} (R : P.Real h tg)
include R

/-- Gates and up projections are real. -/
theorem r_gu (n : Fin 5632) : Re (P.gu h n) := Re.sum fun k => (((R.h k).mul (Re.rms R.h)).mul (R.gf k)).mul (R.wgu n k)
/-- The row after the layer is real. -/
theorem r_h3 (l : Fin 1024) : Re (P.h3 h l) :=
  (R.h l).add (Re.sum fun j => (((R.r_gu _).mul (R.r_gu _).logistic).mul (R.r_gu _)).mul (R.wd j l))
/-- The distance from the target is real. -/
theorem r_diff (l : Fin 1024) : Re (P.diff h tg l) := (((R.r_h3 l).mul (Re.rms R.r_h3)).mul (R.gz l)).sub (R.tg l)
/-- Its gradient is real. -/
theorem r_dy (l : Fin 1024) : Re (P.dy h tg l) := (R.r_diff l).mul ⟨_, ofBits_r1024⟩
/-- The gradient of the row after the layer is real. -/
theorem r_dh3 (l : Fin 1024) : Re (P.dh3 h tg l) := Re.back R.r_h3 (fun k => (R.r_dy k).mul (R.gz k)) l
/-- The gradient of the activation is real. -/
theorem r_dact (j : Fin 2816) : Re (P.dact h tg j) := Re.sum fun k => (R.r_dh3 k).mul (R.wd j k)
/-- The gradient of the gates and up projections is real. -/
theorem r_dgu (n : Fin 5632) : Re (P.dgu h tg n) := by
  unfold Par.dgu
  split
  · exact ((R.r_dact _).mul (R.r_gu _)).mul ((R.r_gu _).logistic.mul (Re.add ⟨1, rfl⟩ ((R.r_gu _).mul (Re.sub ⟨1, rfl⟩ (R.r_gu _).logistic))))
  · exact (R.r_dact _).mul ((R.r_gu _).mul (R.r_gu _).logistic)
/-- The gradient of the normalised row is real. -/
theorem r_df (l : Fin 1024) : Re (P.df h tg l) := Re.sum fun n => (R.r_dgu n).mul (R.wgu n l)

/-- The gradient of the distance, as half of twice it over the number of lanes. -/
theorem dy_form (l : Fin 1024) : Ideal.div (Ideal.ofBits .f32 0x3F000000#32 * 1) (Ideal.ofBits .f32 0x44800000#32)
    * (Ideal.ofBits .f32 0x40000000#32 * P.diff h tg l) = P.dy h tg l := by
  obtain ⟨d, e⟩ := R.r_diff l
  rw [Par.dy, e, mul_one, ofBits_half, div_1024, ofBits_two, ofBits_r1024]
  norm_cast
  ring
/-- The gradient of the row after the layer, as differentiation gives it. -/
theorem dh3_form (l : Fin 1024) : P.dy h tg l * P.gz l * rms (P.h3 h) + P.h3 h l * share (P.h3 h) (fun k => P.dy h tg k * P.gz k)
    + share (P.h3 h) (fun k => P.dy h tg k * P.gz k) * P.h3 h l = P.dh3 h tg l :=
  back_form (t := fun k => P.dy h tg k * P.gz k) R.r_h3 (fun k => (R.r_dy k).mul (R.gz k)) l
/-- The gradient of the row, as differentiation gives it. -/
theorem dh2_form (l : Fin 1024) : P.dh3 h tg l + P.df h tg l * P.gf l * rms h + h l * share h (fun k => P.df h tg k * P.gf k)
    + share h (fun k => P.df h tg k * P.gf k) * h l = P.dh2 h tg l := by
  rw [add_assoc, add_assoc, Par.dh2, ← back_form (t := fun k => P.df h tg k * P.gf k) R.h (fun k => (R.r_df k).mul (R.gf k)) l, add_assoc]
/-- The gradient at a gate, as differentiation gives it. -/
theorem dgate_form (j : Fin 2816) : P.dact h tg j * P.gu h (hi j) * Ideal.logistic (P.gu h (lo j))
    + P.gu h (lo j) * (P.dact h tg j * P.gu h (hi j)) * (Ideal.logistic (P.gu h (lo j)) * (1 - Ideal.logistic (P.gu h (lo j))))
      = gate (P.gu h (lo j)) (P.gu h (hi j)) (P.dact h tg j) := gate_form (R.r_gu _) (R.r_gu _) (R.r_dact j)
end Par.Real

/-- Half the sum over the rows of the mean squares is the sum of the blocks' shares. -/
theorem loss_form (d : Fin 8192 → Lanes) (hd : ∀ s k, Re (d s k)) :
    Ideal.ofBits .f32 0x3F000000#32 * ∑ s, Ideal.div (∑ k, d s k * d s k) (Ideal.ofBits .f32 0x44800000#32)
      = ∑ u : Fin 32, (∑ k, ∑ i : Fin 256, d ⟨256 * u.val + i.val, by omega⟩ k * d ⟨256 * u.val + i.val, by omega⟩ k) * Ideal.ofBits .f32 0x3A000000#32 := by
  choose r hr using hd
  have e1 : ∀ s, Ideal.div (∑ k, d s k * d s k) (Ideal.ofBits .f32 0x44800000#32) = (((∑ k, r s k * r s k) / 1024 : ℝ) : EReal) := fun s => by
    rw [← div_1024, coe_sum]
    simp only [hr, EReal.coe_mul]
  rw [Finset.sum_congr rfl fun s _ => e1 s]
  simp only [hr]
  simp only [ofBits_half, ofBits_r2048, ← EReal.coe_mul, ← coe_sum]
  refine congrArg (fun x : ℝ => (x : EReal)) ?_
  rw [← Equiv.sum_comp (finProdFinEquiv (m := 32) (n := 256)) fun s : Fin 8192 => (∑ k, r s k * r s k) / 1024, Fintype.sum_prod_type, Finset.mul_sum]
  refine Finset.sum_congr rfl fun u _ => ?_
  rw [Finset.sum_comm, Finset.mul_sum, Finset.sum_mul]
  refine Finset.sum_congr rfl fun i _ => ?_
  have es : (finProdFinEquiv (u, i) : Fin 8192) = ⟨256 * u.val + i.val, by omega⟩ := Fin.ext (Nat.add_comm _ _)
  rw [es]
  ring

end Cert.FfnRow

end
-- ==== Proof.FfnRef.lean ====
module

public import proofs.«01_k».proof.Proof.FfnReal
public import proofs.«01_k».proof.Proof.Gen.FfnRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnRefIdeal.Stage

open Cert.FfnRefIdeal Cert.FfnRefIdeal.Gen Cert.FfnRefIdeal.Value Cert.FfnRow

/-! The reference's stages at an element, as functions of the arguments' rows. -/

variable (V : Valuation τ sig (Elt Ideal))

/-- The gains and weights. -/
abbrev W : Par := pars (V (Proc.devRef .tc main_arg2)) (V (Proc.devRef .tc main_arg3)) (V (Proc.devRef .tc main_arg4)) (V (Proc.devRef .tc main_arg5))
/-- A row of the hidden state. -/
abbrev H (s : Fin 8192) : Lanes := line (V (Proc.devRef .tc main_arg0)) s
/-- A row of the target. -/
abbrev T (s : Fin 8192) : Lanes := line (V (Proc.devRef .tc main_arg1)) s

/-- The mean square plus epsilon. -/
theorem v8_at (s : Fin 8192) : res_main_v8 V (ix2 s 0) = ms (H V s) := by
  pointwise [res_main_v8]
  rfl
/-- The reciprocal root mean square. -/
theorem v9_at (s : Fin 8192) : res_main_v9 V (ix2 s 0) = rms (H V s) := by
  pointwise [res_main_v9]
  rw [v8_at]
  rfl
/-- The row over its root mean square. -/
theorem v14_at (s : Fin 8192) (l : Fin 1024) : res_main_v14 V (ix2 s l) = H V s l * rms (H V s) := by
  pointwise [res_main_v14]
  rw [v9_at]
  rfl
/-- The normalised row. -/
theorem v16_at (s : Fin 8192) (l : Fin 1024) : res_main_v16 V (ix2 s l) = (W V).f (H V s) l := by
  pointwise [res_main_v16]
  rw [v14_at]
  rfl
/-- Gates and up projections. -/
theorem v18_at (s : Fin 8192) (n : Fin 5632) : res_main_v18 V (ix2 s n) = (W V).gu (H V s) n := by
  pointwise [res_main_v18]
  simp only [v16_at]
  rfl
/-- The gates. -/
theorem v19_at (s : Fin 8192) (j : Fin 2816) : res_main_v19 V (ix2 s j) = (W V).gu (H V s) (lo j) := by
  pointwise [res_main_v19]
  rw [v18_at]
  rfl
/-- The up projections. -/
theorem v20_at (s : Fin 8192) (j : Fin 2816) : res_main_v20 V (ix2 s j) = (W V).gu (H V s) (hi j) := by
  pointwise [res_main_v20]
  rw [v18_at]
  rfl
/-- The gates' logistic values. -/
theorem v21_2_at (s : Fin 8192) (j : Fin 2816) : res_main_v21_2 V (ix2 s j) = Ideal.logistic ((W V).gu (H V s) (lo j)) := by
  pointwise [res_main_v21_2]
  rw [v19_at]
  rfl
/-- The gates times them. -/
theorem v21_0_at (s : Fin 8192) (j : Fin 2816) :
    res_main_v21_0 V (ix2 s j) = (W V).gu (H V s) (lo j) * Ideal.logistic ((W V).gu (H V s) (lo j)) := by
  pointwise [res_main_v21_0]
  rw [v19_at, v21_2_at]
/-- The activation. -/
theorem v22_at (s : Fin 8192) (j : Fin 2816) : res_main_v22 V (ix2 s j) = (W V).act (H V s) j := by
  pointwise [res_main_v22]
  rw [v21_0_at, v20_at]
  rfl
/-- The row after the layer. -/
theorem v25_at (s : Fin 8192) (l : Fin 1024) : res_main_v25 V (ix2 s l) = (W V).h3 (H V s) l := by
  pointwise [res_main_v25]
  simp only [v22_at]
  rfl

/-- The mean square of the row after the layer, plus epsilon. -/
theorem v32_at (s : Fin 8192) : res_main_v32 V (ix2 s 0) = ms ((W V).h3 (H V s)) := by
  pointwise [res_main_v32]
  simp only [v25_at]
  rfl
/-- Its reciprocal square root. -/
theorem v33_at (s : Fin 8192) : res_main_v33 V (ix2 s 0) = rms ((W V).h3 (H V s)) := by
  pointwise [res_main_v33]
  rw [v32_at]
  rfl
/-- The row after the layer over its root mean square. -/
theorem v38_at (s : Fin 8192) (l : Fin 1024) : res_main_v38 V (ix2 s l) = (W V).h3 (H V s) l * rms ((W V).h3 (H V s)) := by
  pointwise [res_main_v38]
  rw [v25_at, v33_at]
/-- The distance from the target. -/
theorem v41_at (s : Fin 8192) (l : Fin 1024) : res_main_v41 V (ix2 s l) = (W V).diff (H V s) (T V s) l := by
  pointwise [res_main_v41]
  rw [v38_at]
  rfl

variable {V} (R : ∀ s, (W V).Real (H V s) (T V s))
include R

/-- The gradient of the distance. -/
theorem v55_at (s : Fin 8192) (l : Fin 1024) : res_main_v55 V (ix2 s l) = (W V).dy (H V s) (T V s) l := by
  rw [← (R s).dy_form]
  pointwise [res_main_v55]
  rw [v41_at]
/-- It times the last gain. -/
theorem v60_at (s : Fin 8192) (l : Fin 1024) : res_main_v60 V (ix2 s l) = (W V).dy (H V s) (T V s) l * (W V).gz l := by
  pointwise [res_main_v60]
  rw [v55_at R]
  rfl
/-- The share of the second norm's mean square. -/
theorem v70_at (s : Fin 8192) (l : Fin 1024) :
    res_main_v70 V (ix2 s l) = share ((W V).h3 (H V s)) (fun k => (W V).dy (H V s) (T V s) k * (W V).gz k) := by
  pointwise [res_main_v70]
  rw [Fin.sum_univ_one, v32_at, v33_at]
  simp only [v25_at, v60_at R]
  rfl
/-- The gradient of the row after the layer. -/
theorem v74_at (s : Fin 8192) (l : Fin 1024) : res_main_v74 V (ix2 s l) = (W V).dh3 (H V s) (T V s) l := by
  rw [← (R s).dh3_form]
  pointwise [res_main_v74]
  rw [v60_at R, v70_at R, v25_at, v33_at]
/-- The gradient of the activation. -/
theorem v75_at (s : Fin 8192) (j : Fin 2816) : res_main_v75 V (ix2 s j) = (W V).dact (H V s) (T V s) j := by
  pointwise [res_main_v75]
  simp only [v74_at R]
  rfl
/-- It times the up projection. -/
theorem v77_at (s : Fin 8192) (j : Fin 2816) : res_main_v77 V (ix2 s j) = (W V).dact (H V s) (T V s) j * (W V).gu (H V s) (hi j) := by
  pointwise [res_main_v77]
  rw [v75_at R, v20_at]
/-- The gradient of the gates and up projections. -/
theorem v79_at (s : Fin 8192) (n : Fin 5632) : res_main_v79 V (ix2 s n) = (W V).dgu (H V s) (T V s) n := by
  pointwise [res_main_v79]
  simp only [v77_at R, v75_at R, v21_2_at, v21_0_at, v19_at]
  unfold Par.dgu
  split
  · exact (R s).dgate_form _
  · exact mul_comm (G := EReal) _ _
/-- The gradient of the normalised row. -/
theorem v80_at (s : Fin 8192) (l : Fin 1024) : res_main_v80 V (ix2 s l) = (W V).df (H V s) (T V s) l := by
  pointwise [res_main_v80]
  simp only [v79_at R]
  rfl
/-- It times the layer's gain. -/
theorem v85_at (s : Fin 8192) (l : Fin 1024) : res_main_v85 V (ix2 s l) = (W V).df (H V s) (T V s) l * (W V).gf l := by
  pointwise [res_main_v85]
  rw [v80_at R]
  rfl
/-- The share of the first norm's mean square. -/
theorem v96_at (s : Fin 8192) (l : Fin 1024) :
    res_main_v96 V (ix2 s l) = share (H V s) (fun k => (W V).df (H V s) (T V s) k * (W V).gf k) := by
  pointwise [res_main_v96]
  rw [Fin.sum_univ_one, v8_at, v9_at]
  simp only [v85_at R]
  rfl

/-- The gradient of the row. -/
theorem v100_at (s : Fin 8192) (l : Fin 1024) :
    addf (addf (addf (res_main_v74 V) (mulf (res_main_v85 V) (broadcastInDim S8192x1024 ![0, 1] bcast_S8192x1_S8192x1024_0_1 (res_main_v9 V))))
      (mulf (V (Proc.devRef .tc main_arg0)) (res_main_v96 V))) (mulf (res_main_v96 V) (V (Proc.devRef .tc main_arg0))) (ix2 s l)
      = (W V).dh2 (H V s) (T V s) l := by
  rw [← (R s).dh2_form]
  pointwise
  rw [v74_at R, v85_at R, v9_at, v96_at R]
  rfl
/-- The gradient of the layer's gain. -/
theorem v83_at (l : Fin 1024) :
    (shapeCast _ (Host.reduceAdd (mulf (res_main_v14 V) (res_main_v80 V)) (constant S_ .f32 0x00000000#32) reducesTo_S8192x1024_S1024_d0 h_S_) shapeCasts_S1024_S1x1024 : FVec Ideal S1x1024 .f32) (ix2 0 l)
      = ∑ s, (W V).dgf (H V s) (T V s) l := by
  pointwise
  refine Finset.sum_congr rfl fun s _ => ?_
  rw [v14_at, v80_at R, mul_comm, ← mul_assoc]
  rfl
/-- The gradient of the last gain. -/
theorem v58_at (l : Fin 1024) :
    (shapeCast _ (Host.reduceAdd (mulf (res_main_v38 V) (res_main_v55 V)) (constant S_ .f32 0x00000000#32) reducesTo_S8192x1024_S1024_d0 h_S_) shapeCasts_S1024_S1x1024 : FVec Ideal S1x1024 .f32) (ix2 0 l)
      = ∑ s, (W V).dgz (H V s) (T V s) l := by
  pointwise
  refine Finset.sum_congr rfl fun s _ => ?_
  rw [v38_at, v55_at R, mul_comm, ← mul_assoc]
  rfl
/-- The loss. -/
theorem v106_at (l : Fin 128) :
    (broadcastInDim S1x128 ![] bcast_S_S1x128 (mulf (constant S_ .f32 0x3F000000#32) (Host.reduceAdd (Host.divf (Host.reduceAdd (mulf (res_main_v41 V) (res_main_v41 V)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) : FVec Ideal S1x128 .f32) (ix2 0 l)
      = ∑ u : Fin 32, (∑ k, ∑ i : Fin 256, (W V).diff (H V ⟨256 * u.val + i.val, by omega⟩) (T V ⟨256 * u.val + i.val, by omega⟩) k
        * (W V).diff (H V ⟨256 * u.val + i.val, by omega⟩) (T V ⟨256 * u.val + i.val, by omega⟩) k) * Ideal.ofBits .f32 0x3A000000#32 := by
  refine Eq.trans ?_ (loss_form (fun s => (W V).diff (H V s) (T V s)) fun s k => (R s).r_diff k)
  pointwise
  simp only [v41_at]

/-! The results as arrays. -/

omit R in
/-- The normalised rows. -/
theorem all_f : (truncf .bf16 (res_main_v16 V) bitsLt_bf16_f32 : FVec Ideal S8192x1024 .bf16) = fun x => (W V).f (H V (x 0)) (x 1) :=
  funext fun x => (congrArg (res_main_v16 V) (eq_ix2 x)).trans (v16_at V (x 0) (x 1))
omit R in
/-- The activations. -/
theorem all_act : (truncf .bf16 (res_main_v22 V) bitsLt_bf16_f32 : FVec Ideal S8192x2816 .bf16) = fun x => (W V).act (H V (x 0)) (x 1) :=
  funext fun x => (congrArg (res_main_v22 V) (eq_ix2 x)).trans (v22_at V (x 0) (x 1))
/-- The gradients of the gates and up projections. -/
theorem all_dgu : (truncf .bf16 (res_main_v79 V) bitsLt_bf16_f32 : FVec Ideal S8192x5632 .bf16) = fun x => (W V).dgu (H V (x 0)) (T V (x 0)) (x 1) :=
  funext fun x => (congrArg (res_main_v79 V) (eq_ix2 x)).trans (v79_at R (x 0) (x 1))
/-- The gradients of the rows after the layer. -/
theorem all_dh3 : (truncf .bf16 (res_main_v74 V) bitsLt_bf16_f32 : FVec Ideal S8192x1024 .bf16) = fun x => (W V).dh3 (H V (x 0)) (T V (x 0)) (x 1) :=
  funext fun x => (congrArg (res_main_v74 V) (eq_ix2 x)).trans (v74_at R (x 0) (x 1))
/-- The gradients of the rows. -/
theorem all_dh2 : (addf (addf (addf (res_main_v74 V) (mulf (res_main_v85 V) (broadcastInDim S8192x1024 ![0, 1] bcast_S8192x1_S8192x1024_0_1 (res_main_v9 V))))
      (mulf (V (Proc.devRef .tc main_arg0)) (res_main_v96 V))) (mulf (res_main_v96 V) (V (Proc.devRef .tc main_arg0))) : FVec Ideal S8192x1024 .f32)
      = fun x => (W V).dh2 (H V (x 0)) (T V (x 0)) (x 1) :=
  funext fun x => (congrArg _ (eq_ix2 x)).trans (v100_at R (x 0) (x 1))
/-- Their narrow copy. -/
theorem all_dh2b : (truncf .bf16 (addf (addf (addf (res_main_v74 V) (mulf (res_main_v85 V) (broadcastInDim S8192x1024 ![0, 1] bcast_S8192x1_S8192x1024_0_1 (res_main_v9 V))))
      (mulf (V (Proc.devRef .tc main_arg0)) (res_main_v96 V))) (mulf (res_main_v96 V) (V (Proc.devRef .tc main_arg0)))) bitsLt_bf16_f32 : FVec Ideal S8192x1024 .bf16)
      = fun x => (W V).dh2 (H V (x 0)) (T V (x 0)) (x 1) :=
  all_dh2 R
/-- The gradient of the layer's gain. -/
theorem all_dgf : (shapeCast _ (Host.reduceAdd (mulf (res_main_v14 V) (res_main_v80 V)) (constant S_ .f32 0x00000000#32) reducesTo_S8192x1024_S1024_d0 h_S_) shapeCasts_S1024_S1x1024 : FVec Ideal S1x1024 .f32)
      = fun x => ∑ s, (W V).dgf (H V s) (T V s) (x 1) :=
  funext fun x => (congrArg _ ((eq_ix2 x).trans (congrArg (fun i : Fin 1 => ix2 i (x 1)) (Subsingleton.elim _ 0)))).trans (v83_at R (x 1))
/-- The gradient of the last gain. -/
theorem all_dgz : (shapeCast _ (Host.reduceAdd (mulf (res_main_v38 V) (res_main_v55 V)) (constant S_ .f32 0x00000000#32) reducesTo_S8192x1024_S1024_d0 h_S_) shapeCasts_S1024_S1x1024 : FVec Ideal S1x1024 .f32)
      = fun x => ∑ s, (W V).dgz (H V s) (T V s) (x 1) :=
  funext fun x => (congrArg _ ((eq_ix2 x).trans (congrArg (fun i : Fin 1 => ix2 i (x 1)) (Subsingleton.elim _ 0)))).trans (v58_at R (x 1))
/-- The loss. -/
theorem all_loss : (broadcastInDim S1x128 ![] bcast_S_S1x128 (mulf (constant S_ .f32 0x3F000000#32) (Host.reduceAdd (Host.divf (Host.reduceAdd (mulf (res_main_v41 V) (res_main_v41 V)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) : FVec Ideal S1x128 .f32)
      = fun _ => ∑ u : Fin 32, (∑ k, ∑ i : Fin 256, (W V).diff (H V ⟨256 * u.val + i.val, by omega⟩) (T V ⟨256 * u.val + i.val, by omega⟩) k
        * (W V).diff (H V ⟨256 * u.val + i.val, by omega⟩) (T V ⟨256 * u.val + i.val, by omega⟩) k) * Ideal.ofBits .f32 0x3A000000#32 :=
  funext fun x => (congrArg _ ((eq_ix2 x).trans (congrArg (fun i : Fin 1 => ix2 i (x 1)) (Subsingleton.elim _ 0)))).trans (v106_at R (x 1))

end Cert.FfnRefIdeal.Stage

end
-- ==== Proof.Finite.lean ====
module

public import proofs.«01_k».proof.Defs
public import proofs.«01_k».proof.Proof.Gen.Pre_finite
public import Idealize.ShloMosaic.Lib.ReduceAll
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Pre_finite.Real

open Cert.Pre_finite Cert.Pre_finite.Gen

/-- A magnitude below infinity is a real number's. -/
theorem real_of (x : EReal) (h : Ideal.cmp .olt (max x (-x)) (Ideal.ofBits .f32 0x7F800000#32) = 1#1) : ∃ r : ℝ, x = r := by
  have e : Ideal.ofBits .f32 0x7F800000#32 = (⊤ : EReal) := by simp [Ideal.ofBits, Ideal.ieee]
  rw [e] at h
  have h' : max x (-x) < (⊤ : EReal) := by
    by_contra hn
    simp [Ideal.cmp, hn] at h
  induction x with
  | bot => simp at h'
  | top => simp at h'
  | coe r => exact ⟨r, rfl⟩

/-- A scalar has one index. -/
instance : Subsingleton S_.Idx := ⟨fun a b => funext fun i => i.elim0⟩

/-- An array whose magnitudes all compare below infinity is real. -/
theorem all4 (a : FVec Ideal S1x8192x4x64 .f32) (j : S_.Idx)
    (h : Host.reduce IntOp.andi (cmpf .olt (Host.absf a) (broadcastInDim S1x8192x4x64 ![] bcast_S_S1x8192x4x64 (constant (F := Ideal) S_ .f32 0x7F800000#32)))
      (constantI S_ 1 1#1) reducesTo_S1x8192x4x64_S_d0_1_2_3 h_S_ j = 1#1) (i : S1x8192x4x64.Idx) : ∃ r : ℝ, a i = r :=
  real_of _ (Host.reduce_andi_all _ _ _ _ j h i)
/-- The same for the smaller array. -/
theorem all3 (a : FVec Ideal S1x8192x4 .f32) (j : S_.Idx)
    (h : Host.reduce IntOp.andi (cmpf .olt (Host.absf a) (broadcastInDim S1x8192x4 ![] bcast_S_S1x8192x4 (constant (F := Ideal) S_ .f32 0x7F800000#32)))
      (constantI S_ 1 1#1) reducesTo_S1x8192x4_S_d0_1_2 h_S_ j = 1#1) (i : S1x8192x4.Idx) : ∃ r : ℝ, a i = r :=
  real_of _ (Host.reduce_andi_all _ _ _ _ j h i)

/-- The precondition says that every argument is real. -/
theorem args_real (a0 a1 a2 a3 : FVec Ideal S1x8192x4x64 .f32) (a4 : FVec Ideal S1x8192x4 .f32)
    (h : fn (F := Ideal) a0 a1 a2 a3 a4 = fun _ => 1#1) :
    (∀ i, ∃ r : ℝ, a0 i = r) ∧ (∀ i, ∃ r : ℝ, a1 i = r) ∧ (∀ i, ∃ r : ℝ, a2 i = r) ∧ (∀ i, ∃ r : ℝ, a3 i = r) ∧ (∀ i, ∃ r : ℝ, a4 i = r) := by
  have j : S_.Idx := fun i => i.elim0
  have H := congrFun h j
  dsimp only [fn, fn_part1] at H
  obtain ⟨H, h4⟩ := IntOp.andi_eq_one.1 H
  obtain ⟨H, h3⟩ := IntOp.andi_eq_one.1 H
  obtain ⟨H, h2⟩ := IntOp.andi_eq_one.1 H
  obtain ⟨h0, h1⟩ := IntOp.andi_eq_one.1 H
  exact ⟨all4 a0 j h0, all4 a1 j h1, all4 a2 j h2, all4 a3 j h3, all3 a4 j h4⟩

end Cert.Pre_finite.Real

end
-- ==== Proof.FfnFinite.lean ====
module

public import proofs.«01_k».proof.Proof.Finite
public import proofs.«01_k».proof.Proof.Gen.Pre_finite_ffn
public import Idealize.ShloMosaic.Lib.ReduceAll
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Pre_finite_ffn.Real

open Cert.Pre_finite_ffn Cert.Pre_finite_ffn.Gen

/-- A scalar has one index. -/
instance : Subsingleton S_.Idx := ⟨fun a b => funext fun i => i.elim0⟩

/-- An array whose magnitudes all compare below infinity is real. -/
theorem all {S : Shape} (a : FVec Ideal S .f32) (hb : S_.BroadcastsInDim S (![] : Fin 0 → Fin S.rank)) {d : List (Fin S.rank)} (hr : S.ReducesTo d S_) (j : S_.Idx)
    (h : Host.reduce IntOp.andi (cmpf .olt (Host.absf a) (broadcastInDim S ![] hb (constant (F := Ideal) S_ .f32 0x7F800000#32)))
      (constantI S_ 1 1#1) hr h_S_ j = 1#1) (i : S.Idx) : ∃ r : ℝ, a i = r :=
  Cert.Pre_finite.Real.real_of _ (Host.reduce_andi_all _ _ _ _ j h i)

/-- The precondition says that every argument is real. -/
theorem args_real (a0 a1 : FVec Ideal S8192x1024 .f32) (a2 a3 : FVec Ideal S1x1024 .f32) (a4 : FVec Ideal S1024x5632 .f32) (a5 : FVec Ideal S2816x1024 .f32)
    (h : fn (F := Ideal) a0 a1 a2 a3 a4 a5 = fun _ => 1#1) :
    (∀ i, ∃ r : ℝ, a0 i = r) ∧ (∀ i, ∃ r : ℝ, a1 i = r) ∧ (∀ i, ∃ r : ℝ, a2 i = r) ∧ (∀ i, ∃ r : ℝ, a3 i = r) ∧ (∀ i, ∃ r : ℝ, a4 i = r)
      ∧ (∀ i, ∃ r : ℝ, a5 i = r) := by
  have j : S_.Idx := fun i => i.elim0
  have H := congrFun h j
  dsimp only [fn, fn_part1] at H
  obtain ⟨H, h5⟩ := IntOp.andi_eq_one.1 H
  obtain ⟨H, h4⟩ := IntOp.andi_eq_one.1 H
  obtain ⟨H, h3⟩ := IntOp.andi_eq_one.1 H
  obtain ⟨H, h2⟩ := IntOp.andi_eq_one.1 H
  obtain ⟨h0, h1⟩ := IntOp.andi_eq_one.1 H
  exact ⟨all a0 _ _ j h0, all a1 _ _ j h1, all a2 _ _ j h2, all a3 _ _ j h3, all a4 _ _ j h4, all a5 _ _ j h5⟩

end Cert.Pre_finite_ffn.Real

end
-- ==== Proof.FfnMain.lean ====
module

public import proofs.«01_k».proof.Defs
public import proofs.«01_k».proof.Proof.FfnArr
public import proofs.«01_k».proof.Proof.FfnRef
public import proofs.«01_k».proof.Proof.FfnFinite

@[expose] public section

set_option maxRecDepth 16384

noncomputable section

open Idealize.ShloMosaic Idealize.ShloMosaic.TcCoe Idealize.SL.Sem

namespace Cert.FfnMain

open Cert.FfnRow

/-- The reference's arguments are the kernel's, one by one. -/
structure Args (m : (ℓ : Loc Cert.FfnIdeal.nD Cert.FfnIdeal.τ Cert.FfnIdeal.sig) → Buf (Elt Ideal) ℓ) (c : Dev Cert.FfnIdeal.nD)
    (V : Valuation Cert.FfnRefIdeal.τ Cert.FfnRefIdeal.sig (Elt Ideal)) : Prop where
  h0 : V (Proc.devRef .tc Cert.FfnRefIdeal.main_arg0) = m ((c : Thread Cert.FfnIdeal.nD Cert.FfnIdeal.τ).loc Cert.FfnIdeal.main_arg0)
  h1 : V (Proc.devRef .tc Cert.FfnRefIdeal.main_arg1) = m ((c : Thread Cert.FfnIdeal.nD Cert.FfnIdeal.τ).loc Cert.FfnIdeal.main_arg1)
  h2 : V (Proc.devRef .tc Cert.FfnRefIdeal.main_arg2) = m ((c : Thread Cert.FfnIdeal.nD Cert.FfnIdeal.τ).loc Cert.FfnIdeal.main_arg2)
  h3 : V (Proc.devRef .tc Cert.FfnRefIdeal.main_arg3) = m ((c : Thread Cert.FfnIdeal.nD Cert.FfnIdeal.τ).loc Cert.FfnIdeal.main_arg3)
  h4 : V (Proc.devRef .tc Cert.FfnRefIdeal.main_arg4) = m ((c : Thread Cert.FfnIdeal.nD Cert.FfnIdeal.τ).loc Cert.FfnIdeal.main_arg4)
  h5 : V (Proc.devRef .tc Cert.FfnRefIdeal.main_arg5) = m ((c : Thread Cert.FfnIdeal.nD Cert.FfnIdeal.τ).loc Cert.FfnIdeal.main_arg5)

variable {m : (ℓ : Loc Cert.FfnIdeal.nD Cert.FfnIdeal.τ Cert.FfnIdeal.sig) → Buf (Elt Ideal) ℓ} {c : Dev Cert.FfnIdeal.nD}
  {V : Valuation Cert.FfnRefIdeal.τ Cert.FfnRefIdeal.sig (Elt Ideal)} (A : Args m c V)
include A

/-- The gains and weights agree. -/
theorem Args.W : Cert.FfnRefIdeal.Stage.W V = Cert.FfnIdeal.Arr.W m c := by
  unfold Cert.FfnRefIdeal.Stage.W Cert.FfnIdeal.Arr.W
  rw [A.h2, A.h3, A.h4, A.h5]
/-- The rows of the hidden state agree. -/
theorem Args.H : Cert.FfnRefIdeal.Stage.H V = Cert.FfnIdeal.Arr.H m c := funext fun s => congrArg (fun X => line X s) A.h0
/-- The rows of the target agree. -/
theorem Args.T : Cert.FfnRefIdeal.Stage.T V = Cert.FfnIdeal.Arr.T m c := funext fun s => congrArg (fun X => line X s) A.h1

/-- From arguments that satisfy the precondition, every row of the reference is real. -/
theorem Args.real (hp : Cert.Pre_FfnIdeal_finite_ffn (hPre_finite_ffn := Cert.Pre_finite_ffn.Gen.facts) m) (s : Fin 8192) :
    (Cert.FfnRefIdeal.Stage.W V).Real (Cert.FfnRefIdeal.Stage.H V s) (Cert.FfnRefIdeal.Stage.T V s) := by
  rw [A.W, A.H, A.T]
  obtain ⟨h0, h1, h2, h3, h4, h5⟩ := Cert.Pre_finite_ffn.Real.args_real _ _ _ _ _ _ (hp c)
  exact ⟨fun l => h2 _, fun l => h3 _, fun n l => h4 _, fun j l => h5 _, fun l => h0 _, fun l => h1 _⟩

end Cert.FfnMain

end
-- ==== Proof.MixRow.lean ====
module

public import proofs.«01_k».proof.Proof.FfnReal

@[expose] public section

set_option maxRecDepth 16384

noncomputable section

open Idealize.ShloMosaic

namespace Cert.MixRow

open Cert.FfnRow

/-! One row of the step that turns the projection's cotangents into the gradient of the residual stream. -/

/-- A row of cotangents of the whole projection: the queries of the three groups, their keys, their values, then the
    gates of the second branch and the lanes of the third. -/
def cots (a b c : Fin 768 → EReal) (u : Fin 1024 → EReal) (v : Fin 2048 → EReal) (n : Fin 5376) : EReal :=
  if h : n.val < 2304 then
    if n.val / 256 % 3 = 0 then a ⟨256 * (n.val / 768) + n.val % 256, by omega⟩
    else if n.val / 256 % 3 = 1 then b ⟨256 * (n.val / 768) + n.val % 256, by omega⟩
    else c ⟨256 * (n.val / 768) + n.val % 256, by omega⟩
  else if h' : n.val < 3328 then u ⟨n.val - 2304, by omega⟩
  else v ⟨n.val - 3328, by omega⟩

/-- A lane of the first group. -/
theorem cots_a (a b c : Fin 768 → EReal) (u : Fin 1024 → EReal) (v : Fin 2048 → EReal) (p : Fin 3) (k : Fin 256) (n : Fin 5376)
    (h : n.val = 768 * p.val + k.val) : cots a b c u v n = a ⟨256 * p.val + k.val, by omega⟩ := by
  rw [cots, dif_pos (by omega), if_pos (by omega)]
  exact congrArg a (Fin.ext (show 256 * (n.val / 768) + n.val % 256 = 256 * p.val + k.val by omega))
/-- A lane of the second group. -/
theorem cots_b (a b c : Fin 768 → EReal) (u : Fin 1024 → EReal) (v : Fin 2048 → EReal) (p : Fin 3) (k : Fin 256) (n : Fin 5376)
    (h : n.val = 768 * p.val + (256 + k.val)) : cots a b c u v n = b ⟨256 * p.val + k.val, by omega⟩ := by
  rw [cots, dif_pos (by omega), if_neg (by omega), if_pos (by omega)]
  exact congrArg b (Fin.ext (show 256 * (n.val / 768) + n.val % 256 = 256 * p.val + k.val by omega))
/-- A lane of the third group. -/
theorem cots_c (a b c : Fin 768 → EReal) (u : Fin 1024 → EReal) (v : Fin 2048 → EReal) (p : Fin 3) (k : Fin 256) (n : Fin 5376)
    (h : n.val = 768 * p.val + (512 + k.val)) : cots a b c u v n = c ⟨256 * p.val + k.val, by omega⟩ := by
  rw [cots, dif_pos (by omega), if_neg (by omega), if_neg (by omega)]
  exact congrArg c (Fin.ext (show 256 * (n.val / 768) + n.val % 256 = 256 * p.val + k.val by omega))
/-- A lane of the second branch. -/
theorem cots_u (a b c : Fin 768 → EReal) (u : Fin 1024 → EReal) (v : Fin 2048 → EReal) (k : Fin 1024) (n : Fin 5376)
    (h : n.val = 2304 + k.val) : cots a b c u v n = u k := by
  rw [cots, dif_neg (by omega), dif_pos (by omega)]
  exact congrArg u (Fin.ext (show n.val - 2304 = k.val by omega))
/-- A lane of the third branch. -/
theorem cots_v (a b c : Fin 768 → EReal) (u : Fin 1024 → EReal) (v : Fin 2048 → EReal) (k : Fin 2048) (n : Fin 5376)
    (h : n.val = 3328 + k.val) : cots a b c u v n = v k := by
  rw [cots, dif_neg (by omega), dif_neg (by omega)]
  exact congrArg v (Fin.ext (show n.val - 3328 = k.val by omega))

/-- The cotangent of the normalised row. -/
def pull (d : Fin 5376 → EReal) (w : Fin 5376 → Lanes) (l : Fin 1024) : EReal := ∑ n, d n * w n l
/-- The gradient of the row: what comes past the sub-layer, then what comes through its norm. -/
def dx (p h g : Lanes) (d : Fin 5376 → EReal) (w : Fin 5376 → Lanes) (l : Fin 1024) : EReal :=
  p l + back h (fun k => pull d w k * g k) l
/-- What the row gives the gain. -/
def dg (h : Lanes) (d : Fin 5376 → EReal) (w : Fin 5376 → Lanes) (l : Fin 1024) : EReal := pull d w l * h l * rms h

/-- A square is not negative. -/
theorem sq_nonneg (x : EReal) : 0 ≤ x * x := by
  rcases le_total 0 x with h | h
  · exact mul_nonneg h h
  · exact EReal.mul_nonneg_iff.mpr (.inr ⟨h, h⟩)

/-- The mean square plus epsilon is infinite, or real and positive. -/
theorem ms_cases (h : Lanes) : ms h = ⊤ ∨ ∃ x : ℝ, 0 < x ∧ ms h = x := by
  have s : 0 ≤ ∑ k, h k * h k := Finset.sum_nonneg fun k _ => sq_nonneg _
  rw [ms, ofBits_1024, ofBits_eps, Ideal.div_coe (by norm_num)]
  generalize ∑ k, h k * h k = y at s
  induction y with
  | bot => simp at s
  | top => left; rw [EReal.top_mul_coe_of_pos (by norm_num)]; exact EReal.top_add_coe _
  | coe r =>
    right
    refine ⟨r * (1 / 1024) + 8796093 / 2 ^ 43, ?_, by rw [EReal.coe_add, EReal.coe_mul]⟩
    have : 0 ≤ r := EReal.coe_nonneg.mp s
    positivity

/-- Taking half of a number twice from another takes the number from it. -/
theorem twice (z u : EReal) (c : ℝ) (hc : 0 < c) : z + u * ((-c : ℝ) : EReal) + u * ((-c : ℝ) : EReal) = z - u * ((2 * c : ℝ) : EReal) := by
  rw [add_assoc, sub_eq_add_neg]
  congr 1
  induction u with
  | bot => rw [EReal.bot_mul_coe_of_neg (by linarith), EReal.bot_mul_coe_of_pos (by linarith)]; rfl
  | top => rw [EReal.top_mul_coe_of_neg (by linarith), EReal.top_mul_coe_of_pos (by linarith)]; rfl
  | coe r => norm_cast; ring

/-- The gradient through a normalisation as differentiation gives it, whatever the row and its cotangent hold. -/
theorem back_any (h t : Lanes) (l : Fin 1024) : t l * rms h + h l * share h t + share h t * h l = back h t l := by
  have e : ∑ k, h k * t k = ∑ k, t k * h k := Finset.sum_congr rfl fun k _ => mul_comm _ _
  rw [share, back, e]
  generalize ∑ k, t k * h k = y
  rcases ms_cases h with m | ⟨x, hx, m⟩
  · have r : rms h = 0 := by rw [rms, m, Ideal.rsqrt_top]
    have q : Ideal.div 0 ⊤ = 0 := by simp [Ideal.div]
    rw [r, m, q]
    simp [ofBits_1024, Ideal.div_coe]
  · have r : rms h = ((Real.sqrt x)⁻¹ : ℝ) := by rw [rms, m, Ideal.rsqrt_coe, if_neg (not_lt.mpr hx.le), if_neg hx.ne']
    have q : (Real.sqrt x)⁻¹ * (Real.sqrt x)⁻¹ = 1 / x := by rw [← mul_inv, Real.mul_self_sqrt hx.le, one_div]
    have p : 0 < (Real.sqrt x)⁻¹ := inv_pos.mpr (Real.sqrt_pos.mpr hx)
    rw [r, m]
    generalize (Real.sqrt x)⁻¹ = ρ at q p
    rw [ofBits_1024, ofBits_neghalf, Ideal.div_coe hx.ne', Ideal.div_coe (by norm_num), Ideal.div_coe (by norm_num)]
    have s : y * ((-(1 / 2) : ℝ) * (ρ * ((1 / x : ℝ) : EReal))) * ((1 / 1024 : ℝ) : EReal) = y * ((-(ρ * ρ * ρ / 2048) : ℝ) : EReal) := by
      rw [mul_assoc]
      norm_cast
      rw [← q]
      congr 2
      ring
    have f : h l * ((ρ : EReal) * ρ * ρ) * (y * ((1 / 1024 : ℝ) : EReal)) = h l * y * ((2 * (ρ * ρ * ρ / 2048) : ℝ) : EReal) := by
      rw [show h l * ((ρ : EReal) * ρ * ρ) * (y * ((1 / 1024 : ℝ) : EReal)) = h l * y * ((ρ : EReal) * ρ * ρ * ((1 / 1024 : ℝ) : EReal)) from
        mul_mul_mul_comm _ _ _ _]
      norm_cast
      congr 2
      ring
    rw [s, f, mul_comm (y * _) (h l), ← mul_assoc, twice _ _ _ (by positivity), mul_comm (t l)]

/-- The gradient of the row as differentiation gives it. -/
theorem dx_form (p h g : Lanes) (d : Fin 5376 → EReal) (w : Fin 5376 → Lanes) (l : Fin 1024) :
    p l + pull d w l * g l * rms h + h l * share h (fun k => pull d w k * g k) + share h (fun k => pull d w k * g k) * h l = dx p h g d w l := by
  rw [dx, ← back_any, add_assoc (p l), add_assoc (p l)]
/-- What the row gives the gain, as differentiation gives it. -/
theorem dg_form (h : Lanes) (d : Fin 5376 → EReal) (w : Fin 5376 → Lanes) (l : Fin 1024) : h l * rms h * pull d w l = dg h d w l := by
  rw [dg, mul_comm, mul_assoc]

end Cert.MixRow

end
-- ==== Proof.MixPiece.lean ====
module

public import proofs.«01_k».proof.Proof.MixRow
public import proofs.«01_k».proof.Proof.Gen.MixIdeal.Skeleton
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.MixIdeal.Point

open Cert.MixIdeal Cert.MixIdeal.Gen Cert.FfnRow Cert.MixRow

/-! The scratch: `K` dilated streams of `R` rows each are stored with stride `K`, so that the rows lie in the order of the
    positions; six planes of 128 lanes. -/

/-- A store of one stream's lanes in one plane. -/
abbrev Piece := View.Piece (Elt Ideal) S6x512x128 .f32

/-- A stream lies in a plane. -/
theorem put_inb {K R : ℕ} (h : K * R = 512) (r : Fin K) (j : Fin 6) (a) : (![1, R, 128] : Fin 3 → ℕ) a = 0 ∨
    (![j.val, r.val, 0] : Fin 3 → ℕ) a + (![1, K, 1] : Fin 3 → ℕ) a * ((![1, R, 128] : Fin 3 → ℕ) a - 1) < S6x512x128.size a := by
  have hj := j.isLt
  have hr := r.isLt
  fin_cases a
  · right; show j.val + 1 * 0 < 6; omega
  · show R = 0 ∨ r.val + K * (R - 1) < 512
    rcases R with _ | R
    · exact .inl rfl
    · right; rw [Nat.add_sub_cancel]; rw [Nat.mul_succ] at h; omega
  · right; show 0 + 1 * 127 < 128; omega
/-- Strides are positive. -/
theorem put_pos {K : ℕ} (r : Fin K) (a) : 0 < (![1, K, 1] : Fin 3 → ℕ) a := by
  have hr := r.isLt
  fin_cases a
  · exact Nat.one_pos
  · show 0 < K; omega
  · exact Nat.one_pos
/-- Where stream `r` lies in plane `j`. -/
def put {K R : ℕ} (h : K * R = 512) (r : Fin K) (j : Fin 6) : Rect S6x512x128 :=
  ⟨⟨![j.val, r.val, 0], ![1, R, 128], ![1, K, 1], put_inb h r j⟩, put_pos r⟩

/-- What the six planes hold, from the streams. -/
def inOrder {K R : ℕ} (h : K * R = 512) (X : (⟨3, ![K, R, 768]⟩ : Shape).Idx → EReal) (j : Fin 6) (s : Fin 512) (l : Fin 128) : EReal :=
  X (ix3 ⟨s.val % K, Nat.mod_lt _ (by rcases K with _ | K <;> omega)⟩ ⟨s.val / K, Nat.div_lt_of_lt_mul (by have := s.isLt; omega)⟩ ⟨128 * j.val + l.val, by omega⟩)

section
variable {K R : ℕ} (h : K * R = 512) (P : Fin K → Fin 6 → Piece)

/-- The six stores of a stream, the last first. -/
def six (r : Fin K) : List Piece := [P r 5, P r 4, P r 3, P r 2, P r 1, P r 0]
/-- The stores of the first streams, the last first. -/
def upto : (n : ℕ) → n ≤ K → List Piece
  | 0, _ => []
  | n + 1, hn => six P ⟨n, hn⟩ ++ upto n (Nat.le_of_succ_le hn)

/-- Every store of a stream below the bound is listed. -/
theorem mem_upto (n : ℕ) (hn : n ≤ K) (r : Fin K) (hr : r.val < n) (j : Fin 6) : P r j ∈ upto P n hn := by
  induction n with
  | zero => omega
  | succ n ih =>
    rw [upto, List.mem_append]
    by_cases e : r.val = n
    · left
      obtain rfl : r = ⟨n, hn⟩ := Fin.ext e
      fin_cases j <;> simp [six]
    · exact .inr (ih _ (by omega))
/-- What holds of every store holds of every listed store. -/
theorem forall_upto {Q : Piece → Prop} (hQ : ∀ r j, Q (P r j)) (n : ℕ) (hn : n ≤ K) : ∀ p ∈ upto P n hn, Q p := by
  induction n with
  | zero => intro p hp; simp [upto] at hp
  | succ n ih =>
    intro p hp
    rw [upto, List.mem_append] at hp
    rcases hp with hp | hp
    · simp only [six, List.mem_cons, List.not_mem_nil, or_false] at hp
      rcases hp with rfl | rfl | rfl | rfl | rfl | rfl <;> exact hQ _ _
    · exact ih _ p hp
end

section
variable {K R : ℕ} (h : K * R = 512) (w : (r : Fin K) → (j : Fin 6) → (put h r j).shape.Idx → EReal)

/-- The store of a stream in a plane. -/
def pc (r : Fin K) (j : Fin 6) : Piece := ⟨put h r j, w r j⟩

/-- Stores of all the streams, over anything before them, leave the rows in the order of the positions. -/
theorem upto_canon (X : (⟨3, ![K, R, 768]⟩ : Shape).Idx → EReal) (L : List Piece)
    (hw : ∀ (r : Fin K) (j : Fin 6) (q : Fin R) (l : Fin 128), w r j (show (⟨3, ![1, R, 128]⟩ : Shape).Idx from ix3 0 q l) = X (ix3 r q ⟨128 * j.val + l.val, by omega⟩))
    (j : Fin 6) (s : Fin 512) (l : Fin 128) : View.canon (upto (pc h w) K (le_refl K) ++ L) (ix3 j s l) = inOrder h X j s l := by
  have K0 : 0 < K := by rcases K with _ | K <;> omega
  refine View.canon_append_of_pieces (fun y : S6x512x128.Idx => inOrder h X (y 0) (y 1) (y 2)) L _ (forall_upto _ ?_ _ _) (ix3 j s l)
    ⟨pc h w ⟨s.val % K, Nat.mod_lt _ K0⟩ j, mem_upto _ _ _ _ (Nat.mod_lt _ K0) _, ?_⟩
  · intro r j x
    obtain ⟨q, l, rfl⟩ : ∃ (q : Fin R) (l : Fin 128), x = (show (⟨3, ![1, R, 128]⟩ : Shape).Idx from ix3 0 q l) :=
      ⟨x 1, x 2, by
        funext a; apply Fin.ext
        fin_cases a
        · have : (x 0).val < 1 := (x 0).isLt
          show (x 0).val = 0; omega
        · rfl
        · rfl⟩
    refine (hw r j q l).trans ?_
    have hr := r.isLt
    refine congrArg X (funext fun a => Fin.ext ?_)
    fin_cases a
    · show r.val = (r.val + K * q.val) % K
      rw [Nat.add_mul_mod_self_left, Nat.mod_eq_of_lt hr]
    · show q.val = (r.val + K * q.val) / K
      rw [Nat.add_mul_div_left _ _ K0, Nat.div_eq_of_lt hr, Nat.zero_add]
    · show 128 * j.val + l.val = 128 * (j.val + 1 * 0) + (0 + 1 * l.val); omega
  · refine (LoadRect.mem_set _).mpr fun a => ?_
    fin_cases a
    · exact ⟨0, Nat.one_pos, by show j.val = j.val + 1 * 0; omega⟩
    · exact ⟨s.val / K, Nat.div_lt_of_lt_mul (by have := s.isLt; show s.val < K * R; omega), (Nat.mod_add_div s.val K).symm⟩
    · exact ⟨l.val, l.isLt, by show l.val = 0 + 1 * l.val; omega⟩

end

/-! The two dilated groups' streams. -/

variable (x1 : Vec Ideal S4x128x768 .bf16) (x2 : Vec Ideal S16x32x768 .bf16)

/-- A plane's lanes of a stream of the second group. -/
theorem get1_inb (r : Fin 4) (j : Fin 6) (a) : (![r.val, 0, 128 * j.val] : Fin 3 → ℕ) a + S1x128x128.size a ≤ S4x128x768.size a := by
  have := r.isLt
  have := j.isLt
  fin_cases a
  · show r.val + 1 ≤ 4; omega
  · show 0 + 128 ≤ 128; omega
  · show 128 * j.val + 128 ≤ 768; omega
/-- A plane's lanes of a stream of the third group. -/
theorem get2_inb (r : Fin 16) (j : Fin 6) (a) : (![r.val, 0, 128 * j.val] : Fin 3 → ℕ) a + S1x32x128.size a ≤ S16x32x768.size a := by
  have := r.isLt
  have := j.isLt
  fin_cases a
  · show r.val + 1 ≤ 16; omega
  · show 0 + 32 ≤ 32; omega
  · show 128 * j.val + 128 ≤ 768; omega

/-- What the second group stores. -/
def w1 (r : Fin 4) (j : Fin 6) : S1x128x128.Idx → EReal :=
  k0_pay8 (View.ld x1 (Rect.unit (s := S4x128x768) ![r.val, 0, 128 * j.val] S1x128x128.size (get1_inb r j)))
/-- What the third group stores. -/
def w2 (r : Fin 16) (j : Fin 6) : S1x32x128.Idx → EReal :=
  k0_pay42 (View.ld x2 (Rect.unit (s := S16x32x768) ![r.val, 0, 128 * j.val] S1x32x128.size (get2_inb r j)))

/-- An entry of it. -/
theorem w1_at (r : Fin 4) (j : Fin 6) (q : Fin 128) (l : Fin 128) : w1 x1 r j (ix3 0 q l) = x1 (ix3 r q ⟨128 * j.val + l.val, by omega⟩) := by
  refine Eq.trans (b := View.ld x1 (Rect.unit (s := S4x128x768) ![r.val, 0, 128 * j.val] S1x128x128.size (get1_inb r j)) (ix3 0 q l)) (by pointwise [w1, k0_pay8]) ?_
  refine congrArg x1 (funext fun a => Fin.ext ?_)
  fin_cases a
  · show r.val + 1 * 0 = r.val; omega
  · show 0 + 1 * q.val = q.val; omega
  · show 128 * j.val + 1 * l.val = 128 * j.val + l.val; omega
/-- An entry of it. -/
theorem w2_at (r : Fin 16) (j : Fin 6) (q : Fin 32) (l : Fin 128) : w2 x2 r j (ix3 0 q l) = x2 (ix3 r q ⟨128 * j.val + l.val, by omega⟩) := by
  refine Eq.trans (b := View.ld x2 (Rect.unit (s := S16x32x768) ![r.val, 0, 128 * j.val] S1x32x128.size (get2_inb r j)) (ix3 0 q l)) (by pointwise [w2, k0_pay42]) ?_
  refine congrArg x2 (funext fun a => Fin.ext ?_)
  fin_cases a
  · show r.val + 1 * 0 = r.val; omega
  · show 0 + 1 * q.val = q.val; omega
  · show 128 * j.val + 1 * l.val = 128 * j.val + l.val; omega

/-- A plane read whole. -/
theorem plane {κ : Kind} {sp : Space} (v : View sig κ sp S6x512x128 .f32) (L : List Piece) (j : Fin 6) (inb) (s : Fin 512) (l : Fin 128) :
    v.readCov L (Rect.unit (s := S6x512x128) ![j.val, 0, 0] S1x512x128.size inb).toLoadRect (ix3 0 s l) = View.canon L (ix3 j s l) := by
  rw [View.readCov_eq_canon']
  refine congrArg (View.canon L) (funext fun a => Fin.ext ?_)
  fin_cases a
  · show j.val + 1 * 0 = j.val; omega
  · show 0 + 1 * s.val = s.val; omega
  · show 0 + 1 * l.val = l.val; omega

end Cert.MixIdeal.Point

end
-- ==== Proof.MixPoint.lean ====
module

public import proofs.«01_k».proof.Proof.MixPiece

@[expose] public section

set_option maxRecDepth 16384

noncomputable section

open Idealize.ShloMosaic Idealize.ShloMosaic.TcCoe Idealize.SL.Sem

namespace Cert.MixIdeal.Point

open Cert.MixIdeal Cert.MixIdeal.Gen Cert.FfnRow Cert.MixRow

/-- A condition both of whose branches are one value. -/
theorem either {P : Prop} [Decidable P] {a : P → EReal} {b : ¬P → EReal} {r : EReal} (ha : ∀ h, a h = r) (hb : ∀ h, b h = r) : dite P a b = r := by
  by_cases h : P
  · rw [dif_pos h, ha]
  · rw [dif_neg h, hb]

section
variable {p : Fin 6 → Vec Ideal S1x512x128 .f32} {V : Fin 512 → Fin 768 → EReal}
  (hp : ∀ (j : Fin 6) (s : Fin 512) (l : Fin 128), p j (ix3 0 s l) = V s ⟨128 * j.val + l.val, by omega⟩)
include hp

/-- A plane's part of a row. -/
theorem lane_at (j : Fin 6) (s : Fin 512) (l : Fin 128) (n : Fin 768) (h : n.val = 128 * j.val + l.val) : p j (ix3 0 s l) = V s n :=
  (hp j s l).trans (congrArg (V s) (Fin.ext h.symm))
/-- The six planes side by side. -/
theorem group_at (s : Fin 512) (n : Fin 768) : k0_pay149 (p 0) (p 1) (p 2) (p 3) (p 4) (p 5) (ix2 s n) = V s n := by
  pointwise [k0_pay149]
  refine either (fun h0 => lane_at hp 0 s _ n (by dsimp only [Fin.isValue]; omega)) fun h0 => ?_
  refine either (fun h1 => lane_at hp 1 s _ n (by dsimp only [Fin.isValue]; omega)) fun h1 => ?_
  refine either (fun h2 => lane_at hp 2 s _ n (by dsimp only [Fin.isValue]; omega)) fun h2 => ?_
  refine either (fun h3 => lane_at hp 3 s _ n (by dsimp only [Fin.isValue]; omega)) fun h3 => ?_
  exact either (fun h4 => lane_at hp 4 s _ n (by dsimp only [Fin.isValue]; omega)) fun h4 => lane_at hp 5 s _ n (by dsimp only [Fin.isValue]; omega)
/-- Their queries. -/
theorem queries (s : Fin 512) (k : Fin 256) : k0_pay150 (p 0) (p 1) (p 2) (p 3) (p 4) (p 5) (ix2 s k) = V s ⟨256 * 0 + k.val, by omega⟩ := by
  pointwise [k0_pay150]
  rw [group_at hp]
/-- Their keys. -/
theorem keys (s : Fin 512) (k : Fin 256) : k0_pay151 (p 0) (p 1) (p 2) (p 3) (p 4) (p 5) (ix2 s k) = V s ⟨256 * 1 + k.val, by omega⟩ := by
  pointwise [k0_pay151]
  rw [group_at hp]
/-- Their values. -/
theorem values (s : Fin 512) (k : Fin 256) : k0_pay152 (p 0) (p 1) (p 2) (p 3) (p 4) (p 5) (ix2 s k) = V s ⟨256 * 2 + k.val, by omega⟩ := by
  pointwise [k0_pay152]
  rw [group_at hp]
end

variable (x0 : Vec Ideal S1x512x768 .bf16) (x1 : Vec Ideal S4x128x768 .bf16) (x2 : Vec Ideal S16x32x768 .bf16) (u : Vec Ideal S512x1024 .bf16) (z : Vec Ideal S512x2048 .bf16)

/-- The first group's queries. -/
theorem queries0 (s : Fin 512) (k : Fin 256) : k0_pay5 x0 (ix2 s k) = x0 (ix3 0 s ⟨256 * 0 + k.val, by omega⟩) := by
  pointwise [k0_pay5, k0_pay4]
  blk_ext
/-- Its keys. -/
theorem keys0 (s : Fin 512) (k : Fin 256) : k0_pay6 x0 (ix2 s k) = x0 (ix3 0 s ⟨256 * 1 + k.val, by omega⟩) := by
  pointwise [k0_pay6, k0_pay4]
  blk_ext
/-- Its values. -/
theorem values0 (s : Fin 512) (k : Fin 256) : k0_pay7 x0 (ix2 s k) = x0 (ix3 0 s ⟨256 * 2 + k.val, by omega⟩) := by
  pointwise [k0_pay7, k0_pay4]
  blk_ext

/-- A row of the first group. -/
def at0 (i : Fin 512) (k : Fin 768) : EReal := x0 (ix3 0 i k)
/-- A row of the second group, in the order of the positions. -/
def at1 (i : Fin 512) (k : Fin 768) : EReal := x1 (ix3 ⟨i.val % 4, by omega⟩ ⟨i.val / 4, by omega⟩ k)
/-- A row of the third group, in the order of the positions. -/
def at2 (i : Fin 512) (k : Fin 768) : EReal := x2 (ix3 ⟨i.val % 16, by omega⟩ ⟨i.val / 16, by omega⟩ k)
/-- A row of the block's cotangents of the whole projection. -/
def rowB (i : Fin 512) : Fin 5376 → EReal :=
  cots (at0 x0 i) (at1 x1 i) (at2 x2 i) (fun k => u (ix2 i k)) (fun k => z (ix2 i k))

/-! The stores into the block of cotangents. -/

/-- A run of columns lies in the block. -/
theorem cols_inb {o W : ℕ} (h : o + W ≤ 5376) (a) : (![0, o] : Fin 2 → ℕ) a + (![512, W] : Fin 2 → ℕ) a ≤ S512x5376.size a := by
  fin_cases a
  · show 0 + 512 ≤ 512; omega
  · exact h
/-- A store of a run of columns. -/
def cols (o W : ℕ) (h : o + W ≤ 5376) (w : (⟨2, ![512, W]⟩ : Shape).Idx → EReal) : View.Piece (Elt Ideal) S512x5376 .bf16 :=
  ⟨Rect.unit (s := S512x5376) ![0, o] ![512, W] (cols_inb h), w⟩
/-- Such a store agrees with an array when its columns do. -/
theorem cols_spec (A : Fin 512 → Fin 5376 → EReal) (o W : ℕ) (h : o + W ≤ 5376) (w : (⟨2, ![512, W]⟩ : Shape).Idx → EReal)
    (hw : ∀ (i : Fin 512) (k : Fin W) (n : Fin 5376), n.val = o + k.val → w (ix2 i k) = A i n) (x : (cols o W h w).1.shape.Idx) :
    (cols o W h w).2 x = (fun y : S512x5376.Idx => A (y 0) (y 1)) ((cols o W h w).1.emb x) := by
  obtain ⟨i, k, rfl⟩ : ∃ (i : Fin 512) (k : Fin W), x = (show (⟨2, ![512, W]⟩ : Shape).Idx from ix2 i k) := ⟨x 0, x 1, eq_ix2 (n0 := 512) (n1 := W) x⟩
  refine (hw i k ⟨o + k.val, by have := k.isLt; omega⟩ rfl).trans (congrArg₂ A (Fin.ext ?_) (Fin.ext ?_))
  · show i.val = 0 + 1 * i.val; omega
  · show o + k.val = o + 1 * k.val; omega
/-- The columns that such a store covers. -/
theorem cols_mem (o W : ℕ) (h : o + W ≤ 5376) (w) (y : S512x5376.Idx) (l : o ≤ (y 1).val) (r : (y 1).val < o + W) : y ∈ (cols o W h w).1.set := by
  refine (Rect.mem_set_unit (s := S512x5376) (off := ![0, o]) (size := ![512, W]) (inb := cols_inb h)).mpr fun a => ?_
  have h0 : (y 0).val < 512 := (y 0).isLt
  fin_cases a
  · show 0 ≤ (y 0).val ∧ (y 0).val < 0 + 512; omega
  · exact ⟨l, r⟩

variable (p q : Fin 6 → Vec Ideal S1x512x128 .f32)

/-- The stores, the last first: from planes `p` of the second group and planes `q` of the third. -/
def dpL : List (View.Piece (Elt Ideal) S512x5376 .bf16) :=
  [cols 3328 2048 (by decide) z, cols 2304 1024 (by decide) u,
    cols 2048 256 (by decide) (k0_pay152 (q 0) (q 1) (q 2) (q 3) (q 4) (q 5)), cols 1280 256 (by decide) (k0_pay151 (q 0) (q 1) (q 2) (q 3) (q 4) (q 5)),
    cols 512 256 (by decide) (k0_pay150 (q 0) (q 1) (q 2) (q 3) (q 4) (q 5)),
    cols 1792 256 (by decide) (k0_pay152 (p 0) (p 1) (p 2) (p 3) (p 4) (p 5)), cols 1024 256 (by decide) (k0_pay151 (p 0) (p 1) (p 2) (p 3) (p 4) (p 5)),
    cols 256 256 (by decide) (k0_pay150 (p 0) (p 1) (p 2) (p 3) (p 4) (p 5)),
    cols 1536 256 (by decide) (k0_pay7 x0), cols 768 256 (by decide) (k0_pay6 x0), cols 0 256 (by decide) (k0_pay5 x0)]

variable {p q} (hp : ∀ (j : Fin 6) (s : Fin 512) (l : Fin 128), p j (ix3 0 s l) = inOrder (K := 4) (R := 128) rfl x1 j s l)
  (hq : ∀ (j : Fin 6) (s : Fin 512) (l : Fin 128), q j (ix3 0 s l) = inOrder (K := 16) (R := 32) rfl x2 j s l)
include hp hq

/-- Together they are the cotangents of the whole projection. -/
theorem dp_canon (i : Fin 512) (n : Fin 5376) : View.canon (dpL x0 u z p q) (ix2 i n) = rowB x0 x1 x2 u z i n := by
  refine View.canon_append_of_pieces (fun y : S512x5376.Idx => rowB x0 x1 x2 u z (y 0) (y 1)) [] (dpL x0 u z p q) ?_ (ix2 i n) ?_
  · simp only [dpL, List.forall_mem_cons]
    refine ⟨cols_spec _ _ _ _ _ fun i k n h => ?_, cols_spec _ _ _ _ _ fun i k n h => ?_, cols_spec _ _ _ _ _ fun i k n h => ?_, cols_spec _ _ _ _ _ fun i k n h => ?_,
      cols_spec _ _ _ _ _ fun i k n h => ?_, cols_spec _ _ _ _ _ fun i k n h => ?_, cols_spec _ _ _ _ _ fun i k n h => ?_, cols_spec _ _ _ _ _ fun i k n h => ?_,
      cols_spec _ _ _ _ _ fun i k n h => ?_, cols_spec _ _ _ _ _ fun i k n h => ?_, cols_spec _ _ _ _ _ fun i k n h => ?_, by simp⟩
    · exact (cots_v _ _ _ _ (fun k => z (ix2 i k)) k n h).symm
    · exact (cots_u _ _ _ (fun k => u (ix2 i k)) _ k n h).symm
    · exact (values (V := at2 x2) hq i k).trans (cots_c _ _ (at2 x2 i) _ _ 2 k n (by omega)).symm
    · exact (keys (V := at2 x2) hq i k).trans (cots_c _ _ (at2 x2 i) _ _ 1 k n (by omega)).symm
    · exact (queries (V := at2 x2) hq i k).trans (cots_c _ _ (at2 x2 i) _ _ 0 k n (by omega)).symm
    · exact (values (V := at1 x1) hp i k).trans (cots_b _ (at1 x1 i) _ _ _ 2 k n (by omega)).symm
    · exact (keys (V := at1 x1) hp i k).trans (cots_b _ (at1 x1 i) _ _ _ 1 k n (by omega)).symm
    · exact (queries (V := at1 x1) hp i k).trans (cots_b _ (at1 x1 i) _ _ _ 0 k n (by omega)).symm
    · exact (values0 x0 i k).trans (cots_a (at0 x0 i) _ _ _ _ 2 k n (by omega)).symm
    · exact (keys0 x0 i k).trans (cots_a (at0 x0 i) _ _ _ _ 1 k n (by omega)).symm
    · exact (queries0 x0 i k).trans (cots_a (at0 x0 i) _ _ _ _ 0 k n (by omega)).symm
  · have hn := n.isLt
    have at_ (o W : ℕ) (h : o + W ≤ 5376) (w) (m : cols o W h w ∈ dpL x0 u z p q) (l : o ≤ n.val) (r : n.val < o + W) :
        ∃ e ∈ dpL x0 u z p q, (ix2 i n : S512x5376.Idx) ∈ e.1.set := ⟨_, m, cols_mem o W h w (ix2 i n) l r⟩
    rcases (by omega : n.val < 256 ∨ (256 ≤ n.val ∧ n.val < 512) ∨ (512 ≤ n.val ∧ n.val < 768) ∨ (768 ≤ n.val ∧ n.val < 1024) ∨ (1024 ≤ n.val ∧ n.val < 1280)
      ∨ (1280 ≤ n.val ∧ n.val < 1536) ∨ (1536 ≤ n.val ∧ n.val < 1792) ∨ (1792 ≤ n.val ∧ n.val < 2048) ∨ (2048 ≤ n.val ∧ n.val < 2304)
      ∨ (2304 ≤ n.val ∧ n.val < 3328) ∨ 3328 ≤ n.val) with c | c | c | c | c | c | c | c | c | c | c
    · exact at_ 0 256 (by decide) _ (List.get_mem (dpL x0 u z p q) ⟨10, by simp [dpL]⟩) (by omega) (by omega)
    · exact at_ 256 256 (by decide) _ (List.get_mem (dpL x0 u z p q) ⟨7, by simp [dpL]⟩) (by omega) (by omega)
    · exact at_ 512 256 (by decide) _ (List.get_mem (dpL x0 u z p q) ⟨4, by simp [dpL]⟩) (by omega) (by omega)
    · exact at_ 768 256 (by decide) _ (List.get_mem (dpL x0 u z p q) ⟨9, by simp [dpL]⟩) (by omega) (by omega)
    · exact at_ 1024 256 (by decide) _ (List.get_mem (dpL x0 u z p q) ⟨6, by simp [dpL]⟩) (by omega) (by omega)
    · exact at_ 1280 256 (by decide) _ (List.get_mem (dpL x0 u z p q) ⟨3, by simp [dpL]⟩) (by omega) (by omega)
    · exact at_ 1536 256 (by decide) _ (List.get_mem (dpL x0 u z p q) ⟨8, by simp [dpL]⟩) (by omega) (by omega)
    · exact at_ 1792 256 (by decide) _ (List.get_mem (dpL x0 u z p q) ⟨5, by simp [dpL]⟩) (by omega) (by omega)
    · exact at_ 2048 256 (by decide) _ (List.get_mem (dpL x0 u z p q) ⟨2, by simp [dpL]⟩) (by omega) (by omega)
    · exact at_ 2304 1024 (by decide) _ (List.get_mem (dpL x0 u z p q) ⟨1, by simp [dpL]⟩) (by omega) (by omega)
    · exact at_ 3328 2048 (by decide) _ (List.get_mem (dpL x0 u z p q) ⟨0, by simp [dpL]⟩) (by omega) (by omega)

end Cert.MixIdeal.Point

end
-- ==== Proof.MixBody.lean ====
module

public import proofs.«01_k».proof.Proof.MixPoint

@[expose] public section

set_option maxRecDepth 16384

noncomputable section

open Idealize.ShloMosaic Idealize.ShloMosaic.TcCoe Idealize.SL.Sem

namespace Cert.MixIdeal.Point

open Cert.MixIdeal Cert.MixIdeal.Gen Cert.FfnRow Cert.MixRow

/-- A row of a block. -/
def rowX (X : Vec Ideal S512x1024 .f32) (i : Fin 512) : Lanes := fun k => X (ix2 i k)
/-- The gain's lanes. -/
def gainX (g : Vec Ideal S1x1024 .f32) : Lanes := fun k => g (ix2 0 k)
/-- The weights' lanes. -/
def wtsX (w : Vec Ideal S5376x1024 .bf16) : Fin 5376 → Lanes := fun n k => w (ix2 n k)

variable {D : Vec Ideal S512x5376 .bf16} {d : Fin 512 → Fin 5376 → EReal} (hD : ∀ i n, D (ix2 i n) = d i n)
  (w : Vec Ideal S5376x1024 .bf16) (X P : Vec Ideal S512x1024 .f32) (g o : Vec Ideal S1x1024 .f32)

/-- A row's reciprocal root mean square. -/
theorem rms_at (i : Fin 512) : k0_pay154 X (ix2 i 0) = rms (rowX X i) := by
  pointwise [k0_pay154]; rfl
/-- The row times the cube of it. -/
theorem cube_at (i : Fin 512) (l : Fin 1024) : k0_pay157 X (ix2 i l) = rowX X i l * (rms (rowX X i) * rms (rowX X i) * rms (rowX X i)) := by
  pointwise [k0_pay157]
  rw [rms_at]; rfl

include hD
/-- The cotangent of the normalised block. -/
theorem pull_at (i : Fin 512) (l : Fin 1024) : k0_pay153 D w (ix2 i l) = pull (d i) (wtsX w) l := by
  pointwise [k0_pay153]
  simp only [hD]; rfl
/-- The same times the gain. -/
theorem gained_at (i : Fin 512) (l : Fin 1024) : k0_pay155 D w g (ix2 i l) = pull (d i) (wtsX w) l * gainX g l := by
  pointwise [k0_pay155]
  rw [pull_at hD]; rfl
/-- The same times the reciprocal root mean square. -/
theorem scaled_at (i : Fin 512) (l : Fin 1024) : k0_pay156 D w X g (ix2 i l) = rms (rowX X i) * (pull (d i) (wtsX w) l * gainX g l) := by
  pointwise [k0_pay156]
  rw [gained_at hD, rms_at]
/-- The row's mean of the product of cotangent and row. -/
theorem mean_at (i : Fin 512) (l : Fin 1024) : k0_pay158 D w X g (ix2 i l)
    = Ideal.div (∑ k, pull (d i) (wtsX w) k * gainX g k * rowX X i k) (Ideal.ofBits .f32 0x44800000#32) := by
  pointwise [k0_pay158]
  simp only [gained_at hD]; rfl
/-- The gradient of the block. -/
theorem dx_at (i : Fin 512) (l : Fin 1024) : k0_pay1 (k0_pay156 D w X g) (k0_pay157 X) (k0_pay158 D w X g) P (ix2 i l)
    = dx (rowX P i) (rowX X i) (gainX g) (d i) (wtsX w) l := by
  pointwise [k0_pay1]
  rw [scaled_at hD, cube_at, mean_at hD]; rfl
/-- What the block adds to the gradient of the gain. -/
theorem add_dg (l : Fin 1024) : k0_pay2 (k0_pay153 D w) X (k0_pay154 X) o (ix2 0 l) = o (ix2 0 l) + ∑ i : Fin 512, dg (rowX X i) (d i) (wtsX w) l := by
  pointwise [k0_pay2]
  simp only [pull_at hD, rms_at]; rfl

end Cert.MixIdeal.Point

end
-- ==== Proof.MixDp.lean ====
module

public import proofs.«01_k».proof.Proof.MixBody
public import proofs.«01_k».proof.Proof.Gen.MixIdeal.Value

@[expose] public section

set_option maxRecDepth 16384

noncomputable section

open Idealize.ShloMosaic Idealize.ShloMosaic.TcCoe Idealize.SL.Sem

namespace Cert.MixIdeal.Point

open Cert.MixIdeal Cert.MixIdeal.Gen Cert.FfnRow Cert.MixRow

section
variable {κ : Kind} {sp : Space} (v : View sig κ sp S6x512x128 .f32)
  (x0 : Vec Ideal S1x512x768 .bf16) (x1 : Vec Ideal S4x128x768 .bf16) (x2 : Vec Ideal S16x32x768 .bf16) (u : Vec Ideal S512x1024 .bf16) (z : Vec Ideal S512x2048 .bf16)

/-- A plane lies in the scratch. -/
theorem plane_inb (j : Fin 6) (a) : (![j.val, 0, 0] : Fin 3 → ℕ) a + S1x512x128.size a ≤ S6x512x128.size a := by
  have := j.isLt
  fin_cases a
  · show j.val + 1 ≤ 6; omega
  · show 0 + 512 ≤ 512; omega
  · show 0 + 128 ≤ 128; omega
variable (La Lb : List Piece)

/-- The planes read after stores. -/
def PL (L : List Piece) (j : Fin 6) : Vec Ideal S1x512x128 .f32 := v.readCov L (Rect.unit (s := S6x512x128) ![j.val, 0, 0] S1x512x128.size (plane_inb j)).toLoadRect
/-- What the body stores of the cotangents, from planes read after the second group's stores and after the third's. -/
def dpB : List (View.Piece (Elt Ideal) S512x5376 .bf16) := dpL x0 u z (PL v La) (PL v Lb)

variable {La Lb} (ha : ∀ (j : Fin 6) (s : Fin 512) (l : Fin 128), View.canon La (ix3 j s l) = inOrder (K := 4) (R := 128) rfl x1 j s l)
  (hb : ∀ (j : Fin 6) (s : Fin 512) (l : Fin 128), View.canon Lb (ix3 j s l) = inOrder (K := 16) (R := 32) rfl x2 j s l)
include ha hb

/-- They are the cotangents of the whole projection. -/
theorem dpB_canon (i : Fin 512) (n : Fin 5376) : View.canon (dpB v x0 u z La Lb) (ix2 i n) = rowB x0 x1 x2 u z i n :=
  dp_canon x0 x1 x2 u z (fun j s l => (plane v La j _ s l).trans (ha j s l)) (fun j s l => (plane v Lb j _ s l).trans (hb j s l)) i n
/-- The same read back whole. -/
theorem dpB_read {κ' : Kind} {sp' : Space} (v' : View sig κ' sp' S512x5376 .bf16) (inb) (i : Fin 512) (n : Fin 5376) :
    v'.readCov (dpB v x0 u z La Lb) (Rect.unit (s := S512x5376) ![0, 0] S512x5376.size inb).toLoadRect (ix2 i n) = rowB x0 x1 x2 u z i n := by
  rw [View.readCov_eq_canon']
  refine Eq.trans (congrArg (View.canon (dpB v x0 u z La Lb)) ?_) (dpB_canon v x0 x1 x2 u z ha hb i n)
  funext a; apply Fin.ext
  fin_cases a
  · show 0 + 1 * i.val = i.val; omega
  · show 0 + 1 * n.val = n.val; omega
end

/-- The scratch after the second group's stores. -/
theorem ord1 (x1 : Vec Ideal S4x128x768 .bf16) (j : Fin 6) (s : Fin 512) (l : Fin 128) :
    View.canon (upto (pc (K := 4) (R := 128) rfl (w1 x1)) 4 (le_refl 4) ++ []) (ix3 j s l) = inOrder (K := 4) (R := 128) rfl x1 j s l :=
  upto_canon (K := 4) (R := 128) rfl (w1 x1) x1 [] (w1_at x1) j s l
/-- The scratch after the third group's stores, over whatever is there. -/
theorem ord2 (x2 : Vec Ideal S16x32x768 .bf16) (L : List Piece) (j : Fin 6) (s : Fin 512) (l : Fin 128) :
    View.canon (upto (pc (K := 16) (R := 32) rfl (w2 x2)) 16 (le_refl 16) ++ L) (ix3 j s l) = inOrder (K := 16) (R := 32) rfl x2 j s l :=
  upto_canon (K := 16) (R := 32) rfl (w2 x2) x2 L (w2_at x2) j s l

variable (m : (ℓ : Loc nD τ sig) → Buf (Elt Ideal) ℓ) (c : Dev nD) (t : Fin cfg0.N)

/-- A row of the cotangents of the whole projection, from the blocks that point `t` reads. -/
def Dt (i : Fin 512) : Fin 5376 → EReal := rowB (iblk m c 0 t) (iblk m c 1 t) (iblk m c 2 t) (iblk m c 3 t) (iblk m c 4 t) i

set_option maxHeartbeats 2000000 in
/-- What point `t` writes of the cotangents. -/
theorem out_dp (i : Fin 512) (n : Fin 5376) : (outsAt0 m c t.val t.isLt).2.1 (ix2 i n) = Dt m c t i n := by
  by_cases h0 : t.val % 16 = 0
  on_goal 1 => rw [outsAt0_A m c t h0]
  on_goal 2 => rw [outsAt0_B m c t h0]
  all_goals
    dsimp only
    frame_open
    frame_out
    refine dpB_canon _ (iblk m c 0 t) (iblk m c 1 t) (iblk m c 2 t) (iblk m c 3 t) (iblk m c 4 t) ?_ ?_ i n
    · exact ord1 (iblk m c 1 t)
    · exact ord2 (iblk m c 2 t) _

end Cert.MixIdeal.Point

end
-- ==== Proof.MixDx.lean ====
module

public import proofs.«01_k».proof.Proof.MixDp

@[expose] public section

set_option maxRecDepth 16384

noncomputable section

open Idealize.ShloMosaic Idealize.ShloMosaic.TcCoe Idealize.SL.Sem

namespace Cert.MixIdeal.Point

open Cert.MixIdeal Cert.MixIdeal.Gen Cert.FfnRow Cert.MixRow

variable (m : (ℓ : Loc nD τ sig) → Buf (Elt Ideal) ℓ) (c : Dev nD) (t : Fin cfg0.N)

set_option maxHeartbeats 2000000 in
/-- What point `t` writes of the gradient of the rows. -/
theorem out_dx (i : Fin 512) (l : Fin 1024) : (outsAt0 m c t.val t.isLt).1 (ix2 i l)
    = dx (rowX (iblk m c 5 t) i) (rowX (iblk m c 6 t) i) (gainX (iblk m c 7 t)) (Dt m c t i) (wtsX (iblk m c 8 t)) l := by
  by_cases h0 : t.val % 16 = 0
  on_goal 1 => rw [outsAt0_A m c t h0]
  on_goal 2 => rw [outsAt0_B m c t h0]
  all_goals
    dsimp only
    frame_open
    frame_out
    refine dx_at (d := Dt m c t) ?_ (iblk m c 8 t) (iblk m c 6 t) (iblk m c 5 t) (iblk m c 7 t) i l
    · intro i n
      refine dpB_read _ (iblk m c 0 t) (iblk m c 1 t) (iblk m c 2 t) (iblk m c 3 t) (iblk m c 4 t) ?_ ?_ _ _ i n
      · exact ord1 (iblk m c 1 t)
      · exact ord2 (iblk m c 2 t) _

end Cert.MixIdeal.Point

end
-- ==== Proof.MixDg.lean ====
module

public import proofs.«01_k».proof.Proof.MixDp

@[expose] public section

set_option maxRecDepth 16384

noncomputable section

open Idealize.ShloMosaic Idealize.ShloMosaic.TcCoe Idealize.SL.Sem

namespace Cert.MixIdeal.Point

open Cert.MixIdeal Cert.MixIdeal.Gen Cert.FfnRow Cert.MixRow

variable (m : (ℓ : Loc nD τ sig) → Buf (Elt Ideal) ℓ) (c : Dev nD) (t : Fin cfg0.N)

/-- The block's share of the gradient of the gain. -/
def sdg (l : Fin 1024) : EReal := ∑ i, dg (rowX (iblk m c 6 t) i) (Dt m c t i) (wtsX (iblk m c 8 t)) l

set_option maxHeartbeats 2000000 in
/-- The first point stores its share over zero. -/
theorem first_dg (h0 : t.val % 16 = 0) (l : Fin 1024) : (outsAt0 m c t.val t.isLt).2.2 (ix2 0 l) = 0 + sdg m c t l := by
  rw [outsAt0_A m c t h0]
  dsimp only
  frame_open
  simp (disch := decide) only [↓ View.readCov_cons_toLoadRect]
  frame_out
  refine (add_dg (d := Dt m c t) ?_ (iblk m c 8 t) (iblk m c 6 t) _ l).trans ?_
  · intro i n
    refine dpB_read _ (iblk m c 0 t) (iblk m c 1 t) (iblk m c 2 t) (iblk m c 3 t) (iblk m c 4 t) ?_ ?_ _ _ i n
    · exact ord1 (iblk m c 1 t)
    · exact ord2 (iblk m c 2 t) _
  · rw [show (k0_pay3 : FVec Ideal _ _) (ix2 0 l) = 0 from by pointwise [k0_pay3]]
    rfl
set_option maxHeartbeats 2000000 in
/-- Every later point adds its share. -/
theorem later_dg (h0 : ¬t.val % 16 = 0) (l : Fin 1024) :
    (outsAt0 m c t.val t.isLt).2.2 (ix2 0 l) = (outsAt0 m c (t.val - 1) (Nat.lt_of_le_of_lt (Nat.sub_le _ _) t.isLt)).2.2 (ix2 0 l) + sdg m c t l := by
  rw [outsAt0_B m c t h0]
  dsimp only
  frame_open
  frame_out
  refine (add_dg (d := Dt m c t) ?_ (iblk m c 8 t) (iblk m c 6 t) _ l).trans ?_
  · intro i n
    refine dpB_read _ (iblk m c 0 t) (iblk m c 1 t) (iblk m c 2 t) (iblk m c 3 t) (iblk m c 4 t) ?_ ?_ _ _ i n
    · exact ord1 (iblk m c 1 t)
    · exact ord2 (iblk m c 2 t) _
  · rfl

end Cert.MixIdeal.Point

end
-- ==== Proof.MixArr.lean ====
module

public import proofs.«01_k».proof.Proof.MixDx
public import proofs.«01_k».proof.Proof.MixDg
public import Idealize.ShloMosaic.Lib.Claim

@[expose] public section

set_option maxRecDepth 16384

noncomputable section

open Idealize.ShloMosaic Idealize.ShloMosaic.TcCoe Idealize.SL.Sem

namespace Cert.MixIdeal.Arr

open Cert.MixIdeal Cert.MixIdeal.Gen Cert.MixIdeal.Point Cert.FfnRow Cert.MixRow

/-! The arrays the run leaves, as functions of the arguments' rows. -/

/-- A sum over 8192 rows is the sum over 16 blocks of the sums over each block's 512 rows. -/
theorem rows (f : Fin 8192 → EReal) :
    (∑ t : Fin 16, ∑ i : Fin 512, f ⟨512 * t.val + i.val, by omega⟩) = ∑ s, f s := by
  rw [← Equiv.sum_comp (finProdFinEquiv (m := 16) (n := 512)) f, Fintype.sum_prod_type]
  refine Finset.sum_congr rfl fun k _ => Finset.sum_congr rfl fun i _ => congrArg f (Fin.ext ?_)
  exact Nat.add_comm _ _

/-- An accumulator the first point sets to its share and every later point adds its share to holds, after the last
    point, the sum of all the shares. -/
theorem total {N : ℕ} (o p : Fin N → EReal) (hN : N = 16) (first : ∀ t : Fin N, t.val % 16 = 0 → o t = 0 + p t)
    (later : ∀ t : Fin N, ¬t.val % 16 = 0 → o t = o ⟨t.val - 1, Nat.lt_of_le_of_lt (Nat.sub_le _ _) t.isLt⟩ + p t)
    (t : Fin N) (h : t.val % 16 = 15) : o t = ∑ u : Fin 16, p (Fin.cast hN.symm u) := by
  subst hN
  have key : ∀ n (hn : n < 16), o ⟨n, hn⟩ = ∑ u : Fin (n + 1), p ⟨u.val, by omega⟩ := by
    intro n
    induction n with
    | zero => intro hn; rw [Fin.sum_univ_one]; exact (first _ rfl).trans (zero_add _)
    | succ n ih =>
      intro hn
      rw [Fin.sum_univ_castSucc]
      exact (later _ (show ¬(n + 1) % 16 = 0 by omega)).trans (congrArg (· + _) (ih (by omega)))
  obtain ⟨n, hn⟩ := t
  obtain rfl : n = 15 := by dsimp only at h; omega
  exact key 15 hn

variable (m : (ℓ : Loc nD τ sig) → Buf (Elt Ideal) ℓ) (c : Dev nD)

/-- There are 16 points. -/
theorem lt (t : Fin cfg0.N) : t.val < 16 := lt_of_lt_of_eq t.isLt (show cfg0.N = 16 from N_0)

/-- The first group's block: the point's rows. -/
theorem idx0 : ∀ t : Fin cfg0.N, win0_0.index t = ![0, t.val, 0] := (by decide +kernel : ∀ t : Fin grid0.N, _)
/-- The second group's block: the point's rows of each stream. -/
theorem idx1 : ∀ t : Fin cfg0.N, win0_1.index t = ![0, t.val, 0] := (by decide +kernel : ∀ t : Fin grid0.N, _)
/-- The third group's block: the point's rows of each stream. -/
theorem idx2 : ∀ t : Fin cfg0.N, win0_2.index t = ![0, t.val, 0] := (by decide +kernel : ∀ t : Fin grid0.N, _)
/-- The second branch's block: the point's rows. -/
theorem idx3 : ∀ t : Fin cfg0.N, win0_3.index t = ![t.val, 0] := (by decide +kernel : ∀ t : Fin grid0.N, _)
/-- The third branch's block: the point's rows. -/
theorem idx4 : ∀ t : Fin cfg0.N, win0_4.index t = ![t.val, 0] := (by decide +kernel : ∀ t : Fin grid0.N, _)
/-- The block of the later gradient: the point's rows. -/
theorem idx5 : ∀ t : Fin cfg0.N, win0_5.index t = ![t.val, 0] := (by decide +kernel : ∀ t : Fin grid0.N, _)
/-- The residual stream's block: the point's rows. -/
theorem idx6 : ∀ t : Fin cfg0.N, win0_6.index t = ![t.val, 0] := (by decide +kernel : ∀ t : Fin grid0.N, _)
/-- The gain: one block. -/
theorem idx7 : ∀ t : Fin cfg0.N, win0_7.index t = ![0, 0] := (by decide +kernel : ∀ t : Fin grid0.N, _)
/-- The weights: one block. -/
theorem idx8 : ∀ t : Fin cfg0.N, win0_8.index t = ![0, 0] := (by decide +kernel : ∀ t : Fin grid0.N, _)
/-- The block of the gradients of the rows: the point's rows. -/
theorem idx9 : ∀ t : Fin cfg0.N, win0_9.index t = ![t.val, 0] := (by decide +kernel : ∀ t : Fin grid0.N, _)
/-- The block of the cotangents: the point's rows. -/
theorem idx10 : ∀ t : Fin cfg0.N, win0_10.index t = ![t.val, 0] := (by decide +kernel : ∀ t : Fin grid0.N, _)
/-- The gradient of the gain: one block. -/
theorem idx11 : ∀ t : Fin cfg0.N, win0_11.index t = ![0, 0] := (by decide +kernel : ∀ t : Fin grid0.N, _)

/-- An entry of the first group's block. -/
theorem blk0 (t : Fin cfg0.N) (i : Fin 512) (k : Fin 768) :
    iblk m c 0 t (ix3 0 i k) = m ((c : Thread nD τ).loc main_arg0) (ix3 0 ⟨512 * t.val + i.val, by have := lt t; omega⟩ k) := by
  blk_ext [iblk, idx0 t]
/-- An entry of the second group's block. -/
theorem blk1 (t : Fin cfg0.N) (r : Fin 4) (q : Fin 128) (k : Fin 768) :
    iblk m c 1 t (ix3 r q k) = m ((c : Thread nD τ).loc main_arg1) (ix3 r ⟨128 * t.val + q.val, by have := lt t; omega⟩ k) := by
  blk_ext [iblk, idx1 t]
/-- An entry of the third group's block. -/
theorem blk2 (t : Fin cfg0.N) (r : Fin 16) (q : Fin 32) (k : Fin 768) :
    iblk m c 2 t (ix3 r q k) = m ((c : Thread nD τ).loc main_arg2) (ix3 r ⟨32 * t.val + q.val, by have := lt t; omega⟩ k) := by
  blk_ext [iblk, idx2 t]
/-- An entry of the second branch's block. -/
theorem blk3 (t : Fin cfg0.N) (i : Fin 512) (k : Fin 1024) :
    iblk m c 3 t (ix2 i k) = m ((c : Thread nD τ).loc main_arg3) (ix2 ⟨512 * t.val + i.val, by have := lt t; omega⟩ k) := by
  blk_ext [iblk, idx3 t]
/-- An entry of the third branch's block. -/
theorem blk4 (t : Fin cfg0.N) (i : Fin 512) (k : Fin 2048) :
    iblk m c 4 t (ix2 i k) = m ((c : Thread nD τ).loc main_arg4) (ix2 ⟨512 * t.val + i.val, by have := lt t; omega⟩ k) := by
  blk_ext [iblk, idx4 t]
/-- An entry of the later gradient's block. -/
theorem blk5 (t : Fin cfg0.N) (i : Fin 512) (k : Fin 1024) :
    iblk m c 5 t (ix2 i k) = m ((c : Thread nD τ).loc main_arg5) (ix2 ⟨512 * t.val + i.val, by have := lt t; omega⟩ k) := by
  blk_ext [iblk, idx5 t]
/-- An entry of the residual stream's block. -/
theorem blk6 (t : Fin cfg0.N) (i : Fin 512) (k : Fin 1024) :
    iblk m c 6 t (ix2 i k) = m ((c : Thread nD τ).loc main_arg6) (ix2 ⟨512 * t.val + i.val, by have := lt t; omega⟩ k) := by
  blk_ext [iblk, idx6 t]
/-- An entry of the gain. -/
theorem blk7 (t : Fin cfg0.N) (k : Fin 1024) : iblk m c 7 t (ix2 0 k) = m ((c : Thread nD τ).loc main_arg7) (ix2 0 k) := by
  blk_ext [iblk, idx7 t]
/-- An entry of the weights, which the host casts and transposes. -/
theorem blk8 (t : Fin cfg0.N) (n : Fin 5376) (k : Fin 1024) : iblk m c 8 t (ix2 n k) = m ((c : Thread nD τ).loc main_arg8) (ix2 k n) := by
  blk_ext! [iblk, idx8 t]

/-- A row of the later gradient. -/
abbrev P (s : Fin 8192) : Lanes := line (m ((c : Thread nD τ).loc main_arg5)) s
/-- A row of the residual stream. -/
abbrev H (s : Fin 8192) : Lanes := line (m ((c : Thread nD τ).loc main_arg6)) s
/-- The gain's lanes. -/
abbrev G : Lanes := fun k => m ((c : Thread nD τ).loc main_arg7) (ix2 0 k)
/-- The weights' lanes. -/
abbrev W : Fin 5376 → Lanes := fun n k => m ((c : Thread nD τ).loc main_arg8) (ix2 k n)
/-- A row of the cotangents of the whole projection. -/
abbrev D (s : Fin 8192) : Fin 5376 → EReal :=
  cots (fun k => m ((c : Thread nD τ).loc main_arg0) (ix3 0 s k)) (fun k => m ((c : Thread nD τ).loc main_arg1) (ix3 ⟨s.val % 4, by omega⟩ ⟨s.val / 4, by omega⟩ k))
    (fun k => m ((c : Thread nD τ).loc main_arg2) (ix3 ⟨s.val % 16, by omega⟩ ⟨s.val / 16, by omega⟩ k))
    (fun k => m ((c : Thread nD τ).loc main_arg3) (ix2 s k)) (fun k => m ((c : Thread nD τ).loc main_arg4) (ix2 s k))

/-- The row of the arrays that a point's row is. -/
abbrev spot (t : Fin cfg0.N) (i : Fin 512) : Fin 8192 := ⟨512 * t.val + i.val, by have := lt t; omega⟩

/-- A point's row of the later gradient. -/
theorem P_eq (t : Fin cfg0.N) (i : Fin 512) : rowX (iblk m c 5 t) i = P m c (spot t i) := funext fun k => blk5 m c t i k
/-- A point's row of the residual stream. -/
theorem H_eq (t : Fin cfg0.N) (i : Fin 512) : rowX (iblk m c 6 t) i = H m c (spot t i) := funext fun k => blk6 m c t i k
/-- Every point reads the same gain. -/
theorem G_eq (t : Fin cfg0.N) : gainX (iblk m c 7 t) = G m c := funext fun k => blk7 m c t k
/-- Every point reads the same weights. -/
theorem W_eq (t : Fin cfg0.N) : wtsX (iblk m c 8 t) = W m c := funext fun n => funext fun k => blk8 m c t n k
/-- A point's row of the cotangents: the blocks of the dilated groups hold the same positions as the others. -/
theorem D_eq (t : Fin cfg0.N) (i : Fin 512) : Dt m c t i = D m c (spot t i) := by
  have e0 : at0 (iblk m c 0 t) i = fun k => m ((c : Thread nD τ).loc main_arg0) (ix3 0 (spot t i) k) := funext fun k => blk0 m c t i k
  have e1 : at1 (iblk m c 1 t) i = fun k => m ((c : Thread nD τ).loc main_arg1) (ix3 ⟨(spot t i).val % 4, by omega⟩ ⟨(spot t i).val / 4, by omega⟩ k) :=
    funext fun k => (blk1 m c t _ _ k).trans (congrArg₂ (fun r q => m ((c : Thread nD τ).loc main_arg1) (ix3 r q k)) (Fin.ext (by dsimp only; omega)) (Fin.ext (by dsimp only; omega)))
  have e2 : at2 (iblk m c 2 t) i = fun k => m ((c : Thread nD τ).loc main_arg2) (ix3 ⟨(spot t i).val % 16, by omega⟩ ⟨(spot t i).val / 16, by omega⟩ k) :=
    funext fun k => (blk2 m c t _ _ k).trans (congrArg₂ (fun r q => m ((c : Thread nD τ).loc main_arg2) (ix3 r q k)) (Fin.ext (by dsimp only; omega)) (Fin.ext (by dsimp only; omega)))
  have e3 : (fun k => iblk m c 3 t (ix2 i k)) = fun k => m ((c : Thread nD τ).loc main_arg3) (ix2 (spot t i) k) := funext fun k => blk3 m c t i k
  have e4 : (fun k => iblk m c 4 t (ix2 i k)) = fun k => m ((c : Thread nD τ).loc main_arg4) (ix2 (spot t i) k) := funext fun k => blk4 m c t i k
  rw [Dt, rowB, e0, e1, e2, e3, e4]

/-- A function of a row and a lane, at an index with these coordinates. -/
theorem two {a b : ℕ} (F : Fin a → Fin b → EReal) {s : Fin a} {l : Fin b} {x : (⟨2, ![a, b]⟩ : Shape).Idx} (h : ix2 s l = x) :
    F s l = F (x 0) (x 1) := by
  subst h
  rfl
/-- A function of a lane, at an index with this coordinate. -/
theorem lane {a b : ℕ} (F : Fin b → EReal) {s : Fin a} {l : Fin b} {x : (⟨2, ![a, b]⟩ : Shape).Idx} (h : ix2 s l = x) :
    F l = F (x 1) := by
  subst h
  rfl

/-- The gradient of the rows. -/
theorem arr9 : (dats m 0 c).arrAt 9 cfg0.N = fun x => dx (P m c (x 0)) (H m c (x 0)) (G m c) (D m c (x 0)) (W m c) (x 1) := by
  refine (dats m 0 c).arrAt_eq_of_covers 9 _ (by decide +kernel) fun t hf y => ?_
  blk_simp
  rw [after0_9]
  obtain ⟨i, l, rfl⟩ : ∃ (i : Fin 512) (l : Fin 1024), y = ix2 i l := ⟨y 0, y 1, by blk_ext⟩
  refine (out_dx m c t i l).trans ?_
  rw [P_eq, H_eq, G_eq, W_eq, D_eq]
  exact two (fun s l => dx (P m c s) (H m c s) (G m c) (D m c s) (W m c) l) (show ix2 (spot t i) l = (win0_9.blk t).view.emb (ix2 i l) from by blk_ext [idx9 t])
/-- The cotangents of the whole projection. -/
theorem arr10 : (dats m 0 c).arrAt 10 cfg0.N = fun x => D m c (x 0) (x 1) := by
  refine (dats m 0 c).arrAt_eq_of_covers 10 _ (by decide +kernel) fun t hf y => ?_
  blk_simp
  rw [after0_10]
  obtain ⟨i, n, rfl⟩ : ∃ (i : Fin 512) (n : Fin 5376), y = ix2 i n := ⟨y 0, y 1, by blk_ext⟩
  refine (out_dp m c t i n).trans ?_
  rw [D_eq]
  exact two (fun s n => D m c s n) (show ix2 (spot t i) n = (win0_10.blk t).view.emb (ix2 i n) from by blk_ext [idx10 t])
/-- The gradient of the gain: the sum over the rows. -/
theorem arr11 : (dats m 0 c).arrAt 11 cfg0.N = fun x => ∑ s, dg (H m c s) (D m c s) (W m c) (x 1) := by
  refine (dats m 0 c).arrAt_eq_of_covers 11 _ (by decide +kernel) fun t hf y => ?_
  have h := (flush0_11 t).mp hf
  blk_simp
  rw [after0_11]
  obtain ⟨i, l, rfl⟩ : ∃ (i : Fin 1) (l : Fin 1024), y = ix2 i l := ⟨y 0, y 1, by blk_ext⟩
  obtain rfl : i = 0 := Subsingleton.elim _ _
  refine (total (fun t => (outsAt0 m c t.val t.isLt).2.2 (ix2 0 l)) (fun t => sdg m c t l) N_0 (fun t h => first_dg m c t h l)
    (fun t h => later_dg m c t h l) t h).trans ?_
  refine Eq.trans (Finset.sum_congr rfl fun u _ => Finset.sum_congr rfl fun i _ => ?_)
    ((rows fun s => dg (H m c s) (D m c s) (W m c) l).trans (lane (fun l => ∑ s, dg (H m c s) (D m c s) (W m c) l)
      (show ix2 0 l = (win0_11.blk t).view.emb (ix2 0 l) from by blk_ext [idx11 t])))
  rw [H_eq, W_eq, D_eq]
  rfl

end Cert.MixIdeal.Arr

end
-- ==== Proof.MixRef.lean ====
module

public import proofs.«01_k».proof.Proof.MixRow
public import proofs.«01_k».proof.Proof.Gen.MixRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MixRefIdeal.Stage

open Cert.MixRefIdeal Cert.MixRefIdeal.Gen Cert.MixRefIdeal.Value Cert.FfnRow Cert.MixRow

/-! The reference's stages at an element, as functions of the arguments. -/

variable (A : FVec Ideal S1x8192x768 .bf16) (B : FVec Ideal S4x2048x768 .bf16) (C : FVec Ideal S16x512x768 .bf16)
  (U : FVec Ideal S8192x1024 .bf16) (Z : FVec Ideal S8192x2048 .bf16)

/-- The first group's cotangents in the order of the positions. -/
def ord0 : FVec Ideal S8192x3x256 .f32 :=
  shapeCast _ (transpose S8192x1x768 [1, 0, 2] (extf .f32 A bitsLt_bf16_f32 : FVec Ideal S1x8192x768 .f32) transposes_S1x8192x768_S8192x1x768_1_0_2) shapeCasts_S8192x1x768_S8192x3x256
/-- The second group's. -/
def ord1 : FVec Ideal S8192x3x256 .f32 :=
  shapeCast _ (transpose S2048x4x768 [1, 0, 2] (extf .f32 B bitsLt_bf16_f32 : FVec Ideal S4x2048x768 .f32) transposes_S4x2048x768_S2048x4x768_1_0_2) shapeCasts_S2048x4x768_S8192x3x256
/-- The third group's. -/
def ord2 : FVec Ideal S8192x3x256 .f32 :=
  shapeCast _ (transpose S512x16x768 [1, 0, 2] (extf .f32 C bitsLt_bf16_f32 : FVec Ideal S16x512x768 .f32) transposes_S16x512x768_S512x16x768_1_0_2) shapeCasts_S512x16x768_S8192x3x256

/-- An entry of the first group. -/
theorem ord0_at (s : Fin 8192) (p : Fin 3) (k : Fin 256) : ord0 A (ix3 s p k) = A (ix3 0 s ⟨256 * p.val + k.val, by omega⟩) := by
  pointwise [ord0]
  blk_ext
/-- An entry of the second group. -/
theorem ord1_at (s : Fin 8192) (p : Fin 3) (k : Fin 256) :
    ord1 B (ix3 s p k) = B (ix3 ⟨s.val % 4, by omega⟩ ⟨s.val / 4, by omega⟩ ⟨256 * p.val + k.val, by omega⟩) := by
  pointwise [ord1]
  blk_ext
/-- An entry of the third group. -/
theorem ord2_at (s : Fin 8192) (p : Fin 3) (k : Fin 256) :
    ord2 C (ix3 s p k) = C (ix3 ⟨s.val % 16, by omega⟩ ⟨s.val / 16, by omega⟩ ⟨256 * p.val + k.val, by omega⟩) := by
  pointwise [ord2]
  blk_ext

/-- A group's queries. -/
def third0 (G : FVec Ideal S8192x3x256 .f32) : FVec Ideal S8192x256 .f32 :=
  shapeCast _ (extractStridedSlice S8192x1x256 ![0, 0, 0] G slices_S8192x3x256_S8192x1x256_0_0_0) shapeCasts_S8192x1x256_S8192x256
/-- An entry of them. -/
theorem third0_at (G : FVec Ideal S8192x3x256 .f32) (s : Fin 8192) (k : Fin 256) : third0 G (ix2 s k) = G (ix3 s 0 k) := by
  pointwise [third0]
  blk_ext
/-- A group's keys. -/
def third1 (G : FVec Ideal S8192x3x256 .f32) : FVec Ideal S8192x256 .f32 :=
  shapeCast _ (extractStridedSlice S8192x1x256 ![0, 1, 0] G slices_S8192x3x256_S8192x1x256_0_1_0) shapeCasts_S8192x1x256_S8192x256
/-- An entry of them. -/
theorem third1_at (G : FVec Ideal S8192x3x256 .f32) (s : Fin 8192) (k : Fin 256) : third1 G (ix2 s k) = G (ix3 s 1 k) := by
  pointwise [third1]
  blk_ext
/-- A group's values. -/
def third2 (G : FVec Ideal S8192x3x256 .f32) : FVec Ideal S8192x256 .f32 :=
  shapeCast _ (extractStridedSlice S8192x1x256 ![0, 2, 0] G slices_S8192x3x256_S8192x1x256_0_2_0) shapeCasts_S8192x1x256_S8192x256
/-- An entry of them. -/
theorem third2_at (G : FVec Ideal S8192x3x256 .f32) (s : Fin 8192) (k : Fin 256) : third2 G (ix2 s k) = G (ix3 s 2 k) := by
  pointwise [third2]
  blk_ext
/-- The three groups side by side, their queries, then their keys, then their values, and the two branches. -/
def cat : FVec Ideal S8192x5376 .f32 :=
  concatenate S8192x5376 1 [⟨S8192x256, (third0 (ord0 A) : (⟨S8192x256, .f32⟩ : BufTy).Contents (Elt Ideal))⟩,
    ⟨S8192x256, (third0 (ord1 B) : (⟨S8192x256, .f32⟩ : BufTy).Contents (Elt Ideal))⟩,
    ⟨S8192x256, (third0 (ord2 C) : (⟨S8192x256, .f32⟩ : BufTy).Contents (Elt Ideal))⟩,
    ⟨S8192x256, (third1 (ord0 A) : (⟨S8192x256, .f32⟩ : BufTy).Contents (Elt Ideal))⟩,
    ⟨S8192x256, (third1 (ord1 B) : (⟨S8192x256, .f32⟩ : BufTy).Contents (Elt Ideal))⟩,
    ⟨S8192x256, (third1 (ord2 C) : (⟨S8192x256, .f32⟩ : BufTy).Contents (Elt Ideal))⟩,
    ⟨S8192x256, (third2 (ord0 A) : (⟨S8192x256, .f32⟩ : BufTy).Contents (Elt Ideal))⟩,
    ⟨S8192x256, (third2 (ord1 B) : (⟨S8192x256, .f32⟩ : BufTy).Contents (Elt Ideal))⟩,
    ⟨S8192x256, (third2 (ord2 C) : (⟨S8192x256, .f32⟩ : BufTy).Contents (Elt Ideal))⟩,
    ⟨S8192x1024, ((extf .f32 U bitsLt_bf16_f32 : FVec Ideal S8192x1024 .f32) : (⟨S8192x1024, .f32⟩ : BufTy).Contents (Elt Ideal))⟩,
    ⟨S8192x2048, ((extf .f32 Z bitsLt_bf16_f32 : FVec Ideal S8192x2048 .f32) : (⟨S8192x2048, .f32⟩ : BufTy).Contents (Elt Ideal))⟩]
    concatenates_S8192x256_S8192x256_S8192x256_S8192x256_S8192x256_S8192x256_S8192x256_S8192x256_S8192x256_S8192x1024_S8192x2048_S8192x5376_d1

/-- A row of the cotangents of the whole projection. -/
abbrev row (s : Fin 8192) : Fin 5376 → EReal :=
  cots (fun k => A (ix3 0 s k)) (fun k => B (ix3 ⟨s.val % 4, by omega⟩ ⟨s.val / 4, by omega⟩ k))
    (fun k => C (ix3 ⟨s.val % 16, by omega⟩ ⟨s.val / 16, by omega⟩ k)) (fun k => U (ix2 s k)) (fun k => Z (ix2 s k))
/-- A condition both of whose branches are one value. -/
theorem either {P : Prop} [Decidable P] {a : P → EReal} {b : ¬P → EReal} {r : EReal} (ha : ∀ h, a h = r) (hb : ∀ h, b h = r) : dite P a b = r := by
  by_cases h : P
  · rw [dif_pos h, ha]
  · rw [dif_neg h, hb]
/-- A part of the first group lies in the row. -/
theorem part_a {T : FVec Ideal S8192x256 .f32} (p : Fin 3) (hT : ∀ s k, T (ix2 s k) = ord0 A (ix3 s p k)) (s : Fin 8192) (k : Fin 256) (n : Fin 5376)
    (h : n.val = 768 * p.val + k.val) : T (ix2 s k) = row A B C U Z s n := by
  rw [hT, ord0_at, row, cots_a _ _ _ _ _ p k n h]
/-- A part of the second group lies in the row. -/
theorem part_b {T : FVec Ideal S8192x256 .f32} (p : Fin 3) (hT : ∀ s k, T (ix2 s k) = ord1 B (ix3 s p k)) (s : Fin 8192) (k : Fin 256) (n : Fin 5376)
    (h : n.val = 768 * p.val + (256 + k.val)) : T (ix2 s k) = row A B C U Z s n := by
  rw [hT, ord1_at, row, cots_b _ _ _ _ _ p k n h]
/-- A part of the third group lies in the row. -/
theorem part_c {T : FVec Ideal S8192x256 .f32} (p : Fin 3) (hT : ∀ s k, T (ix2 s k) = ord2 C (ix3 s p k)) (s : Fin 8192) (k : Fin 256) (n : Fin 5376)
    (h : n.val = 768 * p.val + (512 + k.val)) : T (ix2 s k) = row A B C U Z s n := by
  rw [hT, ord2_at, row, cots_c _ _ _ _ _ p k n h]
/-- The second branch lies in the row. -/
theorem part_u (s : Fin 8192) (k : Fin 1024) (n : Fin 5376) (h : n.val = 2304 + k.val) : U (ix2 s k) = row A B C U Z s n := by
  rw [row, cots_u _ _ _ _ _ k n h]
/-- The third branch lies in the row. -/
theorem part_v (s : Fin 8192) (k : Fin 2048) (n : Fin 5376) (h : n.val = 3328 + k.val) : Z (ix2 s k) = row A B C U Z s n := by
  rw [row, cots_v _ _ _ _ _ k n h]
/-- An entry of the cotangents side by side. -/
theorem cat_at (s : Fin 8192) (n : Fin 5376) : cat A B C U Z (ix2 s n) = row A B C U Z s n := by
  pointwise [cat]
  refine either (fun h00 => part_a A B C U Z 0 (third0_at _) s _ n (by dsimp only [Fin.isValue]; omega)) fun h00 => ?_
  refine either (fun h01 => part_b A B C U Z 0 (third0_at _) s _ n (by dsimp only [Fin.isValue]; omega)) fun h01 => ?_
  refine either (fun h02 => part_c A B C U Z 0 (third0_at _) s _ n (by dsimp only [Fin.isValue]; omega)) fun h02 => ?_
  refine either (fun h10 => part_a A B C U Z 1 (third1_at _) s _ n (by dsimp only [Fin.isValue]; omega)) fun h10 => ?_
  refine either (fun h11 => part_b A B C U Z 1 (third1_at _) s _ n (by dsimp only [Fin.isValue]; omega)) fun h11 => ?_
  refine either (fun h12 => part_c A B C U Z 1 (third1_at _) s _ n (by dsimp only [Fin.isValue]; omega)) fun h12 => ?_
  refine either (fun h20 => part_a A B C U Z 2 (third2_at _) s _ n (by dsimp only [Fin.isValue]; omega)) fun h20 => ?_
  refine either (fun h21 => part_b A B C U Z 2 (third2_at _) s _ n (by dsimp only [Fin.isValue]; omega)) fun h21 => ?_
  refine either (fun h22 => part_c A B C U Z 2 (third2_at _) s _ n (by dsimp only [Fin.isValue]; omega)) fun h22 => ?_
  exact either (fun h => part_u A B C U Z s _ n (by dsimp only; omega)) fun h => part_v A B C U Z s _ n (by dsimp only; omega)

/-- The cotangent of the normalised rows. -/
def pulled (D : FVec Ideal S8192x5376 .f32) (w : FVec Ideal S1024x5376 .f32) : FVec Ideal S8192x1024 .f32 :=
  Host.dotGeneral dot_S8192x5376_S1024x5376_S8192x1024_1_1_0_0_n_n none D w
/-- The mean squares plus epsilon. -/
def msq (X : FVec Ideal S8192x1024 .f32) : FVec Ideal S8192x1 .f32 :=
  addf (Host.divf (broadcastInDim S8192x1 ![0] bcast_S8192_S8192x1_0 (Host.reduceAdd (mulf X X) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))
/-- The mean squares' shares of the gradient. -/
def shr (X T : FVec Ideal S8192x1024 .f32) : FVec Ideal S8192x1024 .f32 :=
  broadcastInDim S8192x1024 ![0] bcast_S8192_S8192x1024_0 (Host.reduceAdd (Host.divf (mulf
    (shapeCast _ (Host.reduceAdd (mulf X T) (constant S_ .f32 0x00000000#32) reducesTo_S8192x1024_S8192_d1 h_S_) shapeCasts_S8192_S8192x1 : FVec Ideal S8192x1 .f32)
    (mulf (broadcastInDim S8192x1 ![] bcast_S_S8192x1 (constant S_ .f32 0xBF000000#32)) (Host.divf (Host.rsqrt (msq X)) (msq X))))
    (broadcastInDim S8192x1 ![] bcast_S_S8192x1 (constant S_ .f32 0x44800000#32))) (constant S_ .f32 0x00000000#32) reducesTo_S8192x1_S8192_d1 h_S_)
/-- The cotangent times the gain. -/
def gained (D : FVec Ideal S8192x5376 .f32) (w : FVec Ideal S1024x5376 .f32) (g : FVec Ideal S1x1024 .f32) : FVec Ideal S8192x1024 .f32 :=
  mulf (pulled D w) (broadcastInDim S8192x1024 ![0, 1] bcast_S1x1024_S8192x1024_0_1 g)

variable (P X : FVec Ideal S8192x1024 .f32) (g : FVec Ideal S1x1024 .f32) (w : FVec Ideal S1024x5376 .f32) (D : FVec Ideal S8192x5376 .f32)

/-- The gain's lanes. -/
abbrev gain : Lanes := fun k => g (ix2 0 k)
/-- The weights, one row of lanes for each lane of the projection. -/
abbrev wts : Fin 5376 → Lanes := fun n k => w (ix2 k n)

/-- A row's mean square plus epsilon. -/
theorem msq_at (s : Fin 8192) : msq X (ix2 s 0) = ms (line X s) := by
  pointwise [msq]
  rfl
/-- A row's cotangent. -/
theorem pulled_at (s : Fin 8192) (l : Fin 1024) : pulled D w (ix2 s l) = pull (fun n => D (ix2 s n)) (wts w) l := by
  pointwise [pulled]
  rfl
/-- A row's cotangent times the gain. -/
theorem gained_at (s : Fin 8192) (l : Fin 1024) : gained D w g (ix2 s l) = pull (fun n => D (ix2 s n)) (wts w) l * gain g l := by
  pointwise [gained]
  rw [pulled_at]
/-- A row's share. -/
theorem shr_at (T : FVec Ideal S8192x1024 .f32) (s : Fin 8192) (l : Fin 1024) : shr X T (ix2 s l) = share (line X s) (fun k => T (ix2 s k)) := by
  pointwise [shr]
  rw [Fin.sum_univ_one, msq_at]
  rfl
/-- The gradient of the rows. -/
theorem sum_at (s : Fin 8192) (l : Fin 1024) :
    addf (addf (addf P (mulf (gained D w g) (broadcastInDim S8192x1024 ![0, 1] bcast_S8192x1_S8192x1024_0_1 (Host.rsqrt (msq X)))))
      (mulf X (shr X (gained D w g)))) (mulf (shr X (gained D w g)) X) (ix2 s l)
      = dx (line P s) (line X s) (gain g) (fun n => D (ix2 s n)) (wts w) l := by
  rw [← dx_form]
  pointwise
  simp only [shr_at, gained_at, msq_at]
  rfl
/-- The gradient of the gain. -/
theorem gsum_at (l : Fin 1024) :
    (shapeCast S1x1024 (Host.reduceAdd (mulf (mulf X (broadcastInDim S8192x1024 ![0, 1] bcast_S8192x1_S8192x1024_0_1 (Host.rsqrt (msq X)))) (pulled D w))
      (constant S_ .f32 0x00000000#32) reducesTo_S8192x1024_S1024_d0 h_S_ : FVec Ideal S1024 .f32) shapeCasts_S1024_S1x1024 : FVec Ideal S1x1024 .f32) (ix2 0 l)
      = ∑ s, dg (line X s) (fun n => D (ix2 s n)) (wts w) l := by
  pointwise
  refine Finset.sum_congr rfl fun s _ => ?_
  rw [← dg_form, pulled_at, msq_at]
  rfl

variable (m : (ℓ : Loc nD τ sig) → Buf (Elt Ideal) ℓ) (c : Dev nD)

/-- A row of the run's cotangents. -/
abbrev D0 (s : Fin 8192) : Fin 5376 → EReal :=
  row (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) s

/-- The reference's gradient of the rows. -/
theorem all_dx : res_main_v66 m c = fun x => dx (line (m ((c.tc : Thread nD τ).loc main_arg5)) (x 0)) (line (m ((c.tc : Thread nD τ).loc main_arg6)) (x 0))
    (gain (m ((c.tc : Thread nD τ).loc main_arg7))) (D0 m c (x 0)) (wts (m ((c.tc : Thread nD τ).loc main_arg8))) (x 1) := by
  funext y
  obtain ⟨s, l, rfl⟩ : ∃ (s : Fin 8192) (l : Fin 1024), y = ix2 s l := ⟨y 0, y 1, by blk_ext⟩
  refine (sum_at (m ((c.tc : Thread nD τ).loc main_arg5)) (m ((c.tc : Thread nD τ).loc main_arg6)) (m ((c.tc : Thread nD τ).loc main_arg7))
    (m ((c.tc : Thread nD τ).loc main_arg8)) (cat (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))) s l).trans ?_
  simp only [cat_at]
  rfl
/-- The reference's gradient of the gain. -/
theorem all_dg : res_main_v49 m c = fun x => ∑ s, dg (line (m ((c.tc : Thread nD τ).loc main_arg6)) s) (D0 m c s)
    (wts (m ((c.tc : Thread nD τ).loc main_arg8))) (x 1) := by
  funext y
  obtain ⟨i, l, rfl⟩ : ∃ (i : Fin 1) (l : Fin 1024), y = ix2 i l := ⟨y 0, y 1, by blk_ext⟩
  obtain rfl : i = 0 := Subsingleton.elim _ _
  refine (gsum_at (m ((c.tc : Thread nD τ).loc main_arg6)) (m ((c.tc : Thread nD τ).loc main_arg8)) (cat (m ((c.tc : Thread nD τ).loc main_arg0))
    (m ((c.tc : Thread nD τ).loc main_arg1)) (m ((c.tc : Thread nD τ).loc main_arg2)) (m ((c.tc : Thread nD τ).loc main_arg3)) (m ((c.tc : Thread nD τ).loc main_arg4))) l).trans ?_
  simp only [cat_at]
  rfl
/-- The reference's cotangents side by side. -/
theorem all_cat : truncf .bf16 (cat (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))) bitsLt_bf16_f32 = fun x => D0 m c (x 0) (x 1) := by
  funext y
  obtain ⟨s, n, rfl⟩ : ∃ (s : Fin 8192) (n : Fin 5376), y = ix2 s n := ⟨y 0, y 1, by blk_ext⟩
  exact cat_at _ _ _ _ _ s n

end Cert.MixRefIdeal.Stage

end
-- ==== Proof.Block.lean ====
module

public import proofs.«01_k».proof.Proof.Gen.KernelIdeal.Skeleton
public import Idealize.ShloMosaic.Lib.Pointwise
public import Idealize.ShloMosaic.Lib.Tactic.WordOmega

@[expose] public section

set_option maxRecDepth 16384

noncomputable section

open Idealize.ShloMosaic Idealize.SL.Sem

namespace Cert.KernelIdeal.Block

open Cert.KernelIdeal Cert.KernelIdeal.Gen

/-- The lanes of head 0. -/
theorem mask0 (l : Fin 256) : k0_pay16 (ix2 0 l) = BitVec.ofBool (decide (l.val / 64 = 0)) := by
  pointwise [k0_pay16]; revert l; decide +kernel
/-- The lanes of head 1. -/
theorem mask1 (l : Fin 256) : k0_pay17 (ix2 0 l) = BitVec.ofBool (decide (l.val / 64 = 1)) := by
  pointwise [k0_pay17]; revert l; decide +kernel
/-- The lanes of head 2. -/
theorem mask2 (l : Fin 256) : k0_pay18 (ix2 0 l) = BitVec.ofBool (decide (l.val / 64 = 2)) := by
  pointwise [k0_pay18]; revert l; decide +kernel
/-- The lanes of head 3. -/
theorem mask3 (l : Fin 256) : k0_pay19 (ix2 0 l) = BitVec.ofBool (decide (l.val / 64 = 3)) := by
  pointwise [k0_pay19]; revert l; decide +kernel

/-- A choice by a decided bit. -/
theorem key {α : Type} (b : Prop) [Decidable b] (u w : α) : Scalar.select (BitVec.ofBool (decide b)) u w = if b then u else w := by
  by_cases hb : b <;> simp [hb, Scalar.select]

/-- One 128-row block spread over the four heads' rows: row `x` keeps the lanes of head `x / 128`. -/
def stk (q : Vec Ideal S1x128x256 .bf16) : FVec Ideal S512x256 .bf16 :=
  k0_pay24 k0_pay16 k0_pay17 k0_pay18 k0_pay19 q

/-- The spread block read at a point. -/
theorem stk_at (q : Vec Ideal S1x128x256 .bf16) (x : Fin 512) (l : Fin 256) :
    stk q (ix2 x l) = if l.val / 64 = x.val / 128 then q (ix3 0 ⟨x.val % 128, by omega⟩ l) else 0 := by
  unfold stk
  pointwise [k0_pay24]
  simp only [mask0, mask1, mask2, mask3, key]
  have hx := x.isLt
  rcases (by omega : x.val / 128 = 0 ∨ x.val / 128 = 1 ∨ x.val / 128 = 2 ∨ x.val / 128 = 3) with h | h | h | h <;>
    simp only [h] <;> (repeat' split) <;>
    first | exact absurd True.intro (by assumption) | (exfalso; omega) | rfl | (congr 2; apply Fin.ext; simp only; omega)

/-- Four 128-row columns one above the other. -/
theorem col_at (a b c d : Vec Ideal S1x128x1 .f32) (x : Fin 512) :
    k0_pay28 a b c d (ix2 x 0) = if x.val / 128 = 0 then a (ix3 0 ⟨x.val % 128, by omega⟩ 0) else if x.val / 128 = 1 then b (ix3 0 ⟨x.val % 128, by omega⟩ 0)
      else if x.val / 128 = 2 then c (ix3 0 ⟨x.val % 128, by omega⟩ 0) else d (ix3 0 ⟨x.val % 128, by omega⟩ 0) := by
  pointwise [k0_pay28]
  have hx := x.isLt
  rcases (by omega : x.val / 128 = 0 ∨ x.val / 128 = 1 ∨ x.val / 128 = 2 ∨ x.val / 128 = 3) with h | h | h | h <;>
    simp only [h] <;> (repeat' split) <;>
    first | exact absurd True.intro (by assumption) | (exfalso; omega) | rfl | (congr 2; apply Fin.ext; simp only; omega)

/-- The weights of a block: the exponential of the scaled product with the bias, less the saved logarithm. -/
theorem p_at (kk : FVec Ideal S256x256 .bf16) (qs : FVec Ideal S512x256 .bf16) (bi : FVec Ideal S512x256 .f32) (lc : FVec Ideal S512x1 .f32)
    (x : Fin 512) (j : Fin 256) :
    k0_pay66 kk qs bi lc (ix2 x j) = Ideal.exp ((∑ l, qs (ix2 x l) * kk (ix2 j l)) * Ideal.ofBits FTy.f32 1040187392#32 + bi (ix2 x j) - lc (ix2 x 0)) := by
  pointwise [k0_pay66]

/-- The gradient of the scores of a block. -/
theorem ds_at (vv : FVec Ideal S256x256 .bf16) (gs : FVec Ideal S512x256 .bf16) (cc : FVec Ideal S512x1 .f32) (p : FVec Ideal S512x256 .f32)
    (x : Fin 512) (j : Fin 256) :
    k0_pay30 vv gs cc p (ix2 x j) = p (ix2 x j) * (∑ l, gs (ix2 x l) * vv (ix2 j l) - cc (ix2 x 0)) * Ideal.ofBits FTy.f32 1040187392#32 := by
  pointwise [k0_pay30]

/-- The gradient of the queries of a block: lane `l` takes the rows of its head. -/
theorem dq_at (kk vv : FVec Ideal S256x256 .bf16) (gs : FVec Ideal S512x256 .bf16) (cc : FVec Ideal S512x1 .f32) (p : FVec Ideal S512x256 .f32)
    (i : Fin 128) (l : Fin 256) :
    k0_pay31 k0_pay16 k0_pay17 k0_pay18 k0_pay19 kk vv gs cc p (ix3 0 i l)
      = ∑ j : Fin 256, k0_pay30 vv gs cc p (ix2 ⟨128 * (l.val / 64) + i.val, by omega⟩ j) * kk (ix2 j l) := by
  pointwise [k0_pay31]
  simp only [mask0, mask1, mask2, mask3, key]
  have hl := l.isLt
  rcases (by omega : l.val / 64 = 0 ∨ l.val / 64 = 1 ∨ l.val / 64 = 2 ∨ l.val / 64 = 3) with h | h | h | h <;>
    simp [h]

/-- The gradient of the keys of a block, added to what is there. -/
theorem dk_at (vv : FVec Ideal S256x256 .bf16) (qs gs : FVec Ideal S512x256 .bf16) (cc : FVec Ideal S512x1 .f32) (p : FVec Ideal S512x256 .f32)
    (old : FVec Ideal S256x256 .f32) (j l : Fin 256) :
    k0_pay32 vv qs gs cc p old (ix2 j l) = old (ix2 j l) + ∑ x : Fin 512, k0_pay30 vv gs cc p (ix2 x j) * qs (ix2 x l) := by
  pointwise [k0_pay32]

/-- The gradient of the values of a block, added to what is there. -/
theorem dv_at (gs : FVec Ideal S512x256 .bf16) (p : FVec Ideal S512x256 .f32)
    (old : FVec Ideal S256x256 .f32) (j l : Fin 256) :
    k0_pay34 (k0_pay33 gs p old) (ix2 j l) = old (ix2 j l) + ∑ x : Fin 512, p (ix2 x j) * gs (ix2 x l) := by
  pointwise [k0_pay34, k0_pay33]

end Cert.KernelIdeal.Block
-- ==== Proof.Same.lean ====
module

public import proofs.«01_k».proof.Proof.Block

@[expose] public section

set_option maxRecDepth 16384

noncomputable section

open Idealize.ShloMosaic Idealize.SL.Sem

namespace Cert.KernelIdeal.Block

open Cert.KernelIdeal Cert.KernelIdeal.Gen

/-! The four 128-row blocks of a point are the same computation, which the body writes out four times. Each
    block's values are named here through the first block's. -/

/-- A block's weights. -/
def wts (kk : FVec Ideal S256x256 .bf16) (q : Vec Ideal S1x128x256 .bf16) (bi : FVec Ideal S512x256 .f32) (l0 l1 l2 l3 : Vec Ideal S1x128x1 .f32) : FVec Ideal S512x256 .f32 :=
  k0_pay66 kk (stk q) bi (k0_pay28 l0 l1 l2 l3)
/-- A block's score gradients. -/
def sgr (vv : FVec Ideal S256x256 .bf16) (g : Vec Ideal S1x128x256 .bf16) (p : FVec Ideal S512x256 .f32) (c0 c1 c2 c3 : Vec Ideal S1x128x1 .f32) : FVec Ideal S512x256 .bf16 :=
  k0_pay30 vv (stk g) (k0_pay28 c0 c1 c2 c3) p
/-- A block's query gradients. -/
def dqb (kk vv : FVec Ideal S256x256 .bf16) (g : Vec Ideal S1x128x256 .bf16) (p : FVec Ideal S512x256 .f32) (c0 c1 c2 c3 : Vec Ideal S1x128x1 .f32) : FVec Ideal S1x128x256 .bf16 :=
  k0_pay31 k0_pay16 k0_pay17 k0_pay18 k0_pay19 kk vv (stk g) (k0_pay28 c0 c1 c2 c3) p
/-- What a block adds to a running sum: products over its rows. -/
def accb (a : FVec Ideal S512x256 .bf16) (x : Vec Ideal S1x128x256 .bf16) (old : Vec Ideal S256x256 .f32) : FVec Ideal S256x256 .f32 :=
  k0_pay50 (stk x) a old

section
variable (kk vv : FVec Ideal S256x256 .bf16) (q g : Vec Ideal S1x128x256 .bf16) (bi : Vec Ideal S512x256 .f32) (l0 l1 l2 l3 c0 c1 c2 c3 : Vec Ideal S1x128x1 .f32)
  (p : FVec Ideal S512x256 .f32) (old : Vec Ideal S256x256 .f32)

/-- A block's rows stacked by head, as one of the blocks spells it. -/
theorem same24 : k0_pay24 k0_pay16 k0_pay17 k0_pay18 k0_pay19 q = stk q := rfl
/-- A block's rows stacked by head, as one of the blocks spells it. -/
theorem same25 : k0_pay25 k0_pay16 k0_pay17 k0_pay18 k0_pay19 q = stk q := rfl
/-- The queries' gradient of a block, as one of them spells it. -/
theorem same31 : k0_pay31 k0_pay16 k0_pay17 k0_pay18 k0_pay19 kk vv (stk g) (k0_pay28 c0 c1 c2 c3) p = dqb kk vv g p c0 c1 c2 c3 := rfl
/-- The accumulation of a gradient, as one of the blocks spells it. -/
theorem same32 : k0_pay32 vv (stk q) (stk g) (k0_pay28 c0 c1 c2 c3) p old = accb (sgr vv g p c0 c1 c2 c3) q old := rfl
/-- The accumulation of a gradient, as one of the blocks spells it. -/
theorem same34 : k0_pay34 (k0_pay33 (stk g) p old) = accb p g old := rfl
/-- A block's rows stacked by head, as one of the blocks spells it. -/
theorem same37 : k0_pay37 k0_pay16 k0_pay17 k0_pay18 k0_pay19 q = stk q := rfl
/-- A block's rows stacked by head, as one of the blocks spells it. -/
theorem same38 : k0_pay38 k0_pay16 k0_pay17 k0_pay18 k0_pay19 q = stk q := rfl
/-- The scores' gradient of a block, as one of them spells it. -/
theorem same43 : k0_pay43 kk vv (stk q) (stk g) (k0_pay39 bi) (k0_pay40 l0) (k0_pay41 l1) l2 l3 c0 c1 c2 c3 = sgr vv g (wts kk q (k0_pay26 bi) l0 l1 l2 l3) c0 c1 c2 c3 := rfl
/-- The weights of a block, as one of them spells it. -/
theorem same44 : k0_pay44 kk (stk q) (k0_pay39 bi) (k0_pay40 l0) (k0_pay41 l1) l2 l3 = wts kk q (k0_pay26 bi) l0 l1 l2 l3 := rfl
/-- The queries' gradient of a block, as one of them spells it. -/
theorem same49 : k0_pay49 k0_pay18 k0_pay19 (k0_pay45 kk vv (stk q) (stk g) (k0_pay39 bi) (k0_pay40 l0) (k0_pay41 l1) l2 l3 c0 c1 c2 c3)
    (k0_pay46 k0_pay16 kk vv (stk q) (stk g) (k0_pay39 bi) (k0_pay40 l0) (k0_pay41 l1) l2 l3 c0 c1 c2 c3)
    (k0_pay47 kk vv (stk q) (stk g) (k0_pay39 bi) (k0_pay40 l0) (k0_pay41 l1) l2 l3 c0 c1 c2 c3) (k0_pay48 k0_pay17)
    = dqb kk vv g (wts kk q (k0_pay26 bi) l0 l1 l2 l3) c0 c1 c2 c3 := rfl
/-- The accumulation of a gradient, as one of the blocks spells it. -/
theorem same50 (a : FVec Ideal S512x256 .bf16) : k0_pay50 (stk q) a old = accb a q old := rfl
/-- The accumulation of a gradient, as one of the blocks spells it. -/
theorem same51 (a : FVec Ideal S512x256 .bf16) : k0_pay51 (stk q) a old = accb a q old := rfl
/-- A block's rows stacked by head, as one of the blocks spells it. -/
theorem same60 : k0_pay60 (k0_pay54 q) k0_pay55 (k0_pay56 k0_pay16 q) (k0_pay57 k0_pay17 q) (k0_pay58 k0_pay18 q) (k0_pay59 k0_pay19) = stk q := rfl
/-- A block's rows stacked by head, as one of the blocks spells it. -/
theorem same61 : k0_pay61 k0_pay16 k0_pay17 k0_pay18 k0_pay19 q = stk q := rfl
/-- The scores' gradient of a block, as one of them spells it. -/
theorem same67 : k0_pay67 kk vv (stk q) (stk g) (k0_pay62 bi) (k0_pay63 l0 l1 l2 l3) (k0_pay64 c0) (k0_pay65 c1) c2 c3 = sgr vv g (wts kk q (k0_pay26 bi) l0 l1 l2 l3) c0 c1 c2 c3 := rfl
/-- The weights of a block, as one of them spells it. -/
theorem same68 : k0_pay68 kk (stk q) (k0_pay62 bi) (k0_pay63 l0 l1 l2 l3) = wts kk q (k0_pay26 bi) l0 l1 l2 l3 := rfl
/-- The queries' gradient of a block, as one of them spells it. -/
theorem same69 : k0_pay69 k0_pay16 k0_pay17 k0_pay18 k0_pay19 kk vv (stk q) (stk g) (k0_pay62 bi) (k0_pay63 l0 l1 l2 l3) (k0_pay64 c0) (k0_pay65 c1) c2 c3
    = dqb kk vv g (wts kk q (k0_pay26 bi) l0 l1 l2 l3) c0 c1 c2 c3 := rfl
/-- The accumulation of a gradient, as one of the blocks spells it. -/
theorem same70 (a : FVec Ideal S512x256 .bf16) : k0_pay70 (stk q) a old (constant S256x256 FTy.f32 0#32) = accb a q old := rfl
/-- The accumulation of a gradient, as one of the blocks spells it. -/
theorem same71 (a : FVec Ideal S512x256 .bf16) : k0_pay71 (stk q) a old = accb a q old := rfl
/-- A block's rows stacked by head, as one of the blocks spells it. -/
theorem same74 : k0_pay74 k0_pay16 k0_pay17 k0_pay18 k0_pay19 q = stk q := rfl
/-- A block's rows stacked by head, as one of the blocks spells it. -/
theorem same81 : k0_pay81 (k0_pay75 q) k0_pay76 (k0_pay77 k0_pay16 q) (k0_pay78 k0_pay17 q) (k0_pay79 k0_pay18 q) (k0_pay80 k0_pay19) = stk q := rfl
/-- The weights of a block, as one of them spells it. -/
theorem same82 : k0_pay82 kk (stk q) bi l0 l1 l2 l3 = wts kk q (k0_pay26 bi) l0 l1 l2 l3 := rfl
/-- The queries' gradient of a block, as one of them spells it. -/
theorem same86 : k0_pay86 k0_pay16 k0_pay17 k0_pay18 k0_pay19 kk p (k0_pay83 vv (k0_pay75 g) k0_pay76 (k0_pay77 k0_pay16 g) (k0_pay78 k0_pay17 g) (k0_pay79 k0_pay18 g) (k0_pay80 k0_pay19)) (k0_pay84 c0 c1 c2 c3)
    = dqb kk vv g p c0 c1 c2 c3 := rfl
/-- The accumulation of a gradient, as one of the blocks spells it. -/
theorem same87 : k0_pay87 (stk q) p (k0_pay83 vv (k0_pay75 g) k0_pay76 (k0_pay77 k0_pay16 g) (k0_pay78 k0_pay17 g) (k0_pay79 k0_pay18 g) (k0_pay80 k0_pay19)) (k0_pay84 c0 c1 c2 c3) old
    = accb (sgr vv g p c0 c1 c2 c3) q old := rfl
/-- The accumulation of a gradient, as one of the blocks spells it. -/
theorem same88 : k0_pay88 (stk q) p old = accb p q old := rfl

/-- A block's weights at a point. -/
theorem wts_at (x : Fin 512) (j : Fin 256) :
    wts kk q bi l0 l1 l2 l3 (ix2 x j) = Ideal.exp ((∑ l, stk q (ix2 x l) * kk (ix2 j l)) * Ideal.ofBits FTy.f32 1040187392#32 + bi (ix2 x j) - k0_pay28 l0 l1 l2 l3 (ix2 x 0)) :=
  p_at ..
/-- A block's score gradients at a point. -/
theorem sgr_at (x : Fin 512) (j : Fin 256) :
    sgr vv g p c0 c1 c2 c3 (ix2 x j) = p (ix2 x j) * (∑ l, stk g (ix2 x l) * vv (ix2 j l) - k0_pay28 c0 c1 c2 c3 (ix2 x 0)) * Ideal.ofBits FTy.f32 1040187392#32 :=
  ds_at ..
/-- A block's query gradients at a point. -/
theorem dqb_at (i : Fin 128) (l : Fin 256) :
    dqb kk vv g p c0 c1 c2 c3 (ix3 0 i l) = ∑ j : Fin 256, sgr vv g p c0 c1 c2 c3 (ix2 ⟨128 * (l.val / 64) + i.val, by omega⟩ j) * kk (ix2 j l) :=
  dq_at ..
/-- What a block adds to a running sum, at a point. -/
theorem accb_at (a : FVec Ideal S512x256 .bf16) (j l : Fin 256) :
    accb a q old (ix2 j l) = old (ix2 j l) + ∑ x : Fin 512, a (ix2 x j) * stk q (ix2 x l) := by
  unfold accb
  pointwise [k0_pay50]
/-- The bias a point's three later blocks add. -/
theorem bias_at (x : Fin 512) (j : Fin 256) : k0_pay26 bi (ix2 x j) = bi (ix2 x j) := by pointwise [k0_pay26]

/-- The first block's bias: at a sequence's start the missing block before is masked. -/
def bias0 (bi : Vec Ideal S512x256 .f32) : FVec Ideal S512x256 .f32 :=
  addf (k0_pay26 bi) (broadcastTo S512x256 (select (andi (broadcast S1x256 1#1) (k0_pay27 (iota Kind.tc S1x256 32 [1] iota_S1x256_d1_w32)))
    (broadcast S1x256 (Named.named κ "mask" 0xF149F2CA#32 : Ideal .f32)) (broadcast S1x256 (Scalar.ofBits .f32 0x00000000#32))) broadcasts_S1x256_S512x256)

/-- The weights of a block, as one of them spells it. -/
theorem same29 : k0_pay29 kk (stk q) (k0_pay26 bi) 1#1 (k0_pay27 (iota Kind.tc S1x256 32 [1] iota_S1x256_d1_w32)) l0 l1 l2 l3 = wts kk q (bias0 bi) l0 l1 l2 l3 := rfl

/-- The lanes of the block before. -/
theorem before_at (j : Fin 256) : k0_pay27 (iota Kind.tc S1x256 32 [1] iota_S1x256_d1_w32) (ix2 0 j) = BitVec.ofBool (decide (j.val < 128)) := by
  pointwise [k0_pay27]; revert j; decide +kernel

/-- The first block's bias at a point. -/
theorem bias0_at (x : Fin 512) (j : Fin 256) : bias0 bi (ix2 x j) = bi (ix2 x j) + if j.val < 128 then ⊥ else 0 := by
  pointwise [bias0]
  rw [before_at, bias_at]
  have h : (Named.named κ "mask" 0xF149F2CA#32 : Ideal .f32) = (⊥ : EReal) := rfl
  rw [h]
  by_cases hj : j.val < 128 <;> simp [hj, Scalar.select, IntOp.andi]

/-- Rows of the 640 rows a point holds. -/
theorem rows_at (w : FVec Ideal S640x256 .bf16) (j l : Fin 256) :
    k0_pay22 w (ix2 j l) = w (ix2 ⟨j.val, by omega⟩ l) ∧ k0_pay35 w (ix2 j l) = w (ix2 ⟨128 + j.val, by omega⟩ l)
      ∧ k0_pay52 w (ix2 j l) = w (ix2 ⟨256 + j.val, by omega⟩ l) ∧ k0_pay72 w (ix2 j l) = w (ix2 ⟨384 + j.val, by omega⟩ l) := by
  refine ⟨?_, ?_, ?_, ?_⟩
  · pointwise [k0_pay22]
  · pointwise [k0_pay35]
  · pointwise [k0_pay52]
  · pointwise [k0_pay72]

/-- The window of the values is cut like the keys'. -/
theorem same23 (w : FVec Ideal S640x256 .bf16) : k0_pay23 w = k0_pay22 w := rfl
/-- The window of the values is cut like the keys'. -/
theorem same36 (w : FVec Ideal S640x256 .bf16) : k0_pay36 w = k0_pay35 w := rfl
/-- The window of the values is cut like the keys'. -/
theorem same53 (w : FVec Ideal S640x256 .bf16) : k0_pay53 w = k0_pay52 w := rfl
/-- The window of the values is cut like the keys'. -/
theorem same73 (w : FVec Ideal S640x256 .bf16) : k0_pay73 w = k0_pay72 w := rfl

/-- The 640 rows: the 128 before, then the 512 of the point. -/
theorem all_at (kp : Vec Ideal S1x128x256 .bf16) (kc : Vec Ideal S1x512x256 .bf16) (r : Fin 640) (l : Fin 256) :
    k0_pay14 kp kc (ix2 r l) = if h : r.val < 128 then kp (ix3 0 ⟨r.val, h⟩ l) else kc (ix3 0 ⟨r.val - 128, by omega⟩ l) := by
  pointwise [k0_pay14]
/-- The values are joined like the keys. -/
theorem same15 (kp : Vec Ideal S1x128x256 .bf16) (kc : Vec Ideal S1x512x256 .bf16) : k0_pay15 kp kc = k0_pay14 kp kc := rfl
/-- The accumulators start at zero. -/
theorem zero_at (r : Fin 640) (l : Fin 256) : k0_pay20 (F := Ideal) (ix2 r l) = 0 := by pointwise [k0_pay20]
/-- Both accumulators start alike. -/
theorem same21 : k0_pay21 (F := Ideal) = k0_pay20 := rfl
/-- The last 512 rows of a running sum, written out. -/
theorem tail_at (w : Vec Ideal S512x256 .f32) (s : Fin 512) (l : Fin 256) : k0_pay2 w (ix3 0 s l) = w (ix2 s l) := by pointwise [k0_pay2]
/-- Both gradients leave alike. -/
theorem same3 (w : Vec Ideal S512x256 .f32) : k0_pay3 w = k0_pay2 w := rfl
end

end Cert.KernelIdeal.Block
-- ==== Proof.Row.lean ====
module

public import Idealize.ShloMosaic.PureOps.Ideal

@[expose] public section

noncomputable section

open Idealize.ShloMosaic

namespace Cert.Row

/-! One query of one head: 256 masked scores `z`, the values `v` they weigh, the cotangents `g` of the
    weighted mean and `dl` of the logarithm of the sum. -/

/-- The largest score. -/
def top (z : Fin 256 → EReal) : EReal := Finset.univ.fold max ⊥ z
/-- The exponential of a score less the largest. -/
def e (z : Fin 256 → EReal) (j : Fin 256) : EReal := Ideal.exp (z j - top z)
/-- The sum of the exponentials. -/
def den (z : Fin 256 → EReal) : EReal := ∑ j, e z j
/-- The weighted sum of the values. -/
def num (z : Fin 256 → EReal) (v : Fin 256 → Fin 64 → EReal) (c : Fin 64) : EReal := ∑ j, e z j * v j c
/-- The logarithm of the sum of the scores' exponentials. -/
def lse (z : Fin 256 → EReal) : EReal := top z + Ideal.log (den z)
/-- One where the score is the largest. -/
def tie (z : Fin 256 → EReal) (j : Fin 256) : EReal := if z j = top z then 1 else 0
/-- The cotangent of the scores through the exponentials. -/
def back (z : Fin 256 → EReal) (v : Fin 256 → Fin 64 → EReal) (g : Fin 64 → EReal) (dl : EReal) (j : Fin 256) : EReal :=
  (∑ c, Ideal.div (g c) (den z) * v j c + (Ideal.div dl (den z) + -∑ c, g c * Ideal.div 1 (den z * den z) * num z v c)) * e z j
/-- The cotangent of the scores, as differentiation gives it: the part through the largest score is shared among the ties. -/
def ds (z : Fin 256 → EReal) (v : Fin 256 → Fin 64 → EReal) (g : Fin 64 → EReal) (dl : EReal) (j : Fin 256) : EReal :=
  back z v g dl j + Ideal.div (dl + ∑ k, -back z v g dl k) (∑ k, tie z k) * tie z j
/-- The weight of a score from the saved logarithm. -/
def p (z : Fin 256 → EReal) (j : Fin 256) : EReal := Ideal.exp (z j - lse z)
/-- The cotangent of the scores from the weights and the saved row correction. -/
def dsp (z : Fin 256 → EReal) (v : Fin 256 → Fin 64 → EReal) (g : Fin 64 → EReal) (dl : EReal) (j : Fin 256) : EReal :=
  p z j * (∑ c, g c * v j c - (∑ c, g c * Ideal.div (num z v c) (den z) - dl))

/-- A finite sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A quotient of reals by a nonzero real. -/
theorem div_coe (x y : ℝ) (hy : y ≠ 0) : Ideal.div (x : EReal) (y : EReal) = ((x / y : ℝ) : EReal) := by
  unfold Ideal.div
  rw [if_neg (by simpa using hy), ← EReal.coe_inv, ← EReal.coe_mul, div_eq_mul_inv]

/-- The exponential of a real. -/
theorem exp_coe (x : ℝ) : Ideal.exp (x : EReal) = ((Real.exp x : ℝ) : EReal) := rfl

/-- The logarithm of a positive real. -/
theorem log_coe (x : ℝ) (hx : 0 < x) : Ideal.log (x : EReal) = ((Real.log x : ℝ) : EReal) := by
  show (if x ≤ 0 then (⊥ : EReal) else _) = _
  rw [if_neg (not_le.mpr hx)]

variable {ok : Fin 256 → Prop} [DecidablePred ok] {s : Fin 256 → ℝ} {z : Fin 256 → EReal}

/-- The largest score bounds each. -/
theorem le_top (z : Fin 256 → EReal) (j : Fin 256) : z j ≤ top z := by
  have h : top z = Finset.univ.sup z := rfl
  rw [h]; exact Finset.le_sup (Finset.mem_univ j)

/-- The largest score is one of the scores. -/
theorem top_mem (z : Fin 256 → EReal) : ∃ j, z j = top z := by
  have h : top z = Finset.univ.sup z := rfl
  obtain ⟨j, _, hj⟩ := Finset.exists_mem_eq_sup Finset.univ ⟨0, Finset.mem_univ _⟩ z
  exact ⟨j, by rw [h, hj]⟩

/-- With a score present the largest is a real. -/
theorem top_real (hz : ∀ j, z j = if ok j then (s j : EReal) else ⊥) (hok : ∃ j, ok j) : ∃ μ : ℝ, top z = μ := by
  obtain ⟨j, hj⟩ := top_mem z
  obtain ⟨k, hk⟩ := hok
  by_cases h : ok j
  · exact ⟨s j, by rw [← hj, hz, if_pos h]⟩
  · exfalso
    have := le_top z k
    rw [← hj, hz j, if_neg h, hz k, if_pos hk] at this
    exact absurd (le_bot_iff.mp this) (EReal.coe_ne_bot _)

/-- The real numbers behind a row: the exponentials, with a positive sum, and the weights as their shares. -/
theorem reals (hz : ∀ j, z j = if ok j then (s j : EReal) else ⊥) (hok : ∃ j, ok j) :
    ∃ (E : Fin 256 → ℝ) (D : ℝ), 0 < D ∧ D = ∑ j, E j ∧ (∀ j, e z j = E j) ∧ den z = D ∧ (∀ j, p z j = ((E j / D : ℝ) : EReal)) ∧ ∀ j, ¬ok j → E j = 0 := by
  obtain ⟨μ, hμ⟩ := top_real hz hok
  obtain ⟨k, hk⟩ := hok
  have hE : ∀ j, e z j = ((if ok j then Real.exp (s j - μ) else 0 : ℝ) : EReal) := by
    intro j
    unfold e
    rw [hμ, hz]
    by_cases h : ok j
    · rw [if_pos h, if_pos h, ← EReal.coe_sub]; rfl
    · rw [if_neg h, if_neg h, EReal.bot_sub]; rfl
  have hD : den z = ((∑ j, (if ok j then Real.exp (s j - μ) else 0) : ℝ) : EReal) := by
    unfold den; rw [coe_sum]; exact Finset.sum_congr rfl fun j _ => hE j
  have hpos : 0 < ∑ j, (if ok j then Real.exp (s j - μ) else 0) := by
    apply Finset.sum_pos'
    · intro j _; split
      · exact (Real.exp_pos _).le
      · exact le_refl _
    · exact ⟨k, Finset.mem_univ _, by rw [if_pos hk]; exact Real.exp_pos _⟩
  refine ⟨fun j => if ok j then Real.exp (s j - μ) else 0, _, hpos, rfl, hE, hD, ?_, fun j h => if_neg h⟩
  intro j
  unfold p lse
  rw [hD, hμ, log_coe _ hpos, ← EReal.coe_add, hz]
  beta_reduce
  by_cases h : ok j
  · rw [if_pos h, if_pos h, ← EReal.coe_sub, exp_coe]
    congr 1
    rw [← sub_sub, Real.exp_sub, Real.exp_log hpos]
  · rw [if_neg h, if_neg h, EReal.bot_sub, _root_.zero_div]; rfl

/-- The weight times a cotangent is the exponential times the cotangent's share. -/
theorem p_mul (hz : ∀ j, z j = if ok j then (s j : EReal) else ⊥) (hok : ∃ j, ok j) (g : ℝ) (j : Fin 256) :
    p z j * g = Ideal.div g (den z) * e z j := by
  obtain ⟨E, D, hpos, -, hE, hD, hp, -⟩ := reals hz hok
  rw [hp, hD, hE, div_coe _ _ hpos.ne', ← EReal.coe_mul, ← EReal.coe_mul]
  congr 1; ring

/-- Both forms of the cotangent of the scores are the same number. -/
theorem ds_eq (hz : ∀ j, z j = if ok j then (s j : EReal) else ⊥) (hok : ∃ j, ok j) (v : Fin 256 → Fin 64 → ℝ) (g : Fin 64 → ℝ) (dl : ℝ) (j : Fin 256) :
    dsp z (fun j c => v j c) (fun c => g c) dl j = if ok j then ds z (fun j c => v j c) (fun c => g c) dl j else 0 := by
  obtain ⟨E, D, hpos, hsum, hE, hD, hp, h0⟩ := reals hz hok
  have hne := hpos.ne'
  have hnum : ∀ c, num z (fun j c => (v j c : EReal)) c = ((∑ k, E k * v k c : ℝ) : EReal) := by
    intro c; unfold num; rw [coe_sum]
    exact Finset.sum_congr rfl fun k _ => by rw [hE, EReal.coe_mul]
  have hdsp : dsp z (fun j c => v j c) (fun c => g c) dl j = ((E j / D * (∑ c, g c * v j c - (∑ c, g c * ((∑ k, E k * v k c) / D) - dl)) : ℝ) : EReal) := by
    unfold dsp
    rw [hp]
    simp only [hnum, hD, div_coe _ _ hne, ← EReal.coe_mul, ← coe_sum, ← EReal.coe_sub]
  have hback : ∀ k, back z (fun j c => v j c) (fun c => g c) dl k
      = (((∑ c, g c / D * v k c + (dl / D + -∑ c, g c * (1 / (D * D)) * (∑ i, E i * v i c))) * E k : ℝ) : EReal) := by
    intro k
    unfold back
    have h1 : Ideal.div 1 (((D * D : ℝ)) : EReal) = ((1 / (D * D) : ℝ) : EReal) := by
      rw [← div_coe _ _ (mul_ne_zero hne hne)]; rfl
    simp only [hnum, hD, hE, div_coe _ _ hne, ← EReal.coe_mul, h1, ← coe_sum, ← EReal.coe_neg, ← EReal.coe_add]
  have hA : ∀ k, (∑ c, g c / D * v k c + (dl / D + -∑ c, g c * (1 / (D * D)) * (∑ i, E i * v i c))) * E k
      = E k / D * (∑ c, g c * v k c - (∑ c, g c * ((∑ i, E i * v i c) / D) - dl)) := by
    intro k
    have a1 : ∑ c, g c / D * v k c = (∑ c, g c * v k c) / D := by
      rw [Finset.sum_div]; exact Finset.sum_congr rfl fun c _ => by ring
    have a2 : ∑ c, g c * (1 / (D * D)) * (∑ i, E i * v i c) = (∑ c, g c * ((∑ i, E i * v i c) / D)) / D := by
      rw [Finset.sum_div]; exact Finset.sum_congr rfl fun c _ => by field_simp
    rw [a1, a2]; field_simp; ring
  have hzero : dl + ∑ k, -(E k / D * (∑ c, g c * v k c - (∑ c, g c * ((∑ i, E i * v i c) / D) - dl))) = 0 := by
    have b1 : ∑ k, E k / D * ∑ c, g c * v k c = ∑ c, g c * ((∑ i, E i * v i c) / D) := by
      simp only [Finset.mul_sum, Finset.sum_div]
      rw [Finset.sum_comm]
      exact Finset.sum_congr rfl fun c _ => Finset.sum_congr rfl fun k _ => by ring
    have b2 : ∑ k, E k / D = 1 := by rw [← Finset.sum_div, ← hsum]; exact div_self hne
    simp only [mul_sub, Finset.sum_neg_distrib, Finset.sum_sub_distrib, b1, ← Finset.sum_mul, b2]
    ring
  have htie : ∃ n : ℝ, n ≠ 0 ∧ ∑ k, tie z k = n := by
    refine ⟨∑ k, (if z k = top z then 1 else 0 : ℝ), ?_, ?_⟩
    · obtain ⟨k, hk⟩ := top_mem z
      apply ne_of_gt
      apply Finset.sum_pos'
      · intro i _; split <;> norm_num
      · exact ⟨k, Finset.mem_univ _, by rw [if_pos hk]; norm_num⟩
    · rw [coe_sum]
      refine Finset.sum_congr rfl fun k _ => ?_
      unfold tie; split <;> simp
  obtain ⟨n, hn, htie⟩ := htie
  rw [hdsp]
  by_cases h : ok j
  · rw [if_pos h]
    have d0 : Ideal.div 0 (n : EReal) = 0 := by rw [← EReal.coe_zero, div_coe _ _ hn, _root_.zero_div]
    unfold ds
    rw [htie]
    simp only [hback, hA, ← EReal.coe_neg, ← coe_sum, ← EReal.coe_add, hzero, EReal.coe_zero, d0, zero_mul, add_zero]
  · rw [if_neg h, h0 j h, _root_.zero_div, zero_mul, EReal.coe_zero]

/-- A sum over `a` groups of `b` that only one group enters. -/
theorem sum_group (a b : ℕ) (hb : 0 < b) (h : ℕ) (hh : h < a) (f : ℕ → EReal) (f' : Fin (a * b) → EReal) (hf : ∀ x : Fin (a * b), f' x = if x.val / b = h then f x.val else 0) :
    ∑ x, f' x = ∑ i : Fin b, f (b * h + i.val) := by
  simp only [hf]
  rw [← finProdFinEquiv.sum_comp, Fintype.sum_prod_type]
  rw [Finset.sum_eq_single (⟨h, hh⟩ : Fin a)]
  · refine Finset.sum_congr rfl fun i _ => ?_
    have : (finProdFinEquiv ((⟨h, hh⟩ : Fin a), i)).val = i.val + b * h := rfl
    rw [this, if_pos, add_comm]
    rw [Nat.add_mul_div_left _ _ hb, Nat.div_eq_of_lt i.isLt, zero_add]
  · intro k _ hk
    refine Finset.sum_eq_zero fun i _ => ?_
    have : (finProdFinEquiv (k, i)).val = i.val + b * k.val := rfl
    rw [this, if_neg]
    rw [Nat.add_mul_div_left _ _ hb, Nat.div_eq_of_lt i.isLt, zero_add]
    exact fun e => hk (Fin.ext e)
  · intro hx; exact absurd (Finset.mem_univ _) hx

end Cert.Row
-- ==== Proof.Out.lean ====
module

public import proofs.«01_k».proof.Proof.Same
public import proofs.«01_k».proof.Proof.Row
public import proofs.«01_k».proof.Proof.Gen.KernelIdeal.Frame
public import Idealize.ShloMosaic.Lib.Pipeline.ValueKit
public import Idealize.ShloMosaic.Lib.Pipeline.ReadBack
public import Idealize.ShloMosaic.Lib.WholeRead

@[expose] public section

set_option maxRecDepth 16384

noncomputable section

open Idealize.ShloMosaic Idealize.ShloMosaic.TcCoe Idealize.SL.Sem

namespace Cert.KernelIdeal.Block

open Cert.KernelIdeal Cert.KernelIdeal.Gen

/-- What one grid point reads, by row and lane: its queries, keys, values and cotangents, the saved logarithm and
    correction, the keys and values of the block before, and the bias by head row and lane. -/
structure Inp where
  (q k v g l c kp vp b : ℕ → ℕ → EReal)

namespace Inp
variable (I : Inp)

/-- The keys with the block before in front. -/
def kk (r l : ℕ) : EReal := if r < 128 then I.kp r l else I.k (r - 128) l
/-- The values with the block before in front. -/
def vv (r l : ℕ) : EReal := if r < 128 then I.vp r l else I.v (r - 128) l
/-- The masked score of query `i` of block `n` and head `h` against row `j` of its window. -/
def z (n h i j : ℕ) : EReal := (∑ c : Fin 64, I.q (128 * n + i) (64 * h + c.val) * I.kk (128 * n + j) (64 * h + c.val)) * Ideal.ofBits FTy.f32 1040187392#32
  + (I.b (128 * h + i) j + if n = 0 ∧ j < 128 then ⊥ else 0)
/-- Its weight. -/
def p (n h i j : ℕ) : EReal := Ideal.exp (I.z n h i j - I.l (128 * n + i) (64 * h))
/-- The gradient of the score. -/
def ds (n h i j : ℕ) : EReal :=
  I.p n h i j * (∑ c : Fin 64, I.g (128 * n + i) (64 * h + c.val) * I.vv (128 * n + j) (64 * h + c.val) - I.c (128 * n + i) (64 * h)) * Ideal.ofBits FTy.f32 1040187392#32
/-- The gradient of the queries. -/
def dq (s l : ℕ) : EReal := ∑ j : Fin 256, I.ds (s / 128) (l / 64) (s % 128) j.val * I.kk (128 * (s / 128) + j.val) l
/-- What block `n` gives row `j` of its window of keys. -/
def dkb (n j l : ℕ) : EReal := ∑ i : Fin 128, I.ds n (l / 64) i.val j * I.q (128 * n + i.val) l
/-- What block `n` gives row `j` of its window of values. -/
def dvb (n j l : ℕ) : EReal := ∑ i : Fin 128, I.p n (l / 64) i.val j * I.g (128 * n + i.val) l
end Inp

/-- The running sum over the four blocks at row `r`, of what each gives the rows of its window. -/
def run (D : ℕ → ℕ → ℕ → EReal) (r l : ℕ) : EReal :=
  0 + (if 0 ≤ r ∧ r < 0 + 256 then D 0 (r - 0) l else 0) + (if 128 ≤ r ∧ r < 128 + 256 then D 1 (r - 128) l else 0)
    + (if 256 ≤ r ∧ r < 256 + 256 then D 2 (r - 256) l else 0) + (if 384 ≤ r ∧ r < 384 + 256 then D 3 (r - 384) l else 0)

/-- The point's output by row and lane. -/
def Inp.out (I : Inp) (s l : ℕ) : EReal :=
  if l < 256 then I.dq s l else if l < 512 then run I.dkb (128 + s) (l - 256) else run I.dvb (128 + s) (l - 512)

/-- The values of block `n` are the ones the point reads. -/
structure Ok (I : Inp) (n : ℕ) (kk vv : FVec Ideal S256x256 .bf16) (q g : Vec Ideal S1x128x256 .bf16) (bi : FVec Ideal S512x256 .f32) (l0 l1 l2 l3 c0 c1 c2 c3 : Vec Ideal S1x128x1 .f32) : Prop where
  hk : ∀ j l : Fin 256, kk (ix2 j l) = I.kk (128 * n + j.val) l.val
  hv : ∀ j l : Fin 256, vv (ix2 j l) = I.vv (128 * n + j.val) l.val
  hq : ∀ (i : Fin 128) (l : Fin 256), q (ix3 0 i l) = I.q (128 * n + i.val) l.val
  hg : ∀ (i : Fin 128) (l : Fin 256), g (ix3 0 i l) = I.g (128 * n + i.val) l.val
  hb : ∀ (x : Fin 512) (j : Fin 256), bi (ix2 x j) = I.b x.val j.val + if n = 0 ∧ j.val < 128 then ⊥ else 0
  hl0 : ∀ i : Fin 128, l0 (ix3 0 i 0) = I.l (128 * n + i.val) 0
  hl1 : ∀ i : Fin 128, l1 (ix3 0 i 0) = I.l (128 * n + i.val) 64
  hl2 : ∀ i : Fin 128, l2 (ix3 0 i 0) = I.l (128 * n + i.val) 128
  hl3 : ∀ i : Fin 128, l3 (ix3 0 i 0) = I.l (128 * n + i.val) 192
  hc0 : ∀ i : Fin 128, c0 (ix3 0 i 0) = I.c (128 * n + i.val) 0
  hc1 : ∀ i : Fin 128, c1 (ix3 0 i 0) = I.c (128 * n + i.val) 64
  hc2 : ∀ i : Fin 128, c2 (ix3 0 i 0) = I.c (128 * n + i.val) 128
  hc3 : ∀ i : Fin 128, c3 (ix3 0 i 0) = I.c (128 * n + i.val) 192

/-- A sum over the lanes of one head. -/
theorem lanes (h : ℕ) (hh : h < 4) (f : ℕ → EReal) (f' : Fin 256 → EReal) (hf : ∀ x, f' x = if x.val / 64 = h then f x.val else 0) :
    ∑ x, f' x = ∑ i : Fin 64, f (64 * h + i.val) := Row.sum_group 4 64 (by norm_num) h hh f f' hf
/-- A sum over the rows of one head. -/
theorem headRows (h : ℕ) (hh : h < 4) (f : ℕ → EReal) (f' : Fin 512 → EReal) (hf : ∀ x, f' x = if x.val / 128 = h then f x.val else 0) :
    ∑ x, f' x = ∑ i : Fin 128, f (128 * h + i.val) := Row.sum_group 4 128 (by norm_num) h hh f f' hf

section
variable {I : Inp} {n : ℕ} {kk vv : FVec Ideal S256x256 .bf16} {q g : Vec Ideal S1x128x256 .bf16} {bi : FVec Ideal S512x256 .f32} {l0 l1 l2 l3 c0 c1 c2 c3 : Vec Ideal S1x128x1 .f32}
  (H : Ok I n kk vv q g bi l0 l1 l2 l3 c0 c1 c2 c3)
include H

/-- Four columns, one above the other, by head and row. -/
theorem Ok.lcol (x : Fin 512) : k0_pay28 l0 l1 l2 l3 (ix2 x 0) = I.l (128 * n + x.val % 128) (64 * (x.val / 128)) := by
  rw [col_at]
  have hx := x.isLt
  rcases (by omega : x.val / 128 = 0 ∨ x.val / 128 = 1 ∨ x.val / 128 = 2 ∨ x.val / 128 = 3) with h | h | h | h <;> rw [h]
  · exact H.hl0 _
  · exact H.hl1 _
  · exact H.hl2 _
  · exact H.hl3 _
/-- Four columns, one above the other, by head and row. -/
theorem Ok.ccol (x : Fin 512) : k0_pay28 c0 c1 c2 c3 (ix2 x 0) = I.c (128 * n + x.val % 128) (64 * (x.val / 128)) := by
  rw [col_at]
  have hx := x.isLt
  rcases (by omega : x.val / 128 = 0 ∨ x.val / 128 = 1 ∨ x.val / 128 = 2 ∨ x.val / 128 = 3) with h | h | h | h <;> rw [h]
  · exact H.hc0 _
  · exact H.hc1 _
  · exact H.hc2 _
  · exact H.hc3 _

/-- The block's weights by head, row and window row. -/
theorem Ok.wts (x : Fin 512) (j : Fin 256) : Block.wts kk q bi l0 l1 l2 l3 (ix2 x j) = I.p n (x.val / 128) (x.val % 128) j.val := by
  rw [wts_at, H.lcol, H.hb]
  have hx := x.isLt
  unfold Inp.p Inp.z
  rw [lanes (x.val / 128) (by omega) (fun l => I.q (128 * n + x.val % 128) l * I.kk (128 * n + j.val) l)]
  · congr 5
    omega
  · intro l
    rw [stk_at, H.hk]
    split
    · rw [H.hq]
    · rw [zero_mul]

/-- The block's score gradients by head, row and window row. -/
theorem Ok.sgr (x : Fin 512) (j : Fin 256) :
    Block.sgr vv g (Block.wts kk q bi l0 l1 l2 l3) c0 c1 c2 c3 (ix2 x j) = I.ds n (x.val / 128) (x.val % 128) j.val := by
  rw [sgr_at, H.ccol, H.wts]
  have hx := x.isLt
  unfold Inp.ds
  rw [lanes (x.val / 128) (by omega) (fun l => I.g (128 * n + x.val % 128) l * I.vv (128 * n + j.val) l)]
  intro l
  rw [stk_at, H.hv]
  split
  · rw [H.hg]
  · rw [zero_mul]

/-- The block's query gradients. -/
theorem Ok.dqb (i : Fin 128) (l : Fin 256) :
    Block.dqb kk vv g (Block.wts kk q bi l0 l1 l2 l3) c0 c1 c2 c3 (ix3 0 i l) = I.dq (128 * n + i.val) l.val := by
  rw [dqb_at]
  unfold Inp.dq
  refine Finset.sum_congr rfl fun j _ => ?_
  rw [H.sgr, H.hk]
  have e1 : (128 * (l.val / 64) + i.val) / 128 = l.val / 64 := by omega
  have e2 : (128 * (l.val / 64) + i.val) % 128 = i.val := by omega
  have e3 : (128 * n + i.val) / 128 = n := by omega
  have e4 : (128 * n + i.val) % 128 = i.val := by omega
  simp only [e1, e2, e3, e4]

/-- What the block gives the keys. -/
theorem Ok.dkb (j l : Fin 256) :
    ∑ x : Fin 512, Block.sgr vv g (Block.wts kk q bi l0 l1 l2 l3) c0 c1 c2 c3 (ix2 x j) * stk q (ix2 x l) = I.dkb n j.val l.val := by
  unfold Inp.dkb
  have hl := l.isLt
  rw [headRows (l.val / 64) (by omega) (fun x => I.ds n (x / 128) (x % 128) j.val * I.q (128 * n + x % 128) l.val)]
  · refine Finset.sum_congr rfl fun i _ => ?_
    have e1 : (128 * (l.val / 64) + i.val) / 128 = l.val / 64 := by omega
    have e2 : (128 * (l.val / 64) + i.val) % 128 = i.val := by omega
    simp only [e1, e2]
  · intro x
    rw [H.sgr, stk_at]
    by_cases h : l.val / 64 = x.val / 128
    · rw [if_pos h, if_pos h.symm, H.hq]
    · rw [if_neg h, if_neg (Ne.symm h), mul_zero]

/-- What the block gives the values. -/
theorem Ok.dvb (j l : Fin 256) :
    ∑ x : Fin 512, Block.wts kk q bi l0 l1 l2 l3 (ix2 x j) * stk g (ix2 x l) = I.dvb n j.val l.val := by
  unfold Inp.dvb
  have hl := l.isLt
  rw [headRows (l.val / 64) (by omega) (fun x => I.p n (x / 128) (x % 128) j.val * I.g (128 * n + x % 128) l.val)]
  · refine Finset.sum_congr rfl fun i _ => ?_
    have e1 : (128 * (l.val / 64) + i.val) / 128 = l.val / 64 := by omega
    have e2 : (128 * (l.val / 64) + i.val) % 128 = i.val := by omega
    simp only [e1, e2]
  · intro x
    rw [H.wts, stk_at]
    by_cases h : l.val / 64 = x.val / 128
    · rw [if_pos h, if_pos h.symm, H.hg]
    · rw [if_neg h, if_neg (Ne.symm h), mul_zero]
end

/-- A running sum after one more block: the rows of the block's window gain what the block gives them. -/
theorem acc_step {sig : RefSig} {κ : Kind} {sp : Space} (w : View sig κ sp S640x256 .f32) (o : ℕ) (inb : ∀ a, (![o, 0] : Fin 2 → ℕ) a + S256x256.size a ≤ S640x256.size a)
    (a : FVec Ideal S512x256 .bf16) (x : Vec Ideal S1x128x256 .bf16) (L : List (View.Piece (Elt Ideal) S640x256 .f32)) (D : ℕ → ℕ → EReal)
    (h : ∀ j l : Fin 256, ∑ y : Fin 512, a (ix2 y j) * stk x (ix2 y l) = D j.val l.val) (r : Fin 640) (l : Fin 256) :
    View.canon (s := S640x256) (⟨Rect.unit (s := S640x256) ![o, 0] S256x256.size inb, accb a x (w.readCov L (Rect.unit (s := S640x256) ![o, 0] S256x256.size inb).toLoadRect)⟩ :: L) (ix2 r l)
      = View.canon L (ix2 r l) + if o ≤ r.val ∧ r.val < o + 256 then D (r.val - o) l.val else 0 := by
  by_cases hr : o ≤ r.val ∧ r.val < o + 256
  · have e : (ix2 r l : S640x256.Idx) = (Rect.unit (s := S640x256) ![o, 0] S256x256.size inb).emb (ix2 ⟨r.val - o, by omega⟩ l) := by
      funext a; apply Fin.ext
      fin_cases a
      · show r.val = o + 1 * (r.val - o); omega
      · show l.val = 0 + 1 * l.val; omega
    rw [if_pos hr, e, View.canon_cons_emb, accb_at, h, View.readCov_eq_canon']
    rfl
  · rw [if_neg hr, add_zero, View.canon_cons_of_not_mem]
    intro hm
    have := ((Rect.mem_set_unit (s := S640x256) (off := ![o, 0]) (size := S256x256.size) (inb := inb)).mp hm) 0
    exact hr this

/-- A block of 512 rows by row and lane. -/
def at3 (X : S1x512x256.Idx → EReal) (s l : ℕ) : EReal := if h : s < 512 ∧ l < 256 then X (ix3 0 ⟨s, h.1⟩ ⟨l, h.2⟩) else 0
/-- A block of 128 rows by row and lane. -/
def at3p (X : S1x128x256.Idx → EReal) (s l : ℕ) : EReal := if h : s < 128 ∧ l < 256 then X (ix3 0 ⟨s, h.1⟩ ⟨l, h.2⟩) else 0
/-- The bias table by row and lane. -/
def at2 (X : S512x256.Idx → EReal) (s l : ℕ) : EReal := if h : s < 512 ∧ l < 256 then X (ix2 ⟨s, h.1⟩ ⟨l, h.2⟩) else 0

/-- A block of 512 rows read within its bounds. -/
theorem at3_eq (X : S1x512x256.Idx → EReal) (s l : ℕ) (hs : s < 512) (hl : l < 256) : at3 X s l = X (ix3 0 ⟨s, hs⟩ ⟨l, hl⟩) := dif_pos ⟨hs, hl⟩
/-- A block of 128 rows read within its bounds. -/
theorem at3p_eq (X : S1x128x256.Idx → EReal) (s l : ℕ) (hs : s < 128) (hl : l < 256) : at3p X s l = X (ix3 0 ⟨s, hs⟩ ⟨l, hl⟩) := dif_pos ⟨hs, hl⟩
/-- A table read within its bounds. -/
theorem at2_eq (X : S512x256.Idx → EReal) (s l : ℕ) (hs : s < 512) (hl : l < 256) : at2 X s l = X (ix2 ⟨s, hs⟩ ⟨l, hl⟩) := dif_pos ⟨hs, hl⟩

variable (m : (ℓ : Loc nD τ sig) → Buf (Elt Ideal) ℓ)

/-- What point `t` reads. -/
def inp (c : Dev nD) (t : Fin cfg0.N) : Inp where
  q := at3 (iblk m c 0 t)
  k := at3 (iblk m c 1 t)
  kp := at3p (iblk m c 2 t)
  v := at3 (iblk m c 3 t)
  vp := at3p (iblk m c 4 t)
  g := at3 (iblk m c 5 t)
  l := at3 (iblk m c 6 t)
  c := at3 (iblk m c 7 t)
  b := at2 (iblk m c 12 t)

/-- Every grid point is at the first row step. -/
theorem bit_one (t : Fin cfg0.N) : Scalar.cmpi CmpIPredicate.eq (BitVec.ofNat 32 (grid0.coords t 1).val) 0#32 = 1#1 := by
  have h : (grid0.coords t 1).val = 0 := (by decide +kernel : ∀ t : Fin grid0.N, (grid0.coords t 1).val = 0) t
  rw [h]; rfl

/-- A load of 128 whole rows, by row and lane. -/
theorem rows_read {m : Memref sig .tc .vmem S1x512x256 .bf16} (h : m.IsWhole) (X : S1x512x256.Idx → EReal) (o : ℕ) (ho : o + 128 ≤ 512)
    (inb : ∀ a, (![0, o, 0] : Fin 3 → ℕ) a + S1x128x256.size a ≤ S1x512x256.size a) (i : Fin 128) (l : Fin 256) :
    View.readAt (Elt Ideal) m.view (Rect.unit (s := S1x512x256) ![0, o, 0] S1x128x256.size inb).toLoadRect (h.unread X) (ix3 0 i l) = at3 X (o + i.val) l.val := by
  rw [h.readAt_unread, at3_eq X _ _ (by omega) l.isLt]
  refine congrArg X (funext fun a => Fin.ext ?_)
  fin_cases a
  · rfl
  · show o + 1 * i.val = o + i.val; omega
  · show 0 + 1 * l.val = l.val; omega
/-- A load of one lane of 128 rows, by row. -/
theorem col_read {m : Memref sig .tc .vmem S1x512x256 .f32} (h : m.IsWhole) (X : S1x512x256.Idx → EReal) (o p : ℕ) (ho : o + 128 ≤ 512) (hp : p < 256)
    (inb : ∀ a, (![0, o, p] : Fin 3 → ℕ) a + S1x128x1.size a ≤ S1x512x256.size a) (i : Fin 128) :
    View.readAt (Elt Ideal) m.view (Rect.unit (s := S1x512x256) ![0, o, p] S1x128x1.size inb).toLoadRect (h.unread X) (ix3 0 i 0) = at3 X (o + i.val) p := by
  rw [h.readAt_unread, at3_eq X _ _ (by omega) hp]
  refine congrArg X (funext fun a => Fin.ext ?_)
  fin_cases a
  · rfl
  · show o + 1 * i.val = o + i.val; omega
  · show p + 1 * 0 = p; omega
/-- The whole block before with the point's rows after it. -/
theorem window_read {m1 : Memref sig .tc .vmem S1x512x256 .bf16} (h1 : m1.IsWhole) {m2 : Memref sig .tc .vmem S1x128x256 .bf16} (h2 : m2.IsWhole)
    (X : S1x512x256.Idx → EReal) (Y : S1x128x256.Idx → EReal) (inb1 : ∀ a, (![0, 0, 0] : Fin 3 → ℕ) a + S1x512x256.size a ≤ S1x512x256.size a)
    (inb2 : ∀ a, (![0, 0, 0] : Fin 3 → ℕ) a + S1x128x256.size a ≤ S1x128x256.size a) (r : Fin 640) (l : Fin 256) :
    k0_pay14 (View.readAt (Elt Ideal) m2.view (Rect.unit (s := S1x128x256) ![0, 0, 0] S1x128x256.size inb2).toLoadRect (h2.unread Y))
      (View.readAt (Elt Ideal) m1.view (Rect.unit (s := S1x512x256) ![0, 0, 0] S1x512x256.size inb1).toLoadRect (h1.unread X)) (ix2 r l)
      = if r.val < 128 then at3p Y r.val l.val else at3 X (r.val - 128) l.val := by
  rw [all_at]
  split
  · rename_i h
    rw [h2.readAt_unread, at3p_eq Y _ _ h l.isLt]
    refine congrArg Y (funext fun a => Fin.ext ?_)
    fin_cases a
    · rfl
    · show 0 + 1 * r.val = r.val; omega
    · show 0 + 1 * l.val = l.val; omega
  · rename_i h
    rw [h1.readAt_unread, at3_eq X _ _ (by omega) l.isLt]
    refine congrArg X (funext fun a => Fin.ext ?_)
    fin_cases a
    · rfl
    · show 0 + 1 * (r.val - 128) = r.val - 128; omega
    · show 0 + 1 * l.val = l.val; omega
/-- The whole bias table. -/
theorem bias_read {m : Memref sig .tc .vmem S512x256 .f32} (h : m.IsWhole) (X : S512x256.Idx → EReal)
    (inb : ∀ a, (![0, 0] : Fin 2 → ℕ) a + S512x256.size a ≤ S512x256.size a) (x : Fin 512) (j : Fin 256) :
    View.readAt (Elt Ideal) m.view (Rect.unit (s := S512x256) ![0, 0] S512x256.size inb).toLoadRect (h.unread X) (ix2 x j) = at2 X x.val j.val := by
  rw [h.readAt_unread, at2_eq X _ _ x.isLt j.isLt]
  refine congrArg X (funext fun a => Fin.ext ?_)
  fin_cases a
  · show 0 + 1 * x.val = x.val; omega
  · show 0 + 1 * j.val = j.val; omega

/-- Block `n`'s values are the ones the point reads. -/
theorem ok (c : Dev nD) (t : Fin cfg0.N) (n : ℕ) (hn : n < 4) {kk vv : FVec Ideal S256x256 .bf16} {bi : FVec Ideal S512x256 .f32}
    (hk : ∀ j l : Fin 256, kk (ix2 j l) = (inp m c t).kk (128 * n + j.val) l.val)
    (hv : ∀ j l : Fin 256, vv (ix2 j l) = (inp m c t).vv (128 * n + j.val) l.val)
    (hb : ∀ (x : Fin 512) (j : Fin 256), bi (ix2 x j) = (inp m c t).b x.val j.val + if n = 0 ∧ j.val < 128 then ⊥ else 0)
    (iq : ∀ a, (![0, 128 * n, 0] : Fin 3 → ℕ) a + S1x128x256.size a ≤ S1x512x256.size a)
    (i0 : ∀ a, (![0, 128 * n, 0] : Fin 3 → ℕ) a + S1x128x1.size a ≤ S1x512x256.size a)
    (i1 : ∀ a, (![0, 128 * n, 64] : Fin 3 → ℕ) a + S1x128x1.size a ≤ S1x512x256.size a)
    (i2 : ∀ a, (![0, 128 * n, 128] : Fin 3 → ℕ) a + S1x128x1.size a ≤ S1x512x256.size a)
    (i3 : ∀ a, (![0, 128 * n, 192] : Fin 3 → ℕ) a + S1x128x1.size a ≤ S1x512x256.size a) :
    Ok (inp m c t) n kk vv
      (View.readAt (Elt Ideal) (ms0_0 t).view (Rect.unit (s := S1x512x256) ![0, 128 * n, 0] S1x128x256.size iq).toLoadRect ((hs0_0 t).unread (iblk m c 0 t)))
      (View.readAt (Elt Ideal) (ms0_5 t).view (Rect.unit (s := S1x512x256) ![0, 128 * n, 0] S1x128x256.size iq).toLoadRect ((hs0_5 t).unread (iblk m c 5 t))) bi
      (View.readAt (Elt Ideal) (ms0_6 t).view (Rect.unit (s := S1x512x256) ![0, 128 * n, 0] S1x128x1.size i0).toLoadRect ((hs0_6 t).unread (iblk m c 6 t)))
      (View.readAt (Elt Ideal) (ms0_6 t).view (Rect.unit (s := S1x512x256) ![0, 128 * n, 64] S1x128x1.size i1).toLoadRect ((hs0_6 t).unread (iblk m c 6 t)))
      (View.readAt (Elt Ideal) (ms0_6 t).view (Rect.unit (s := S1x512x256) ![0, 128 * n, 128] S1x128x1.size i2).toLoadRect ((hs0_6 t).unread (iblk m c 6 t)))
      (View.readAt (Elt Ideal) (ms0_6 t).view (Rect.unit (s := S1x512x256) ![0, 128 * n, 192] S1x128x1.size i3).toLoadRect ((hs0_6 t).unread (iblk m c 6 t)))
      (View.readAt (Elt Ideal) (ms0_7 t).view (Rect.unit (s := S1x512x256) ![0, 128 * n, 0] S1x128x1.size i0).toLoadRect ((hs0_7 t).unread (iblk m c 7 t)))
      (View.readAt (Elt Ideal) (ms0_7 t).view (Rect.unit (s := S1x512x256) ![0, 128 * n, 64] S1x128x1.size i1).toLoadRect ((hs0_7 t).unread (iblk m c 7 t)))
      (View.readAt (Elt Ideal) (ms0_7 t).view (Rect.unit (s := S1x512x256) ![0, 128 * n, 128] S1x128x1.size i2).toLoadRect ((hs0_7 t).unread (iblk m c 7 t)))
      (View.readAt (Elt Ideal) (ms0_7 t).view (Rect.unit (s := S1x512x256) ![0, 128 * n, 192] S1x128x1.size i3).toLoadRect ((hs0_7 t).unread (iblk m c 7 t))) where
  hk := hk
  hv := hv
  hb := hb
  hq i l := rows_read (hs0_0 t) (iblk m c 0 t) (128 * n) (by omega) iq i l
  hg i l := rows_read (hs0_5 t) (iblk m c 5 t) (128 * n) (by omega) iq i l
  hl0 i := col_read (hs0_6 t) (iblk m c 6 t) (128 * n) 0 (by omega) (by omega) i0 i
  hl1 i := col_read (hs0_6 t) (iblk m c 6 t) (128 * n) 64 (by omega) (by omega) i1 i
  hl2 i := col_read (hs0_6 t) (iblk m c 6 t) (128 * n) 128 (by omega) (by omega) i2 i
  hl3 i := col_read (hs0_6 t) (iblk m c 6 t) (128 * n) 192 (by omega) (by omega) i3 i
  hc0 i := col_read (hs0_7 t) (iblk m c 7 t) (128 * n) 0 (by omega) (by omega) i0 i
  hc1 i := col_read (hs0_7 t) (iblk m c 7 t) (128 * n) 64 (by omega) (by omega) i1 i
  hc2 i := col_read (hs0_7 t) (iblk m c 7 t) (128 * n) 128 (by omega) (by omega) i2 i
  hc3 i := col_read (hs0_7 t) (iblk m c 7 t) (128 * n) 192 (by omega) (by omega) i3 i

/-- An index of a 128-row block of queries. -/
theorem eta3 {a b : ℕ} (x : (⟨3, ![1, a, b]⟩ : Shape).Idx) : x = ix3 0 (x 1) (x 2) := by
  funext k
  fin_cases k
  · exact Subsingleton.elim (α := Fin 1) _ _
  · rfl
  · rfl

/-- The query gradients of a block are the point's. -/
theorem piece_q {I : Inp} {n : ℕ} {kk vv : FVec Ideal S256x256 .bf16} {q g : Vec Ideal S1x128x256 .bf16} {bi : FVec Ideal S512x256 .f32} {l0 l1 l2 l3 c0 c1 c2 c3 : Vec Ideal S1x128x1 .f32}
    (H : Ok I n kk vv q g bi l0 l1 l2 l3 c0 c1 c2 c3) (x : S1x128x256.Idx) :
    dqb kk vv g (wts kk q bi l0 l1 l2 l3) c0 c1 c2 c3 x = I.out (128 * n + 1 * (x 1).val) (0 + 1 * (x 2).val) := by
  have hx : (x 2).val < 256 := (x 2).isLt
  rw [eta3 x]
  refine (H.dqb (x 1) (x 2)).trans ?_
  unfold Inp.out
  rw [one_mul, zero_add, one_mul]
  exact (if_pos hx).symm

/-- The four blocks' running sums, read back past the block before. -/
theorem acc4 {sig : RefSig} {κ : Kind} {sp : Space} (w : View sig κ sp S640x256 .f32)
    (b0 : ∀ a, (![0, 0] : Fin 2 → ℕ) a + S256x256.size a ≤ S640x256.size a) (b1 : ∀ a, (![128, 0] : Fin 2 → ℕ) a + S256x256.size a ≤ S640x256.size a)
    (b2 : ∀ a, (![256, 0] : Fin 2 → ℕ) a + S256x256.size a ≤ S640x256.size a) (b3 : ∀ a, (![384, 0] : Fin 2 → ℕ) a + S256x256.size a ≤ S640x256.size a)
    (bt : ∀ a, (![128, 0] : Fin 2 → ℕ) a + S512x256.size a ≤ S640x256.size a)
    (a0 a1 a2 a3 : FVec Ideal S512x256 .bf16) (x0 x1 x2 x3 : Vec Ideal S1x128x256 .bf16) (L0 L1 L2 L3 L4 : List (View.Piece (Elt Ideal) S640x256 .f32)) (D : ℕ → ℕ → ℕ → EReal)
    (e0 : ∀ r l, View.canon L0 (ix2 r l) = (0 : EReal))
    (e1 : L1 = ⟨Rect.unit (s := S640x256) ![0, 0] S256x256.size b0, accb a0 x0 (w.readCov L0 (Rect.unit (s := S640x256) ![0, 0] S256x256.size b0).toLoadRect)⟩ :: L0)
    (e2 : L2 = ⟨Rect.unit (s := S640x256) ![128, 0] S256x256.size b1, accb a1 x1 (w.readCov L1 (Rect.unit (s := S640x256) ![128, 0] S256x256.size b1).toLoadRect)⟩ :: L1)
    (e3 : L3 = ⟨Rect.unit (s := S640x256) ![256, 0] S256x256.size b2, accb a2 x2 (w.readCov L2 (Rect.unit (s := S640x256) ![256, 0] S256x256.size b2).toLoadRect)⟩ :: L2)
    (e4 : L4 = ⟨Rect.unit (s := S640x256) ![384, 0] S256x256.size b3, accb a3 x3 (w.readCov L3 (Rect.unit (s := S640x256) ![384, 0] S256x256.size b3).toLoadRect)⟩ :: L3)
    (h0 : ∀ j l : Fin 256, ∑ y : Fin 512, a0 (ix2 y j) * stk x0 (ix2 y l) = D 0 j.val l.val)
    (h1 : ∀ j l : Fin 256, ∑ y : Fin 512, a1 (ix2 y j) * stk x1 (ix2 y l) = D 1 j.val l.val)
    (h2 : ∀ j l : Fin 256, ∑ y : Fin 512, a2 (ix2 y j) * stk x2 (ix2 y l) = D 2 j.val l.val)
    (h3 : ∀ j l : Fin 256, ∑ y : Fin 512, a3 (ix2 y j) * stk x3 (ix2 y l) = D 3 j.val l.val) (x : S1x512x256.Idx) :
    k0_pay2 (w.readCov L4 (Rect.unit (s := S640x256) ![128, 0] S512x256.size bt).toLoadRect) x = run D (128 + (x 1).val) (x 2).val := by
  obtain ⟨s, l, rfl⟩ : ∃ (s : Fin 512) (l : Fin 256), x = ix3 0 s l := ⟨x 1, x 2, eta3 x⟩
  refine (tail_at _ s l).trans ?_
  rw [View.readCov_eq_canon']
  have e : (Rect.unit (s := S640x256) ![128, 0] S512x256.size bt).toLoadRect.idx (ix2 s l) = ix2 ⟨128 + s.val, by omega⟩ l := by
    funext a; apply Fin.ext
    fin_cases a
    · show 128 + 1 * s.val = 128 + s.val; omega
    · show 0 + 1 * l.val = l.val; omega
  show View.canon L4 _ = _
  rw [e, e4, acc_step w 384 b3 a3 x3 L3 (D 3) h3, e3, acc_step w 256 b2 a2 x2 L2 (D 2) h2, e2, acc_step w 128 b1 a1 x1 L1 (D 1) h1, e1, acc_step w 0 b0 a0 x0 L0 (D 0) h0, e0]
  rfl

/-- A zero fill reads zero. -/
theorem fill_at (b : ∀ a, (![0, 0] : Fin 2 → ℕ) a + S640x256.size a ≤ S640x256.size a) (r : Fin 640) (l : Fin 256) :
    View.canon (Val := Elt Ideal) (e := .f32) [⟨Rect.unit (s := S640x256) ![0, 0] S640x256.size b, k0_pay20 (F := Ideal)⟩] (ix2 r l) = (0 : EReal) := by
  rw [View.canon_unit_zero (by funext a; fin_cases a <;> rfl)]
  exact zero_at r l

/-- An index in a box of the output block. -/
theorem mem3 (y : S1x512x768.Idx) (o p a b : ℕ) (inb : ∀ k, (![0, o, p] : Fin 3 → ℕ) k + (![1, a, b] : Fin 3 → ℕ) k ≤ S1x512x768.size k)
    (h1 : o ≤ (y 1).val ∧ (y 1).val < o + a) (h2 : p ≤ (y 2).val ∧ (y 2).val < p + b) : y ∈ (Rect.unit (s := S1x512x768) ![0, o, p] ![1, a, b] inb).set := by
  refine Rect.mem_set_unit.mpr fun k => ?_
  have h0 : (y 0).val < 1 := (y 0).isLt
  fin_cases k
  · exact ⟨Nat.zero_le _, h0⟩
  · exact h1
  · exact h2

/-- The point's 640 rows of keys. -/
def kkAt (c : Dev nD) (t : Fin cfg0.N) : FVec Ideal S640x256 .bf16 :=
  k0_pay14 (View.readAt (Elt Ideal) (ms0_2 t).view (Rect.unit (s := S1x128x256) ![0, 0, 0] S1x128x256.size inb_S1x128x256_S1x128x256_0_0_0).toLoadRect ((hs0_2 t).unread (iblk m c 2 t)))
    (View.readAt (Elt Ideal) (ms0_1 t).view (Rect.unit (s := S1x512x256) ![0, 0, 0] S1x512x256.size inb_S1x512x256_S1x512x256_0_0_0).toLoadRect ((hs0_1 t).unread (iblk m c 1 t)))
/-- The point's 640 rows of values. -/
def vvAt (c : Dev nD) (t : Fin cfg0.N) : FVec Ideal S640x256 .bf16 :=
  k0_pay14 (View.readAt (Elt Ideal) (ms0_4 t).view (Rect.unit (s := S1x128x256) ![0, 0, 0] S1x128x256.size inb_S1x128x256_S1x128x256_0_0_0).toLoadRect ((hs0_4 t).unread (iblk m c 4 t)))
    (View.readAt (Elt Ideal) (ms0_3 t).view (Rect.unit (s := S1x512x256) ![0, 0, 0] S1x512x256.size inb_S1x512x256_S1x512x256_0_0_0).toLoadRect ((hs0_3 t).unread (iblk m c 3 t)))
/-- The point's bias table. -/
def biAt (c : Dev nD) (t : Fin cfg0.N) : Vec Ideal S512x256 .f32 :=
  View.readAt (Elt Ideal) (ms0_12 t).view (Rect.unit (s := S512x256) ![0, 0] S512x256.size inb_S512x256_S512x256_0_0).toLoadRect ((hs0_12 t).unread (iblk m c 12 t))

set_option maxHeartbeats 800000 in
/-- The point's output by row and lane. -/
theorem outs_at (c : Dev nD) (t : Fin cfg0.N) (y : S1x512x768.Idx) : outsAt0 m c t y = (inp m c t).out (y 1).val (y 2).val := by
  unfold outsAt0
  frame_open
  have h29 : ∀ (kk : FVec Ideal S256x256 .bf16) (q : Vec Ideal S1x128x256 .bf16) (bi : Vec Ideal S512x256 .f32) (l0 l1 l2 l3 : Vec Ideal S1x128x1 .f32), k0_pay29 kk (stk q) (k0_pay26 bi) (Scalar.cmpi CmpIPredicate.eq (BitVec.ofNat 32 (grid0.coords t 1).val) 0#32) (k0_pay27 (iota Kind.tc S1x256 32 [1] iota_S1x256_d1_w32)) l0 l1 l2 l3 = wts kk q (bias0 bi) l0 l1 l2 l3 := by
    intro kk q bi l0 l1 l2 l3; rw [bit_one]; rfl
  simp only [h29, same24, same25, same29, same31, same32, same34, same37, same38, same43, same44, same49, same50, same51, same60, same61, same67, same68, same69, same70, same71,
    same74, same81, same82, same86, same87, same88, same23, same36, same53, same73, same15, same21, same3]
  rw [View.read_writes_junk_apply_eq_canon]
  have hk : ∀ (r : Fin 640) (l : Fin 256), kkAt m c t (ix2 r l) = (inp m c t).kk r.val l.val := window_read (hs0_1 t) (hs0_2 t) (iblk m c 1 t) (iblk m c 2 t) _ _
  have hv : ∀ (r : Fin 640) (l : Fin 256), vvAt m c t (ix2 r l) = (inp m c t).vv r.val l.val := window_read (hs0_3 t) (hs0_4 t) (iblk m c 3 t) (iblk m c 4 t) _ _
  have hb : ∀ (x : Fin 512) (j : Fin 256), biAt m c t (ix2 x j) = (inp m c t).b x.val j.val := bias_read (hs0_12 t) (iblk m c 12 t) _
  have o0 := ok m c t 0 (by omega) (kk := k0_pay22 (kkAt m c t)) (vv := k0_pay22 (vvAt m c t)) (bi := bias0 (biAt m c t)) (fun j l => by rw [(rows_at (kkAt m c t) j l).1, hk]; congr 1; show j.val = 128 * 0 + j.val; omega) (fun j l => by rw [(rows_at (vvAt m c t) j l).1, hv]; congr 1; show j.val = 128 * 0 + j.val; omega)
    (fun x j => by rw [bias0_at, hb]; simp) inb_S1x512x256_S1x128x256_0_0_0 inb_S1x512x256_S1x128x1_0_0_0 inb_S1x512x256_S1x128x1_0_0_64 inb_S1x512x256_S1x128x1_0_0_128 inb_S1x512x256_S1x128x1_0_0_192
  have o1 := ok m c t 1 (by omega) (kk := k0_pay35 (kkAt m c t)) (vv := k0_pay35 (vvAt m c t)) (bi := k0_pay26 (biAt m c t)) (fun j l => by rw [(rows_at (kkAt m c t) j l).2.1, hk]) (fun j l => by rw [(rows_at (vvAt m c t) j l).2.1, hv])
    (fun x j => by rw [bias_at, hb]; simp) inb_S1x512x256_S1x128x256_0_128_0 inb_S1x512x256_S1x128x1_0_128_0 inb_S1x512x256_S1x128x1_0_128_64 inb_S1x512x256_S1x128x1_0_128_128 inb_S1x512x256_S1x128x1_0_128_192
  have o2 := ok m c t 2 (by omega) (kk := k0_pay52 (kkAt m c t)) (vv := k0_pay52 (vvAt m c t)) (bi := k0_pay26 (biAt m c t)) (fun j l => by rw [(rows_at (kkAt m c t) j l).2.2.1, hk]) (fun j l => by rw [(rows_at (vvAt m c t) j l).2.2.1, hv])
    (fun x j => by rw [bias_at, hb]; simp) inb_S1x512x256_S1x128x256_0_256_0 inb_S1x512x256_S1x128x1_0_256_0 inb_S1x512x256_S1x128x1_0_256_64 inb_S1x512x256_S1x128x1_0_256_128 inb_S1x512x256_S1x128x1_0_256_192
  have o3 := ok m c t 3 (by omega) (kk := k0_pay72 (kkAt m c t)) (vv := k0_pay72 (vvAt m c t)) (bi := k0_pay26 (biAt m c t)) (fun j l => by rw [(rows_at (kkAt m c t) j l).2.2.2, hk]) (fun j l => by rw [(rows_at (vvAt m c t) j l).2.2.2, hv])
    (fun x j => by rw [bias_at, hb]; simp) inb_S1x512x256_S1x128x256_0_384_0 inb_S1x512x256_S1x128x1_0_384_0 inb_S1x512x256_S1x128x1_0_384_64 inb_S1x512x256_S1x128x1_0_384_128 inb_S1x512x256_S1x128x1_0_384_192
  refine View.canon_apply_of_pieces (Val := Elt Ideal) (S := S1x512x768) (e := .bf16) (fun y => (inp m c t).out (y 1).val (y 2).val) _ ?_ y ?_
  · refine View.PiecesOf.mem (Val := Elt Ideal) (s := S1x512x768) (e := .bf16) (G := fun y => (inp m c t).out (y 1).val (y 2).val) ⟨?_, ?_, ?_, ?_, ?_, ?_, trivial⟩
    · intro x
      have hx : (x 2).val < 256 := (x 2).isLt
      refine (acc4 _ _ _ _ _ _ _ _ _ _ _ _ _ _ _ _ _ _ _ (inp m c t).dvb (fill_at _) rfl rfl rfl rfl o0.dvb o1.dvb o2.dvb o3.dvb x).trans ?_
      show _ = (inp m c t).out (0 + 1 * (x 1).val) (512 + 1 * (x 2).val)
      unfold Inp.out
      rw [if_neg (by omega), if_neg (by omega)]
      congr 1 <;> omega
    · intro x
      have hx : (x 2).val < 256 := (x 2).isLt
      refine (acc4 _ _ _ _ _ _ _ _ _ _ _ _ _ _ _ _ _ _ _ (inp m c t).dkb (fill_at _) rfl rfl rfl rfl o0.dkb o1.dkb o2.dkb o3.dkb x).trans ?_
      show _ = (inp m c t).out (0 + 1 * (x 1).val) (256 + 1 * (x 2).val)
      unfold Inp.out
      rw [if_neg (by omega), if_pos (by omega)]
      congr 1 <;> omega
    · intro x
      refine (piece_q o3 x).trans ?_
      show _ = (inp m c t).out (384 + 1 * (x 1).val) (0 + 1 * (x 2).val)
      congr 1
    · intro x
      refine (piece_q o2 x).trans ?_
      show _ = (inp m c t).out (256 + 1 * (x 1).val) (0 + 1 * (x 2).val)
      congr 1
    · intro x
      refine (piece_q o1 x).trans ?_
      show _ = (inp m c t).out (128 + 1 * (x 1).val) (0 + 1 * (x 2).val)
      congr 1
    · intro x
      refine (piece_q o0 x).trans ?_
      show _ = (inp m c t).out (0 + 1 * (x 1).val) (0 + 1 * (x 2).val)
      congr 1
  · have h1 : (y 1).val < 512 := (y 1).isLt
    have h2 : (y 2).val < 768 := (y 2).isLt
    by_cases a : 512 ≤ (y 2).val
    · exact ⟨_, .head _, mem3 y 0 512 512 256 inb_S1x512x768_S1x512x256_0_0_512 (by omega) (by omega)⟩
    by_cases a : 256 ≤ (y 2).val
    · exact ⟨_, .tail _ (.head _), mem3 y 0 256 512 256 inb_S1x512x768_S1x512x256_0_0_256 (by omega) (by omega)⟩
    by_cases b : 384 ≤ (y 1).val
    · exact ⟨_, .tail _ (.tail _ (.head _)), mem3 y 384 0 128 256 inb_S1x512x768_S1x128x256_0_384_0 (by omega) (by omega)⟩
    by_cases b : 256 ≤ (y 1).val
    · exact ⟨_, .tail _ (.tail _ (.tail _ (.head _))), mem3 y 256 0 128 256 inb_S1x512x768_S1x128x256_0_256_0 (by omega) (by omega)⟩
    by_cases b : 128 ≤ (y 1).val
    · exact ⟨_, .tail _ (.tail _ (.tail _ (.tail _ (.head _)))), mem3 y 128 0 128 256 inb_S1x512x768_S1x128x256_0_128_0 (by omega) (by omega)⟩
    · exact ⟨_, .tail _ (.tail _ (.tail _ (.tail _ (.tail _ (.head _))))), mem3 y 0 0 128 256 inb_S1x512x768_S1x128x256_0_0_0 (by omega) (by omega)⟩

end Cert.KernelIdeal.Block
-- ==== Proof.Entry.lean ====
module

public import proofs.«01_k».proof.Proof.Out
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.KernelIdeal.Entry

open Cert.KernelIdeal Cert.KernelIdeal.Gen

variable (m : (ℓ : Loc nD τ sig) → Buf (Elt Ideal) ℓ) (c : Dev nD)

/-- The queries' block of a point: its residue's rows, the first 256 lanes. -/
theorem idx0 : ∀ t : Fin cfg0.N, win0_0.index t = ![t.val, 0, 0] := (by decide +kernel : ∀ t : Fin grid0.N, _)
/-- The keys' block of a point: its residue's rows, the second 256 lanes. -/
theorem idx1 : ∀ t : Fin cfg0.N, win0_1.index t = ![t.val, 0, 1] := (by decide +kernel : ∀ t : Fin grid0.N, _)
/-- The block of keys before: at the only row step it is the residue's first. -/
theorem idx2 : ∀ t : Fin cfg0.N, win0_2.index t = ![t.val, 0, 1] := (by decide +kernel : ∀ t : Fin grid0.N, _)
/-- The values' block of a point: its residue's rows, the last 256 lanes. -/
theorem idx3 : ∀ t : Fin cfg0.N, win0_3.index t = ![t.val, 0, 2] := (by decide +kernel : ∀ t : Fin grid0.N, _)
/-- The block of values before: at the only row step it is the residue's first. -/
theorem idx4 : ∀ t : Fin cfg0.N, win0_4.index t = ![t.val, 0, 2] := (by decide +kernel : ∀ t : Fin grid0.N, _)
/-- The cotangents' block of a point. -/
theorem idx5 : ∀ t : Fin cfg0.N, win0_5.index t = ![t.val, 0, 0] := (by decide +kernel : ∀ t : Fin grid0.N, _)
/-- The block of the logarithms of the sums. -/
theorem idx6 : ∀ t : Fin cfg0.N, win0_6.index t = ![t.val, 0, 0] := (by decide +kernel : ∀ t : Fin grid0.N, _)
/-- The block of the corrections. -/
theorem idx7 : ∀ t : Fin cfg0.N, win0_7.index t = ![t.val, 0, 0] := (by decide +kernel : ∀ t : Fin grid0.N, _)
/-- The bias table is read whole by every point. -/
theorem idx12 : ∀ t : Fin cfg0.N, win0_12.index t = ![0, 0] := (by decide +kernel : ∀ t : Fin grid0.N, _)
/-- The gradients' block of a point: its residue's rows, every lane. -/
theorem idx13 : ∀ t : Fin cfg0.N, win0_13.index t = ![t.val, 0, 0] := (by decide +kernel : ∀ t : Fin grid0.N, _)

/-- Every point is one of the sixteen residues. -/
theorem lt (t : Fin cfg0.N) : t.val < 16 := t.isLt

variable (t : Fin cfg0.N)

/-- A query a point reads. -/
theorem blk0 (s : Fin 512) (l : Fin 256) : iblk m c 0 t (ix3 0 s l) = V m c main_v103 (ix3 ⟨t.val, lt t⟩ s ⟨l.val, by omega⟩) := by
  blk_ext [iblk, idx0 t]
/-- A key a point reads. -/
theorem blk1 (s : Fin 512) (l : Fin 256) : iblk m c 1 t (ix3 0 s l) = V m c main_v103 (ix3 ⟨t.val, lt t⟩ s ⟨256 + l.val, by omega⟩) := by
  blk_ext [iblk, idx1 t]
/-- A key of the block before that a point reads. -/
theorem blk2 (s : Fin 128) (l : Fin 256) : iblk m c 2 t (ix3 0 s l) = V m c main_v103 (ix3 ⟨t.val, lt t⟩ ⟨s.val, by omega⟩ ⟨256 + l.val, by omega⟩) := by
  blk_ext [iblk, idx2 t]
/-- A value a point reads. -/
theorem blk3 (s : Fin 512) (l : Fin 256) : iblk m c 3 t (ix3 0 s l) = V m c main_v103 (ix3 ⟨t.val, lt t⟩ s ⟨512 + l.val, by omega⟩) := by
  blk_ext [iblk, idx3 t]
/-- A value of the block before that a point reads. -/
theorem blk4 (s : Fin 128) (l : Fin 256) : iblk m c 4 t (ix3 0 s l) = V m c main_v103 (ix3 ⟨t.val, lt t⟩ ⟨s.val, by omega⟩ ⟨512 + l.val, by omega⟩) := by
  blk_ext [iblk, idx4 t]
/-- A cotangent a point reads. -/
theorem blk5 (s : Fin 512) (l : Fin 256) : iblk m c 5 t (ix3 0 s l) = V m c main_v109 (ix3 ⟨t.val, lt t⟩ s l) := by
  blk_ext [iblk, idx5 t]
/-- The block of the logarithms read from any contents. -/
theorem rd6 (X : Buf (Elt Ideal) ((c.tc : Thread nD τ).loc main_v113)) (s : Fin 512) (l : Fin 256) :
    View.read (Elt Ideal) ((cfg0.win 6).blk t).view X (ix3 0 s l) = X (ix3 ⟨t.val, lt t⟩ s l) := by
  blk_ext [idx6 t]
/-- A logarithm a point reads. -/
theorem blk6 (s : Fin 512) (l : Fin 256) : iblk m c 6 t (ix3 0 s l) = V m c main_v113 (ix3 ⟨t.val, lt t⟩ s l) := by
  exact rd6 c t (V m c main_v113) s l
/-- A correction a point reads. -/
theorem blk7 (s : Fin 512) (l : Fin 256) : iblk m c 7 t (ix3 0 s l) = V m c main_v117 (ix3 ⟨t.val, lt t⟩ s l) := by
  blk_ext [iblk, idx7 t]
/-- A bias a point reads. -/
theorem blk12 (p : Fin 512) (j : Fin 256) : iblk m c 12 t (ix2 p j) = V m c main_v146 (ix2 p j) := by
  blk_ext [iblk, idx12 t]

end Cert.KernelIdeal.Entry

end
-- ==== Proof.Lane.lean ====
module

public import Idealize.ShloMosaic.Lib.Pointwise

@[expose] public section

noncomputable section

open Idealize.ShloMosaic

namespace Cert.Lane

/-- Residue `r` of a sequence array: row `s` is position `16 s + r`, lane `l` is head `l / 64`, channel `l % 64`. -/
def lane (a : (⟨4, ![1, 8192, 4, 64]⟩ : Shape).Idx → EReal) (r s l : ℕ) : EReal :=
  if h : r < 16 ∧ s < 512 ∧ l < 256 then a (ix4 0 ⟨16 * s + r, by omega⟩ ⟨l / 64, by omega⟩ ⟨l % 64, by omega⟩) else 0
/-- Residue `r` of an array with one number per position and head. -/
def col (a : (⟨3, ![1, 8192, 4]⟩ : Shape).Idx → EReal) (r s h : ℕ) : EReal :=
  if H : r < 16 ∧ s < 512 ∧ h < 4 then a (ix3 0 ⟨16 * s + r, by omega⟩ ⟨h, H.2.2⟩) else 0

/-- Two indices with the same numbers are the same. -/
theorem ix4_ext {x0 x1 x2 x3 : ℕ} (a a' : Fin x0) (b b' : Fin x1) (c c' : Fin x2) (d d' : Fin x3) (ha : a.val = a'.val) (hb : b.val = b'.val) (hc : c.val = c'.val) (hd : d.val = d'.val) :
    (ix4 a b c d : (⟨4, ![x0, x1, x2, x3]⟩ : Shape).Idx) = ix4 a' b' c' d' := by
  obtain rfl := Fin.ext ha; obtain rfl := Fin.ext hb; obtain rfl := Fin.ext hc; obtain rfl := Fin.ext hd; rfl
/-- Two indices with the same numbers are the same. -/
theorem ix3_ext {x0 x1 x2 : ℕ} (a a' : Fin x0) (b b' : Fin x1) (c c' : Fin x2) (ha : a.val = a'.val) (hb : b.val = b'.val) (hc : c.val = c'.val) :
    (ix3 a b c : (⟨3, ![x0, x1, x2]⟩ : Shape).Idx) = ix3 a' b' c' := by
  obtain rfl := Fin.ext ha; obtain rfl := Fin.ext hb; obtain rfl := Fin.ext hc; rfl

/-- Two indices with the same numbers are the same. -/
theorem ix6_ext {x0 x1 x2 x3 x4 x5 : ℕ} (a a' : Fin x0) (b b' : Fin x1) (c c' : Fin x2) (d d' : Fin x3) (e e' : Fin x4) (f f' : Fin x5)
    (ha : a.val = a'.val) (hb : b.val = b'.val) (hc : c.val = c'.val) (hd : d.val = d'.val) (he : e.val = e'.val) (hf : f.val = f'.val) :
    (ix6 a b c d e f : (⟨6, ![x0, x1, x2, x3, x4, x5]⟩ : Shape).Idx) = ix6 a' b' c' d' e' f' := by
  obtain rfl := Fin.ext ha; obtain rfl := Fin.ext hb; obtain rfl := Fin.ext hc; obtain rfl := Fin.ext hd; obtain rfl := Fin.ext he; obtain rfl := Fin.ext hf; rfl

/-- The array at an index is its residue's lane. -/
theorem lane_eq (a : (⟨4, ![1, 8192, 4, 64]⟩ : Shape).Idx → EReal) (r : Fin 16) (h n : Fin 4) (i : Fin 128) (c : Fin 64)
    (p : Fin 8192) (hp : p.val = 16 * (128 * n.val + i.val) + r.val) :
    a (ix4 0 p h c) = lane a r.val (128 * n.val + i.val) (64 * h.val + c.val) := by
  have H : r.val < 16 ∧ 128 * n.val + i.val < 512 ∧ 64 * h.val + c.val < 256 := by omega
  have h1 : h.val = (64 * h.val + c.val) / 64 := by omega
  have h2 : c.val = (64 * h.val + c.val) % 64 := by omega
  unfold lane
  rw [dif_pos H]
  exact congrArg a (ix4_ext _ _ _ _ _ _ _ _ rfl hp h1 h2)
/-- The same for an array without channels. -/
theorem col_eq (a : (⟨3, ![1, 8192, 4]⟩ : Shape).Idx → EReal) (r : Fin 16) (h n : Fin 4) (i : Fin 128)
    (p : Fin 8192) (hp : p.val = 16 * (128 * n.val + i.val) + r.val) :
    a (ix3 0 p h) = col a r.val (128 * n.val + i.val) h.val := by
  have H : r.val < 16 ∧ 128 * n.val + i.val < 512 ∧ h.val < 4 := by omega
  unfold col
  rw [dif_pos H]
  exact congrArg a (ix3_ext _ _ _ _ _ _ rfl hp rfl)

/-- Row `j` of the window of block `n`: the block before in front, zeros before the first. -/
def win (k : ℕ → ℕ → EReal) (n j l : ℕ) : EReal :=
  if j < 128 then if n < 1 then 0 else k (128 * (n - 1) + j) l else k (128 * n + (j - 128)) l
/-- Row `j` of the window is within reach of query `i`. -/
def Reach (n i j : ℕ) : Prop := i ≤ j ∧ j ≤ i + 128 ∧ ¬(n = 0 ∧ j < 128)
/-- Reach is decidable. -/
instance (n i j : ℕ) : Decidable (Reach n i j) := by unfold Reach; infer_instance

/-- The number of rows from a window row to the query, as the programs compute it in words. -/
def steps (i j : ℕ) : BitVec 32 := IntOp.subi (IntOp.addi (BitVec.ofNat 32 i) 128#32) (BitVec.ofNat 32 j)
/-- The word's integer. -/
theorem steps_toInt (i : Fin 128) (j : Fin 256) : (steps i.val j.val).toInt = (i.val : ℤ) + 128 - j.val := by
  have hi := i.isLt
  have hj := j.isLt
  simp only [steps, IntOp.subi, IntOp.addi, BitVec.toInt_sub, BitVec.toInt_add, BitVec.toInt_ofNat', Int.bmod]
  omega
/-- The bits that say a window row is within reach of the query. -/
theorem reach_bits (n : Fin 4) (i : Fin 128) (j : Fin 256) :
    IntOp.andi (IntOp.andi (IntOp.cmpi CmpIPredicate.sge (steps i.val j.val) 0#32) (IntOp.cmpi CmpIPredicate.sle (steps i.val j.val) 128#32))
      (~~~IntOp.andi (IntOp.cmpi CmpIPredicate.eq (BitVec.ofNat 32 n.val) 0#32) (IntOp.cmpi CmpIPredicate.slt (BitVec.ofNat 32 j.val) 128#32))
      = BitVec.ofBool (decide (Reach n.val i.val j.val)) := by
  have hi := i.isLt
  have hj := j.isLt
  have hn : (BitVec.ofNat 32 n.val == 0#32) = decide (n.val = 0) := by revert n; decide +kernel
  have hb : (BitVec.ofNat 32 j.val).slt 128#32 = decide (j.val < 128) := by revert j; decide +kernel
  have h1 : (0#32).sle (steps i.val j.val) = decide (j.val ≤ i.val + 128) := by
    rw [Bool.eq_iff_iff, BitVec.sle_iff_toInt_le, steps_toInt, decide_eq_true_iff, show (0#32).toInt = 0 from rfl]; omega
  have h2 : (steps i.val j.val).sle 128#32 = decide (i.val ≤ j.val) := by
    rw [Bool.eq_iff_iff, BitVec.sle_iff_toInt_le, steps_toInt, decide_eq_true_iff, show (128#32).toInt = 128 from rfl]; omega
  have hnot (b : Bool) : ~~~BitVec.ofBool b = BitVec.ofBool (!b) := by cases b <;> rfl
  simp only [IntOp.andi, IntOp.cmpi, hn, hb, h1, h2, BitVec.ofBool_and_ofBool, hnot]
  refine congrArg BitVec.ofBool ?_
  unfold Reach
  by_cases a : i.val ≤ j.val <;> by_cases b : j.val ≤ i.val + 128 <;> by_cases c : n.val = 0 <;> by_cases d : j.val < 128 <;> simp [a, b, c, d]
/-- The bits that say a window row is no further from the query than the band is wide. -/
theorem band_bits (i : Fin 128) (j : Fin 256) :
    IntOp.andi (IntOp.cmpi CmpIPredicate.sge (steps i.val j.val) 0#32) (IntOp.cmpi CmpIPredicate.sle (steps i.val j.val) 128#32)
      = BitVec.ofBool (decide (i.val ≤ j.val ∧ j.val ≤ i.val + 128)) := by
  have h1 : (0#32).sle (steps i.val j.val) = decide (j.val ≤ i.val + 128) := by
    rw [Bool.eq_iff_iff, BitVec.sle_iff_toInt_le, steps_toInt, decide_eq_true_iff, show (0#32).toInt = 0 from rfl]; omega
  have h2 : (steps i.val j.val).sle 128#32 = decide (i.val ≤ j.val) := by
    rw [Bool.eq_iff_iff, BitVec.sle_iff_toInt_le, steps_toInt, decide_eq_true_iff, show (128#32).toInt = 128 from rfl]; omega
  simp only [IntOp.andi, IntOp.cmpi, h1, h2, BitVec.ofBool_and_ofBool]
  refine congrArg BitVec.ofBool ?_
  by_cases a : i.val ≤ j.val <;> by_cases b : j.val ≤ i.val + 128 <;> simp [a, b]
/-- The distance in positions, as an integer. -/
theorem dist_toInt (i : Fin 128) (j : Fin 256) :
    (IntOp.muli (IntOp.maxsi (steps i.val j.val) 0#32) 16#32).toInt = max ((i.val : ℤ) + 128 - j.val) 0 * 16 := by
  have hi := i.isLt
  have hj := j.isLt
  have h0 : (0#32).toInt = 0 := rfl
  have h16 : (16#32).toInt = 16 := rfl
  unfold IntOp.maxsi IntOp.muli
  rw [BitVec.toInt_mul, h16]
  by_cases hs : (i.val : ℤ) + 128 - j.val > 0
  · rw [if_pos (by rw [BitVec.slt_iff_toInt_lt, h0, steps_toInt]; exact hs), steps_toInt, max_eq_left hs.le]
    simp only [Int.bmod]; omega
  · rw [if_neg (by rw [BitVec.slt_iff_toInt_lt, h0, steps_toInt]; exact hs), h0, max_eq_right (by omega)]
    rfl

/-- The slope of a head. -/
def slope (h : ℕ) : ℝ := if h < 1 then 1 / 32 else if h - 1 < 1 then 1 / 64 else if h - 1 - 1 < 1 then 1 / 128 else 1 / 256
/-- The bias of a query and a window row: the slope times the distance in positions, negated. -/
def bias (h i j : ℕ) : ℝ := -(slope h * ((max ((i : ℤ) + 128 - j) 0 * 16 : ℤ) : ℝ))

/-- The word is one eighth. -/
theorem ofBits_eighth : Ideal.ofBits FTy.f32 1040187392#32 = ((1 / 8 : ℝ) : EReal) := by simp [Ideal.ofBits, Ideal.ieee, -EReal.coe_mul]; norm_num
/-- The word is one over 32. -/
theorem ofBits_32 : Ideal.ofBits FTy.f32 1023410176#32 = ((1 / 32 : ℝ) : EReal) := by simp [Ideal.ofBits, Ideal.ieee, -EReal.coe_mul]; norm_num
/-- The word is one over 64. -/
theorem ofBits_64 : Ideal.ofBits FTy.f32 1015021568#32 = ((1 / 64 : ℝ) : EReal) := by simp [Ideal.ofBits, Ideal.ieee, -EReal.coe_mul]; norm_num
/-- The word is one over 128. -/
theorem ofBits_128 : Ideal.ofBits FTy.f32 1006632960#32 = ((1 / 128 : ℝ) : EReal) := by simp [Ideal.ofBits, Ideal.ieee, -EReal.coe_mul]; norm_num
/-- The word is one over 256. -/
theorem ofBits_256 : Ideal.ofBits FTy.f32 998244352#32 = ((1 / 256 : ℝ) : EReal) := by simp [Ideal.ofBits, Ideal.ieee, -EReal.coe_mul]; norm_num
/-- The word is minus infinity. -/
theorem ofBits_bot : Ideal.ofBits FTy.f32 4286578688#32 = ⊥ := by simp [Ideal.ofBits, Ideal.ieee]
/-- The bias as the programs compute it. -/
theorem bias_eq (h : ℕ) (i : Fin 128) (j : Fin 256) :
    ((-if _h : h < 1 then Ideal.ofBits FTy.f32 1023410176#32 else if _h : h - 1 < 1 then Ideal.ofBits FTy.f32 1015021568#32
      else if _h : h - 1 - 1 < 1 then Ideal.ofBits FTy.f32 1006632960#32 else Ideal.ofBits FTy.f32 998244352#32) : EReal)
      * FloatOps.sitofp (F := Ideal) FTy.f32 (IntOp.muli (IntOp.maxsi (steps i.val j.val) 0#32) 16#32) = ((bias h i.val j.val : ℝ) : EReal) := by
  have e : FloatOps.sitofp (F := Ideal) FTy.f32 (IntOp.muli (IntOp.maxsi (steps i.val j.val) 0#32) 16#32)
      = (((max ((i.val : ℤ) + 128 - j.val) 0 * 16 : ℤ) : ℝ) : EReal) := by
    show (((IntOp.muli (IntOp.maxsi (steps i.val j.val) 0#32) 16#32).toInt : ℝ) : EReal) = _
    rw [dist_toInt]
  have s : (if _h : h < 1 then Ideal.ofBits FTy.f32 1023410176#32 else if _h : h - 1 < 1 then Ideal.ofBits FTy.f32 1015021568#32
      else if _h : h - 1 - 1 < 1 then Ideal.ofBits FTy.f32 1006632960#32 else Ideal.ofBits FTy.f32 998244352#32) = ((slope h : ℝ) : EReal) := by
    unfold slope
    split
    · exact ofBits_32
    split
    · exact ofBits_64
    split
    · exact ofBits_128
    · exact ofBits_256
  rw [e, s, ← EReal.coe_neg, ← EReal.coe_mul]
  unfold bias
  rw [neg_mul]

/-- A choice by a decided bit. -/
theorem pick {α : Type} (b : Prop) [Decidable b] (u w : α) : Scalar.select (BitVec.ofBool (decide b)) u w = if b then u else w := by
  by_cases hb : b <;> simp [hb, Scalar.select]

/-- The masked scores of query `i` of block `n` and head `h`. -/
def score (q k : ℕ → ℕ → EReal) (n h i : ℕ) (j : Fin 256) : EReal :=
  if Reach n i j.val then (∑ c : Fin 64, q (128 * n + i) (64 * h + c.val) * win k n j.val (64 * h + c.val)) * Ideal.ofBits FTy.f32 1040187392#32 + (bias h i j.val : ℝ) else ⊥

end Cert.Lane

end
-- ==== Proof.Ref.lean ====
module

public import proofs.«01_k».proof.Proof.Row
public import proofs.«01_k».proof.Proof.Lane
public import proofs.«01_k».proof.Proof.Gen.ReferenceIdeal.Run
public import Idealize.ShloMosaic.Lib.Pointwise
public import Idealize.ShloMosaic.Lib.Tactic.WordOmega

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen Cert.ReferenceIdeal.Value Cert.Lane

/-- The indices that drop to one row are that row's. -/
theorem fiber5 {m : ℕ} (H : (⟨6, ![1, 16, 4, 4, 128, m]⟩ : Shape).ReducesTo [5] S1x16x4x4x128) (r : Fin 16) (h n : Fin 4) (i : Fin 128) (x : (⟨6, ![1, 16, 4, 4, 128, m]⟩ : Shape).Idx) :
    H.drop x = ix5 0 r h n i ↔ ∃ k : Fin m, ix6 (0 : Fin 1) r h n i k = x := by
  constructor
  · intro e
    refine ⟨x 5, ?_⟩
    funext a
    match a with
    | ⟨0, _⟩ => exact Subsingleton.elim (α := Fin 1) _ _
    | ⟨1, _⟩ => exact (congrFun e (1 : Fin 5)).symm
    | ⟨2, _⟩ => exact (congrFun e (2 : Fin 5)).symm
    | ⟨3, _⟩ => exact (congrFun e (3 : Fin 5)).symm
    | ⟨4, _⟩ => exact (congrFun e (4 : Fin 5)).symm
    | ⟨5, _⟩ => rfl
  · rintro ⟨k, rfl⟩
    funext b
    match b with
    | ⟨0, _⟩ => rfl
    | ⟨1, _⟩ => rfl
    | ⟨2, _⟩ => rfl
    | ⟨3, _⟩ => rfl
    | ⟨4, _⟩ => rfl
/-- A sum along the last axis. -/
theorem sum5 {m : ℕ} (H : (⟨6, ![1, 16, 4, 4, 128, m]⟩ : Shape).ReducesTo [5] S1x16x4x4x128) (r : Fin 16) (h n : Fin 4) (i : Fin 128) (v : (⟨6, ![1, 16, 4, 4, 128, m]⟩ : Shape).Idx → EReal) (b : EReal) :
    Ideal.hostReduceAdd H v b (ix5 0 r h n i) = b + ∑ k, v (ix6 (0 : Fin 1) r h n i k) :=
  congrArg (b + ·) (Finset.sum_filter_eq_sum_of_fiber _ (fun k : Fin m => ix6 (0 : Fin 1) r h n i k) (fun _ _ e => congrFun e 5) (fiber5 H r h n i) v)
/-- The largest along the last axis. -/
theorem max5 {m : ℕ} (H : (⟨6, ![1, 16, 4, 4, 128, m]⟩ : Shape).ReducesTo [5] S1x16x4x4x128) (r : Fin 16) (h n : Fin 4) (i : Fin 128) (v : (⟨6, ![1, 16, 4, 4, 128, m]⟩ : Shape).Idx → EReal) (b : EReal) :
    Finset.fold max b v (Finset.univ.filter fun x => H.drop x = ix5 0 r h n i) = Finset.univ.fold max b fun k => v (ix6 (0 : Fin 1) r h n i k) :=
  Finset.fold_filter_eq_fold_of_fiber max _ (fun k : Fin m => ix6 (0 : Fin 1) r h n i k) (fun _ _ e => congrFun e 5) (fiber5 H r h n i) b v
/-- A sum over two axes of one element each. -/
theorem sum05 (H : (⟨6, ![1, 16, 4, 4, 128, 1]⟩ : Shape).ReducesTo [0, 5] S16x4x4x128) (r : Fin 16) (h n : Fin 4) (i : Fin 128) (v : (⟨6, ![1, 16, 4, 4, 128, 1]⟩ : Shape).Idx → EReal) (b : EReal) :
    Ideal.hostReduceAdd H v b (ix4 r h n i) = b + v (ix6 0 r h n i 0) := by
  refine congrArg (b + ·) ((Finset.sum_filter_eq_sum_of_fiber _ (fun _ : Fin 1 => (ix6 0 r h n i 0 : (⟨6, ![1, 16, 4, 4, 128, 1]⟩ : Shape).Idx)) (fun _ _ _ => Subsingleton.elim _ _) (fun x => ?_) v).trans (by simp))
  constructor
  · intro e
    refine ⟨0, ?_⟩
    funext a
    match a with
    | ⟨0, _⟩ => exact Subsingleton.elim (α := Fin 1) _ _
    | ⟨1, _⟩ => exact (congrFun e (0 : Fin 4)).symm
    | ⟨2, _⟩ => exact (congrFun e (1 : Fin 4)).symm
    | ⟨3, _⟩ => exact (congrFun e (2 : Fin 4)).symm
    | ⟨4, _⟩ => exact (congrFun e (3 : Fin 4)).symm
    | ⟨5, _⟩ => exact Subsingleton.elim (α := Fin 1) _ _
  · rintro ⟨k, rfl⟩
    funext b
    match b with
    | ⟨0, _⟩ => rfl
    | ⟨1, _⟩ => rfl
    | ⟨2, _⟩ => rfl
    | ⟨3, _⟩ => rfl

variable (V : Valuation τ sig (Elt Ideal))

/-- The queries of one residue by row and lane. -/
abbrev q (r : ℕ) : ℕ → ℕ → EReal := lane (V (Proc.devRef .tc main_arg0)) r
/-- The keys. -/
abbrev k (r : ℕ) : ℕ → ℕ → EReal := lane (V (Proc.devRef .tc main_arg1)) r
/-- The values. -/
abbrev v (r : ℕ) : ℕ → ℕ → EReal := lane (V (Proc.devRef .tc main_arg2)) r
/-- The cotangents of the weighted means. -/
abbrev g (r : ℕ) : ℕ → ℕ → EReal := lane (V (Proc.devRef .tc main_arg3)) r
/-- The cotangents of the logarithms. -/
abbrev dl (r : ℕ) : ℕ → ℕ → EReal := col (V (Proc.devRef .tc main_arg4)) r

/-- The queries by blocks. -/
theorem v1_at (r : Fin 16) (h n : Fin 4) (i : Fin 128) (c : Fin 64) :
    res_main_v1 V (ix6 0 r h n i c) = q V r (128 * n.val + i.val) (64 * h.val + c.val) := by
  pointwise [res_main_v1]
  exact lane_eq _ r h n i c _ (by simp only; omega)
/-- The keys by blocks. -/
theorem v3_at (r : Fin 16) (h n : Fin 4) (i : Fin 128) (c : Fin 64) :
    res_main_v3 V (ix6 0 r h n i c) = k V r (128 * n.val + i.val) (64 * h.val + c.val) := by
  pointwise [res_main_v3]
  exact lane_eq _ r h n i c _ (by simp only; omega)
/-- The values by blocks. -/
theorem v11_at (r : Fin 16) (h n : Fin 4) (i : Fin 128) (c : Fin 64) :
    res_main_v11 V (ix6 0 r h n i c) = v V r (128 * n.val + i.val) (64 * h.val + c.val) := by
  pointwise [res_main_v11]
  exact lane_eq _ r h n i c _ (by simp only; omega)
/-- The cotangents of the means by blocks. -/
theorem v99_at (r : Fin 16) (h n : Fin 4) (i : Fin 128) (c : Fin 64) :
    res_main_v99 V (ix6 0 r h n i c) = g V r (128 * n.val + i.val) (64 * h.val + c.val) := by
  pointwise [res_main_v99]
  exact lane_eq _ r h n i c _ (by simp only; omega)
/-- The cotangents of the logarithms by blocks. -/
theorem v100_at (r : Fin 16) (h n : Fin 4) (i : Fin 128) :
    res_main_v100 V (ix6 0 r h n i 0) = dl V r (128 * n.val + i.val) h.val := by
  pointwise [res_main_v100]
  exact col_eq _ r h n i _ (by simp only; omega)

/-- A window of keys: the block before and the own block. -/
theorem v9_at (r : Fin 16) (h n : Fin 4) (j : Fin 256) (c : Fin 64) :
    res_main_v9 V (ix6 0 r h n j c) = win (k V r) n.val j.val (64 * h.val + c.val) := by
  pointwise [res_main_v9]
  simp only [v3_at, win]
  split <;> [split; skip] <;> rfl
/-- A window of values. -/
theorem v17_at (r : Fin 16) (h n : Fin 4) (j : Fin 256) (c : Fin 64) :
    res_main_v17 V (ix6 0 r h n j c) = win (v V r) n.val j.val (64 * h.val + c.val) := by
  pointwise [res_main_v17]
  simp only [v11_at, win]
  split <;> [split; skip] <;> rfl

/-- How many steps a key lies before a query. -/
theorem v29_at (i : Fin 128) (j : Fin 256) : res_main_v29 V (ix2 i j) = steps i.val j.val := by
  pointwise [res_main_v29]; rfl
/-- Which keys a query reaches. -/
theorem v70_1_at (r : Fin 16) (h n : Fin 4) (i : Fin 128) (j : Fin 256) :
    res_main_v70_1 V (ix6 0 r h n i j) = BitVec.ofBool (decide (Reach n.val i.val j.val)) := by
  pointwise [res_main_v70_1]
  rw [v29_at]
  exact reach_bits n i j

/-- The scores of one query. -/
abbrev Z (r n h i : ℕ) : Fin 256 → EReal := score (q V r) (k V r) n h i
/-- The values of its window. -/
abbrev W (r n h : ℕ) (j : Fin 256) (c : Fin 64) : EReal := win (v V r) n j.val (64 * h + c.val)
/-- Its cotangent. -/
abbrev G (r n h i : ℕ) (c : Fin 64) : EReal := g V r (128 * n + i) (64 * h + c.val)

/-- The scores. -/
theorem v70_0_at (r : Fin 16) (h n : Fin 4) (i : Fin 128) (j : Fin 256) :
    res_main_v70_0 V (ix6 0 r h n i j) = Z V r n h i j := by
  pointwise [res_main_v70_0]
  simp only [v70_1_at, v1_at, v9_at, v29_at, pick, bias_eq]
  show _ = score _ _ _ _ _ _
  unfold score
  refine if_congr Iff.rfl rfl ?_
  exact ofBits_bot
/-- The greatest score of a query. -/
theorem v71_at (r : Fin 16) (h n : Fin 4) (i : Fin 128) : res_main_v71 V (ix5 0 r h n i) = Row.top (Z V r n h i) := by
  pointwise [res_main_v71]
  rw [ofBits_bot]
  refine (max5 _ r h n i _ _).trans ?_
  simp only [v70_0_at]
  rfl
/-- The share of each key in the maximum. -/
theorem v75_at (r : Fin 16) (h n : Fin 4) (i : Fin 128) (j : Fin 256) :
    res_main_v75 V (ix6 0 r h n i j) = Row.tie (Z V r n h i) j := by
  pointwise [res_main_v75]
  rw [v70_0_at, v71_at]
  unfold Row.tie
  by_cases e : Z V r n h i j = Row.top (Z V r n h i)
  · rw [if_pos e]
    show (((BitVec.ofBool (decide (Z V r n h i j = Row.top (Z V r n h i)))).toNat : ℝ) : EReal) = 1
    rw [decide_eq_true e]; simp
  · rw [if_neg e]
    show (((BitVec.ofBool (decide (Z V r n h i j = Row.top (Z V r n h i)))).toNat : ℝ) : EReal) = 0
    rw [decide_eq_false e]; simp
/-- The greatest score, kept with its axis. -/
theorem v77_at (r : Fin 16) (h n : Fin 4) (i : Fin 128) : res_main_v77 V (ix6 0 r h n i 0) = Row.top (Z V r n h i) := by
  pointwise [res_main_v77]
  rw [v71_at]
/-- The exponentials. -/
theorem v80_at (r : Fin 16) (h n : Fin 4) (i : Fin 128) (j : Fin 256) :
    res_main_v80 V (ix6 0 r h n i j) = Row.e (Z V r n h i) j := by
  pointwise [res_main_v80]
  rw [v70_0_at, v77_at]
  rfl
/-- The sum of the exponentials. -/
theorem v82_at (r : Fin 16) (h n : Fin 4) (i : Fin 128) : res_main_v82 V (ix6 0 r h n i 0) = Row.den (Z V r n h i) := by
  pointwise [res_main_v82]
  rw [sum5, zero_add]
  simp only [v80_at]
  rfl
/-- The weighted sum of the values before the division. -/
theorem v83_at (r : Fin 16) (h n : Fin 4) (i : Fin 128) (c : Fin 64) :
    res_main_v83 V (ix6 0 r h n i c) = Row.num (Z V r n h i) (W V r n h) c := by
  pointwise [res_main_v83]
  simp only [v80_at, v17_at]
  rfl
/-- The cotangent of the weighted sum. -/
theorem v110_at (r : Fin 16) (h n : Fin 4) (i : Fin 128) (c : Fin 64) :
    res_main_v110 V (ix6 0 r h n i c) = Ideal.div (G V r n h i c) (Row.den (Z V r n h i)) := by
  pointwise [res_main_v110]
  rw [v99_at, v82_at]
/-- The cotangent of the exponentials. -/
theorem v118_at (r : Fin 16) (h n : Fin 4) (i : Fin 128) (j : Fin 256) :
    res_main_v118 V (ix6 0 r h n i j) = Row.back (Z V r n h i) (W V r n h) (G V r n h i) (dl V r (128 * n.val + i.val) h.val) j := by
  pointwise [res_main_v118]
  rw [sum05, zero_add]
  pointwise
  rw [sum5, zero_add]
  pointwise
  simp only [v110_at, v17_at, v80_at, v100_at, v82_at, v99_at, v83_at]
  rfl
/-- The cotangent of the scores. -/
theorem v131_at (r : Fin 16) (h n : Fin 4) (i : Fin 128) (j : Fin 256) :
    res_main_v131 V (ix6 0 r h n i j)
      = if Reach n.val i.val j.val then Row.ds (Z V r n h i) (W V r n h) (G V r n h i) (dl V r (128 * n.val + i.val) h.val) j * Ideal.ofBits FTy.f32 1040187392#32 else 0 := by
  pointwise [res_main_v131]
  rw [sum05, zero_add, sum5, zero_add]
  pointwise
  rw [sum5, zero_add]
  pointwise
  simp only [v118_at, v75_at, v100_at, v70_1_at, pick]
  rfl

/-- The gradient of the scores. -/
def DS (r n h i : ℕ) (j : Fin 256) : EReal :=
  if Reach n i j.val then Row.ds (Z V r n h i) (W V r n h) (G V r n h i) (dl V r (128 * n + i) h) j * Ideal.ofBits FTy.f32 1040187392#32 else 0
/-- The gradient of the queries. -/
def dq (r n h i c : ℕ) : EReal := ∑ j : Fin 256, DS V r n h i j * win (k V r) n j.val (64 * h + c)
/-- What block `n` gives row `j` of its window of keys. -/
def dk (r n h : ℕ) (j : Fin 256) (c : ℕ) : EReal := ∑ i : Fin 128, DS V r n h i.val j * q V r (128 * n + i.val) (64 * h + c)
/-- What block `n` gives row `j` of its window of values. -/
def dv (r n h : ℕ) (j : Fin 256) (c : ℕ) : EReal :=
  ∑ i : Fin 128, Ideal.div (g V r (128 * n + i.val) (64 * h + c)) (Row.den (Z V r n h i.val)) * Row.e (Z V r n h i.val) j

/-- A row of keys or values gets the block's own part and the next block's. -/
def both (D : ℕ → Fin 256 → EReal) (n : ℕ) (i : Fin 128) : EReal :=
  D n ⟨128 + i.val, by omega⟩ + if n < 3 then D (n + 1) ⟨i.val, by omega⟩ else 0

/-- The keys' gradient by window row. -/
theorem v132_at (r : Fin 16) (h n : Fin 4) (j : Fin 256) (c : Fin 64) :
    res_main_v132 V (ix6 0 r h n j c) = dk V r n h j c := by
  pointwise [res_main_v132]
  simp only [v131_at, v1_at]
  rfl
/-- The values' gradient by window row. -/
theorem v112_at (r : Fin 16) (h n : Fin 4) (j : Fin 256) (c : Fin 64) :
    res_main_v112 V (ix6 0 r h n j c) = dv V r n h j c := by
  pointwise [res_main_v112]
  simp only [v110_at, v80_at]
  rfl

/-- The head-first blocks of one operand laid out by residue, row and lane. -/
def packed (x : FVec Ideal S1x16x4x4x128x64 .f32) : FVec Ideal S16x512x256 .f32 :=
  transpose S16x512x256 [1, 0, 2] (shapeCast _ (shapeCast S1x8192x4x64 (transpose S1x4x128x16x4x64 [0, 3, 4, 1, 2, 5] x transposes_S1x16x4x4x128x64_S1x4x128x16x4x64_0_3_4_1_2_5) shapeCasts_S1x4x128x16x4x64_S1x8192x4x64) shapeCasts_S1x8192x4x64_S512x16x256) transposes_S512x16x256_S16x512x256_1_0_2
/-- The packed layout at an index. -/
theorem packed_at (x : FVec Ideal S1x16x4x4x128x64 .f32) (r : Fin 16) (s : Fin 512) (l : Fin 256) :
    packed x (ix3 r s l) = x (ix6 0 r ⟨l.val / 64, by omega⟩ ⟨s.val / 128, by omega⟩ ⟨s.val % 128, by omega⟩ ⟨l.val % 64, by omega⟩) := by
  pointwise [packed]
/-- A block's rows get its own part of its window and the next block's. -/
def ownNext (x : FVec Ideal S1x16x4x4x256x64 .f32) : FVec Ideal S1x16x4x4x128x64 .f32 :=
  addf (extractStridedSlice S1x16x4x4x128x64 ![0, 0, 0, 0, 128, 0] x slices_S1x16x4x4x256x64_S1x16x4x4x128x64_0_0_0_0_128_0) (pad S1x16x4x4x128x64 ![0, 0, 0, 0, 0, 0] ![0, 0, 0, 1, 0, 0] ![0, 0, 0, 0, 0, 0] (extractStridedSlice S1x16x4x3x128x64 ![0, 0, 0, 1, 0, 0] (extractStridedSlice S1x16x4x4x128x64 ![0, 0, 0, 0, 0, 0] x slices_S1x16x4x4x256x64_S1x16x4x4x128x64_0_0_0_0_0_0) slices_S1x16x4x4x128x64_S1x16x4x3x128x64_0_0_0_1_0_0) (constant S_ .f32 0x00000000#32) pads_S1x16x4x3x128x64_S1x16x4x4x128x64_000_000_000_010_000_000 h_S_)
/-- A block's gradient: from its own window and from the next one's. -/
theorem ownNext_at (x : FVec Ideal S1x16x4x4x256x64 .f32) (r : Fin 16) (h n : Fin 4) (i : Fin 128) (c : Fin 64) :
    ownNext x (ix6 0 r h n i c) = x (ix6 0 r h n ⟨128 + i.val, by omega⟩ c) + if h3 : n.val < 3 then x (ix6 0 r h ⟨1 + n.val, by omega⟩ ⟨i.val, by omega⟩ c) else 0 := by
  pointwise [ownNext]

/-- The gradient of the queries, head first. -/
def allDq : FVec Ideal S1x16x4x4x128x64 .f32 :=
  Host.dotGeneral (φ₁ := .f32) (φ₂ := .f32) dot_S1x16x4x4x128x256_S1x16x4x4x256x64_S1x16x4x4x128x64_5_4_4_5_0123_0123 none (res_main_v131 V) (res_main_v9 V)
/-- The queries' gradient. -/
theorem allDq_at (r : Fin 16) (h n : Fin 4) (i : Fin 128) (c : Fin 64) :
    allDq V (ix6 0 r h n i c) = dq V r n h i c := by
  pointwise [allDq]
  simp only [v131_at, v9_at]
  rfl

/-- A gradient given block by block, each row with its own block's part and the next block's. -/
theorem own_both (x : FVec Ideal S1x16x4x4x256x64 .f32) (D : ℕ → ℕ → ℕ → Fin 256 → ℕ → EReal)
    (hx : ∀ (r : Fin 16) (h n : Fin 4) (j : Fin 256) (c : Fin 64), x (ix6 0 r h n j c) = D r.val n.val h.val j c.val)
    (r : Fin 16) (h n : Fin 4) (i : Fin 128) (c : Fin 64) :
    ownNext x (ix6 0 r h n i c) = both (fun n j => D r.val n h.val j c.val) n.val i := by
  rw [ownNext_at]
  unfold both
  refine congrArg₂ (· + ·) (hx _ _ _ _ _) ?_
  by_cases h3 : n.val < 3
  · rw [dif_pos h3, if_pos h3, hx, add_comm n.val 1]
  · rw [dif_neg h3, if_neg h3]

/-- The reference's result is the three packed gradients side by side. -/
theorem result_eq : val4 V (Proc.devRef .tc main_v159) = truncf .bf16 ((concatenate S16x512x768 2 [⟨S16x512x256, packed (allDq V)⟩,
    ⟨S16x512x256, packed (ownNext (res_main_v132 V))⟩, ⟨S16x512x256, packed (ownNext (res_main_v112 V))⟩] concatenates_S16x512x256_S16x512x256_S16x512x256_S16x512x768_d2 : FVec Ideal S16x512x768 .f32)) bitsLt_bf16_f32 :=
  (val4_main_v159 V).trans rfl

/-- The reference's result by residue, row and lane. -/
def out (r s l : ℕ) : EReal :=
  if l < 256 then dq V r (s / 128) (l / 64) (s % 128) (l % 64)
  else if h : l < 512 then both (fun n j => dk V r n ((l - 256) / 64) j ((l - 256) % 64)) (s / 128) ⟨s % 128, by omega⟩
  else both (fun n j => dv V r n ((l - 512) / 64) j ((l - 512) % 64)) (s / 128) ⟨s % 128, by omega⟩

/-- The reference's result at an index. -/
theorem result_at (r : Fin 16) (s : Fin 512) (l : Fin 768) :
    val4 V (Proc.devRef .tc main_v159) (ix3 r s l) = out V r.val s.val l.val := by
  rw [result_eq]
  pointwise
  unfold out
  have hl := l.isLt
  split
  · exact (packed_at _ _ _ _).trans (allDq_at V _ _ _ _ _)
  split
  · rename_i h1 h2
    have H : l.val < 512 := by omega
    rw [dif_pos H]
    exact (packed_at _ _ _ _).trans (own_both _ (dk V) (v132_at V) _ _ _ _ _)
  · rename_i h1 h2
    have H : ¬ l.val < 512 := by omega
    rw [dif_neg H]
    have e : l.val - 256 - 256 = l.val - 512 := by omega
    refine ((packed_at _ _ _ _).trans (own_both _ (dv V) (v112_at V) _ _ _ _ _)).trans ?_
    simp only [e]

end Cert.ReferenceIdeal.Stage

end
-- ==== Proof.Saved.lean ====
module

public import proofs.«01_k».proof.Proof.Ref

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen Cert.ReferenceIdeal.Value Cert.Lane

variable (V : Valuation τ sig (Elt Ideal))

/-- The saved weighted means. -/
def means : FVec Ideal S1x8192x4x64 .f32 :=
  shapeCast _ (transpose S1x4x128x16x4x64 [0, 3, 4, 1, 2, 5] (Host.divf (φ := .f32) (res_main_v83 V) (broadcastInDim S1x16x4x4x128x64 ![0, 1, 2, 3, 4, 5] bcast_S1x16x4x4x128x1_S1x16x4x4x128x64_0_1_2_3_4_5 (res_main_v82 V))) transposes_S1x16x4x4x128x64_S1x4x128x16x4x64_0_3_4_1_2_5) shapeCasts_S1x4x128x16x4x64_S1x8192x4x64
/-- The logarithms of the weights' sums, head first. -/
def logs5 : FVec Ideal S1x16x4x4x128 .f32 :=
  shapeCast S1x16x4x4x128 (addf (φ := .f32) (res_main_v77 V) (Host.log (φ := .f32) (res_main_v82 V))) shapeCasts_S1x16x4x4x128x1_S1x16x4x4x128
/-- The saved logarithms. -/
def logs : FVec Ideal S1x8192x4 .f32 :=
  shapeCast _ (transpose S1x4x128x16x4 [0, 3, 4, 1, 2] (logs5 V) transposes_S1x16x4x4x128_S1x4x128x16x4_0_3_4_1_2) shapeCasts_S1x4x128x16x4_S1x8192x4
/-- A sum with a logarithm, read without its last axis. -/
theorem drop_at (x y : FVec Ideal S1x16x4x4x128x1 .f32) (r : Fin 16) (h n : Fin 4) (i : Fin 128) :
    (shapeCast S1x16x4x4x128 (addf x (Host.log y)) shapeCasts_S1x16x4x4x128x1_S1x16x4x4x128 : FVec Ideal S1x16x4x4x128 .f32) (ix5 0 r h n i)
      = (x (ix6 0 r h n i 0) : EReal) + Ideal.log (y (ix6 0 r h n i 0)) := by
  pointwise
/-- The logarithm of a query's sum, by blocks. -/
theorem logs5_at (r : Fin 16) (h n : Fin 4) (i : Fin 128) : logs5 V (ix5 0 r h n i) = Row.lse (Z V r n h i) := by
  unfold logs5 Row.lse
  rw [drop_at, v77_at, v82_at]
/-- The saved means at a position, head and channel. -/
theorem means_at (p : Fin 8192) (h : Fin 4) (x : Fin 64) : means V (ix4 0 p h x)
    = Ideal.div (Row.num (Z V (p.val % 16) (p.val / 2048) h.val (p.val / 16 % 128)) (W V (p.val % 16) (p.val / 2048) h.val) x)
        (Row.den (Z V (p.val % 16) (p.val / 2048) h.val (p.val / 16 % 128))) := by
  pointwise [means]
  rw [v83_at, v82_at]
/-- The saved logarithms at a position and head. -/
theorem logs_at (p : Fin 8192) (h : Fin 4) : logs V (ix3 0 p h) = Row.lse (Z V (p.val % 16) (p.val / 2048) h.val (p.val / 16 % 128)) := by
  pointwise [logs]
  rw [logs5_at]
end Cert.ReferenceIdeal.Stage

end
-- ==== Proof.Host.lean ====
module

public import proofs.«01_k».proof.Proof.Saved
public import proofs.«01_k».proof.Proof.Out
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem

namespace Cert.KernelIdeal.Host

open Cert.KernelIdeal Cert.KernelIdeal.Gen Cert.Lane Cert.ReferenceIdeal.Value Cert.ReferenceIdeal.Stage

variable (m : (ℓ : Loc nD τ sig) → Buf (Elt Ideal) ℓ) (c : Dev nD) (V' : Valuation Cert.ReferenceIdeal.τ Cert.ReferenceIdeal.sig (Elt Ideal))

/-- An array laid out by residue, row and lane. -/
def dil (a : FVec Ideal S1x8192x4x64 .f32) : FVec Ideal S16x512x256 .f32 :=
  transpose S16x512x256 [1, 0, 2] (shapeCast _ a shapeCasts_S1x8192x4x64_S512x16x256) transposes_S512x16x256_S16x512x256_1_0_2
/-- The dilated layout at an index: a residue, its row and a lane. -/
theorem dil_at (a : FVec Ideal S1x8192x4x64 .f32) (r : Fin 16) (s : Fin 512) (l : Fin 256) : dil a (ix3 r s l) = lane a r.val s.val l.val := by
  pointwise [dil]
  unfold lane
  have H : r.val < 16 ∧ s.val < 512 ∧ l.val < 256 := ⟨r.isLt, s.isLt, l.isLt⟩
  rw [dif_pos H]
  exact congrArg a (ix4_ext _ _ _ _ _ _ _ _ rfl (by simp only; omega) rfl rfl)
/-- One number per position and head, spread over the head's channels and laid out so. -/
def wide (a : FVec Ideal S1x8192x4 .f32) : FVec Ideal S16x512x256 .f32 :=
  dil (broadcastInDim S1x8192x4x64 ![0, 1, 2, 3] bcast_S1x8192x4x1_S1x8192x4x64_0_1_2_3 (broadcastInDim S1x8192x4x1 ![0, 1, 2] bcast_S1x8192x4_S1x8192x4x1_0_1_2 a))
/-- A number per position and head, repeated over the head's lanes. -/
theorem wide_at (a : FVec Ideal S1x8192x4 .f32) (r : Fin 16) (s : Fin 512) (l : Fin 256) : wide a (ix3 r s l) = col a r.val s.val (l.val / 64) := by
  pointwise [wide, dil]
  unfold col
  have H : r.val < 16 ∧ s.val < 512 ∧ l.val / 64 < 4 := ⟨r.isLt, s.isLt, by have := l.isLt; omega⟩
  rw [dif_pos H]
  exact congrArg a (ix3_ext _ _ _ _ _ _ rfl (by simp only; omega) rfl)

/-- The corrections: the cotangents of the means against the means, less the logarithms' cotangents. -/
def corr (g o : FVec Ideal S1x8192x4x64 .f32) (d : FVec Ideal S1x8192x4 .f32) : FVec Ideal S1x8192x4 .f32 :=
  subf (Host.reduceAdd (mulf g o) (constant S_ .f32 0x00000000#32) reducesTo_S1x8192x4x64_S1x8192x4_d3 h_S_) d
/-- The correction of one query: the dot product of its cotangent and its mean, less the cotangent of its logarithm. -/
theorem corr_at (g o : FVec Ideal S1x8192x4x64 .f32) (d : FVec Ideal S1x8192x4 .f32) (p : Fin 8192) (h : Fin 4) :
    corr g o d (ix3 0 p h) = (∑ x : Fin 64, (g (ix4 0 p h x) * o (ix4 0 p h x) : EReal)) - d (ix3 0 p h) := by
  pointwise [corr]

/-- The reference's arguments are the kernel program's. -/
structure Args : Prop where
  h0 : V' (Proc.devRef .tc Cert.ReferenceIdeal.main_arg0) = m ((c : Thread nD τ).loc main_arg0)
  h1 : V' (Proc.devRef .tc Cert.ReferenceIdeal.main_arg1) = m ((c : Thread nD τ).loc main_arg1)
  h2 : V' (Proc.devRef .tc Cert.ReferenceIdeal.main_arg2) = m ((c : Thread nD τ).loc main_arg2)
  h3 : V' (Proc.devRef .tc Cert.ReferenceIdeal.main_arg3) = m ((c : Thread nD τ).loc main_arg3)
  h4 : V' (Proc.devRef .tc Cert.ReferenceIdeal.main_arg4) = m ((c : Thread nD τ).loc main_arg4)

section Buffers
variable {m c V'} (H : Args m c V')
include H

/-- The packed queries, keys and values. -/
theorem v103_eq : (V m c main_v103 : FVec Ideal S16x512x768 .bf16) = truncf .bf16 ((concatenate S16x512x768 2 [⟨S16x512x256, dil (V' (Proc.devRef .tc Cert.ReferenceIdeal.main_arg0))⟩,
    ⟨S16x512x256, dil (V' (Proc.devRef .tc Cert.ReferenceIdeal.main_arg1))⟩, ⟨S16x512x256, dil (V' (Proc.devRef .tc Cert.ReferenceIdeal.main_arg2))⟩] concatenates_S16x512x256_S16x512x256_S16x512x256_S16x512x768_d2 : FVec Ideal S16x512x768 .f32)) bitsLt_bf16_f32 := by
  unfold V
  rw [H.h0, H.h1, H.h2]
  after_reads_simp
  rfl
/-- The packed cotangents. -/
theorem v109_eq : (V m c main_v109 : FVec Ideal S16x512x256 .bf16) = truncf .bf16 (dil (V' (Proc.devRef .tc Cert.ReferenceIdeal.main_arg3))) bitsLt_bf16_f32 := by
  unfold V
  rw [H.h3]
  after_reads_simp
  rfl
/-- The packed logarithms. -/
theorem v113_eq : (V m c main_v113 : FVec Ideal S16x512x256 .f32) = wide (logs V') := by
  unfold V logs logs5 res_main_v82 res_main_v80 res_main_v77 res_main_v71 res_main_v70_0 res_main_v70_1 res_main_v29 res_main_v1 res_main_v9 res_main_v3
  rw [H.h0, H.h1]
  after_reads_simp
  rfl
/-- The packed corrections. -/
theorem v117_eq : (V m c main_v117 : FVec Ideal S16x512x256 .f32) = wide (corr (V' (Proc.devRef .tc Cert.ReferenceIdeal.main_arg3)) (means V') (V' (Proc.devRef .tc Cert.ReferenceIdeal.main_arg4))) := by
  unfold V corr means res_main_v83 res_main_v82 res_main_v80 res_main_v77 res_main_v71 res_main_v70_0 res_main_v70_1 res_main_v29 res_main_v1 res_main_v9 res_main_v3 res_main_v17 res_main_v11
  rw [H.h0, H.h1, H.h2, H.h3, H.h4]
  after_reads_simp
  rfl

omit H in
/-- The bias table. -/
theorem v146_at (h : Fin 4) (i : Fin 128) (j : Fin 256) (p : Fin 512) (hp : p.val = 128 * h.val + i.val) :
    V m c main_v146 (ix2 p j) = if i.val ≤ j.val ∧ j.val ≤ i.val + 128 then ((bias h.val i.val j.val : ℝ) : EReal) else ⊥ := by
  have h1 : p.val % 128 = i.val := by omega
  have h2 : p.val / 128 = h.val := by omega
  unfold V
  after_reads_at
  simp only [h1, h2]
  after_reads_at
  have e := bias_eq h.val i j
  have b := band_bits i j
  unfold steps at e b
  rw [b, pick, e]
  exact if_congr Iff.rfl rfl ofBits_bot

end Buffers

end Cert.KernelIdeal.Host

end
-- ==== Proof.Match.lean ====
module

public import proofs.«01_k».proof.Proof.Out
public import proofs.«01_k».proof.Proof.Ref

@[expose] public section

set_option maxRecDepth 16384

noncomputable section

open Idealize.ShloMosaic Idealize.ShloMosaic.TcCoe Idealize.SL.Sem

namespace Cert.Match

open Cert.KernelIdeal.Block Cert.Lane Cert.ReferenceIdeal.Stage

variable (I : Inp) (V : Valuation Cert.ReferenceIdeal.τ Cert.ReferenceIdeal.sig (Elt Ideal)) (r : ℕ)

/-- What a grid point reads is residue `r` of the reference's arguments and saved values. -/
structure Agree : Prop where
  q : ∀ s l, s < 512 → l < 256 → I.q s l = Cert.ReferenceIdeal.Stage.q V r s l
  k : ∀ s l, s < 512 → l < 256 → I.k s l = Cert.ReferenceIdeal.Stage.k V r s l
  v : ∀ s l, s < 512 → l < 256 → I.v s l = Cert.ReferenceIdeal.Stage.v V r s l
  g : ∀ s l, s < 512 → l < 256 → I.g s l = Cert.ReferenceIdeal.Stage.g V r s l
  kp : ∀ s l, s < 128 → l < 256 → I.kp s l = Cert.ReferenceIdeal.Stage.k V r s l
  vp : ∀ s l, s < 128 → l < 256 → I.vp s l = Cert.ReferenceIdeal.Stage.v V r s l
  l : ∀ n h i, n < 4 → h < 4 → i < 128 → I.l (128 * n + i) (64 * h) = Row.lse (Z V r n h i)
  c : ∀ n h i, n < 4 → h < 4 → i < 128 → I.c (128 * n + i) (64 * h)
    = (∑ c : Fin 64, G V r n h i c * Ideal.div (Row.num (Z V r n h i) (W V r n h) c) (Row.den (Z V r n h i))) - dl V r (128 * n + i) h
  b : ∀ h i j, h < 4 → i < 128 → j < 256 → I.b (128 * h + i) j = if i ≤ j ∧ j ≤ i + 128 then ((bias h i j : ℝ) : EReal) else ⊥

/-- The reference's arguments are real numbers. -/
structure Reals : Prop where
  q : ∀ s l, ∃ x : ℝ, Cert.ReferenceIdeal.Stage.q V r s l = x
  k : ∀ s l, ∃ x : ℝ, Cert.ReferenceIdeal.Stage.k V r s l = x
  v : ∀ s l, ∃ x : ℝ, Cert.ReferenceIdeal.Stage.v V r s l = x
  g : ∀ s l, ∃ x : ℝ, Cert.ReferenceIdeal.Stage.g V r s l = x
  dl : ∀ s h, ∃ x : ℝ, Cert.ReferenceIdeal.Stage.dl V r s h = x

/-- The window's rows are real where the array's are. -/
theorem win_real (k : ℕ → ℕ → EReal) (hk : ∀ s l, ∃ x : ℝ, k s l = x) (n j l : ℕ) : ∃ x : ℝ, win k n j l = x := by
  unfold win
  split
  · split
    · exact ⟨0, rfl⟩
    · exact hk _ _
  · exact hk _ _

/-- Every query has a row within reach: its own. -/
theorem reach_self (n i : ℕ) (hi : i < 128) : ∃ j : Fin 256, Reach n i j.val :=
  ⟨⟨128 + i, by omega⟩, by unfold Reach; simp only; omega⟩

variable {I V r}

section
variable (A : Agree I V r)
include A

/-- Where the window row is in the sequence, the kernel's window holds what the reference's does. -/
theorem kk_eq (n j l : ℕ) (hn : n < 4) (hj : j < 256) (hl : l < 256) (h : ¬(n = 0 ∧ j < 128)) : I.kk (128 * n + j) l = win (k V r) n j l := by
  unfold Inp.kk win
  by_cases h1 : j < 128
  · have h2 : ¬ n < 1 := by omega
    have h3 : ¬ 128 * n + j < 128 := by omega
    rw [if_neg h3, if_pos h1, if_neg h2, A.k _ _ (by omega) hl]
    exact congrArg (fun x => k V r x l) (by omega)
  · have h3 : ¬ 128 * n + j < 128 := by omega
    rw [if_neg h3, if_neg h1, A.k _ _ (by omega) hl]
    exact congrArg (fun x => k V r x l) (by omega)
/-- The same for the values. -/
theorem vv_eq (n j l : ℕ) (hn : n < 4) (hj : j < 256) (hl : l < 256) (h : ¬(n = 0 ∧ j < 128)) : I.vv (128 * n + j) l = win (v V r) n j l := by
  unfold Inp.vv win
  by_cases h1 : j < 128
  · have h2 : ¬ n < 1 := by omega
    have h3 : ¬ 128 * n + j < 128 := by omega
    rw [if_neg h3, if_pos h1, if_neg h2, A.v _ _ (by omega) hl]
    exact congrArg (fun x => v V r x l) (by omega)
  · have h3 : ¬ 128 * n + j < 128 := by omega
    rw [if_neg h3, if_neg h1, A.v _ _ (by omega) hl]
    exact congrArg (fun x => v V r x l) (by omega)

/-- The masked scores are the reference's. -/
theorem z_eq (n h i : ℕ) (j : Fin 256) (hn : n < 4) (hh : h < 4) (hi : i < 128) : I.z n h i j.val = Z V r n h i j := by
  have hj := j.isLt
  show I.z n h i j.val = score _ _ n h i j
  unfold Inp.z score
  rw [A.b h i j.val hh hi hj]
  by_cases R : Reach n i j.val
  · have R' := R
    unfold Reach at R'
    rw [if_pos R, if_pos ⟨R'.1, R'.2.1⟩, if_neg R'.2.2, add_zero]
    refine congrArg (fun x : EReal => x * _ + _) (Finset.sum_congr rfl fun c _ => ?_)
    have hc := c.isLt
    rw [A.q _ _ (by omega) (by omega), kk_eq A _ _ _ hn hj (by omega) R'.2.2]
  · rw [if_neg R]
    unfold Reach at R
    by_cases B : i ≤ j.val ∧ j.val ≤ i + 128
    · have B' : n = 0 ∧ j.val < 128 := by omega
      rw [if_pos B, if_pos B', EReal.add_bot, EReal.add_bot]
    · rw [if_neg B, EReal.bot_add, EReal.add_bot]

/-- The weights are the reference row's. -/
theorem p_eq (n h i : ℕ) (j : Fin 256) (hn : n < 4) (hh : h < 4) (hi : i < 128) : I.p n h i j.val = Row.p (Z V r n h i) j := by
  unfold Inp.p Row.p
  rw [z_eq A n h i j hn hh hi, A.l n h i hn hh hi]

variable (F : Reals V r)
include F

/-- The scores within reach are real, the others minus infinity. -/
theorem scores (n h i : ℕ) : ∃ s : Fin 256 → ℝ, ∀ j, Z V r n h i j = if Reach n i j.val then ((s j : ℝ) : EReal) else ⊥ := by
  have H : ∀ j : Fin 256, ∃ x : ℝ, (∑ c : Fin 64, q V r (128 * n + i) (64 * h + c.val) * win (k V r) n j.val (64 * h + c.val)) * Ideal.ofBits FTy.f32 1040187392#32 + ((bias h i j.val : ℝ) : EReal) = x := by
    intro j
    choose Q hQ using F.q
    choose K hK using win_real _ F.k
    simp only [hQ, hK, ofBits_eighth, ← EReal.coe_mul, ← Row.coe_sum, ← EReal.coe_add]
    exact ⟨_, rfl⟩
  choose s hs using H
  refine ⟨s, fun j => ?_⟩
  show score _ _ n h i j = _
  unfold score
  by_cases R : Reach n i j.val
  · rw [if_pos R, if_pos R]; exact hs j
  · rw [if_neg R, if_neg R]

/-- A weight times a cotangent is what differentiation gives. -/
theorem pg_eq (n h i c : ℕ) (j : Fin 256) (hn : n < 4) (hh : h < 4) (hi : i < 128) (hc : c < 64) :
    I.p n h i j.val * I.g (128 * n + i) (64 * h + c) = Ideal.div (g V r (128 * n + i) (64 * h + c)) (Row.den (Z V r n h i)) * Row.e (Z V r n h i) j := by
  obtain ⟨s, hs⟩ := scores A F n h i
  obtain ⟨x, hx⟩ := F.g (128 * n + i) (64 * h + c)
  rw [p_eq A n h i j hn hh hi, A.g _ _ (by omega) (by omega), hx]
  exact Row.p_mul hs (reach_self n i hi) x j

/-- The gradients of the scores are the reference's. -/
theorem ds_eq (n h i : ℕ) (j : Fin 256) (hn : n < 4) (hh : h < 4) (hi : i < 128) : I.ds n h i j.val = DS V r n h i j := by
  obtain ⟨s, hs⟩ := scores A F n h i
  choose vr hv using fun (j : Fin 256) (c : Fin 64) => win_real _ F.v n j.val (64 * h + c.val)
  choose gr hg using fun (c : Fin 64) => F.g (128 * n + i) (64 * h + c.val)
  obtain ⟨d, hd⟩ := F.dl (128 * n + i) h
  have eW : W V r n h = fun j c => ((vr j c : ℝ) : EReal) := funext fun j => funext fun c => hv j c
  have eG : G V r n h i = fun c => ((gr c : ℝ) : EReal) := funext fun c => hg c
  have key := Row.ds_eq hs (reach_self n i hi) vr gr d j
  have hj := j.isLt
  unfold Inp.ds DS
  rw [p_eq A n h i j hn hh hi, A.c n h i hn hh hi, eW, eG, hd]
  unfold Row.dsp at key
  by_cases R : Reach n i j.val
  · have R' := R
    unfold Reach at R'
    rw [if_pos R] at key ⊢
    rw [← key]
    refine congrArg (fun x : EReal => _ * (x - _) * _) (Finset.sum_congr rfl fun c _ => ?_)
    have hc := c.isLt
    rw [A.g _ _ (by omega) (by omega), vv_eq A _ _ _ hn hj (by omega) R'.2.2, hv, hg]
  · rw [if_neg R]
    have hp : Row.p (Z V r n h i) j = 0 := by
      unfold Row.p
      rw [hs j, if_neg R, EReal.bot_sub]
      rfl
    rw [hp, zero_mul, zero_mul]

/-- The gradient of the queries is the reference's. -/
theorem dq_eq (s l : ℕ) (hs : s < 512) (hl : l < 256) : I.dq s l = dq V r (s / 128) (l / 64) (s % 128) (l % 64) := by
  unfold Inp.dq dq
  refine Finset.sum_congr rfl fun j _ => ?_
  have hj := j.isLt
  rw [ds_eq A F _ _ _ j (by omega) (by omega) (by omega)]
  by_cases R : Reach (s / 128) (s % 128) j.val
  · unfold Reach at R
    rw [kk_eq A _ _ _ (by omega) hj hl R.2.2]
    exact congrArg (fun x => _ * win (k V r) (s / 128) j.val x) (by omega)
  · unfold DS
    rw [if_neg R, zero_mul, zero_mul]
/-- What a block gives its window's keys is the reference's. -/
theorem dkb_eq (n l : ℕ) (j : Fin 256) (hn : n < 4) (hl : l < 256) : I.dkb n j.val l = dk V r n (l / 64) j (l % 64) := by
  unfold Inp.dkb dk
  refine Finset.sum_congr rfl fun i _ => ?_
  have hi := i.isLt
  rw [ds_eq A F _ _ _ j hn (by omega) hi, A.q _ _ (by omega) hl]
  exact congrArg (fun x => _ * q V r (128 * n + i.val) x) (by omega)
/-- What a block gives its window's values is the reference's. -/
theorem dvb_eq (n l : ℕ) (j : Fin 256) (hn : n < 4) (hl : l < 256) : I.dvb n j.val l = dv V r n (l / 64) j (l % 64) := by
  unfold Inp.dvb dv
  refine Finset.sum_congr rfl fun i _ => ?_
  have hi := i.isLt
  have e : l = 64 * (l / 64) + l % 64 := by omega
  rw [← pg_eq A F n (l / 64) i.val (l % 64) j hn (by omega) hi (by omega), ← e]
end

/-- The running sum at a row is the row's own block's part and the next block's. -/
theorem run_eq (D : ℕ → ℕ → ℕ → EReal) (E : ℕ → Fin 256 → EReal) (l : ℕ) (h : ∀ n (j : Fin 256), n < 4 → D n j.val l = E n j) (s : ℕ) (hs : s < 512) :
    run D (128 + s) l = both E (s / 128) ⟨s % 128, Nat.mod_lt _ (by omega)⟩ := by
  have e0 := h (s / 128) ⟨128 + s % 128, by omega⟩ (by omega)
  unfold run both
  rw [← e0]
  simp only
  have hn : s / 128 = 0 ∨ s / 128 = 1 ∨ s / 128 = 2 ∨ s / 128 = 3 := by omega
  by_cases h3 : s / 128 < 3
  · rw [if_pos h3, ← h (s / 128 + 1) ⟨s % 128, by omega⟩ (by omega)]
    simp only
    rcases hn with hn | hn | hn | hn
    · have a0 : 0 ≤ 128 + s ∧ 128 + s < 0 + 256 := by omega
      have a1 : 128 ≤ 128 + s ∧ 128 + s < 128 + 256 := by omega
      have a2 : ¬(256 ≤ 128 + s ∧ 128 + s < 256 + 256) := by omega
      have a3 : ¬(384 ≤ 128 + s ∧ 128 + s < 384 + 256) := by omega
      rw [if_pos a0, if_pos a1, if_neg a2, if_neg a3, hn, add_zero, add_zero, zero_add]
      exact congrArg₂ (fun x y => D 0 x l + D 1 y l) (by omega) (by omega)
    · have a0 : ¬(0 ≤ 128 + s ∧ 128 + s < 0 + 256) := by omega
      have a1 : 128 ≤ 128 + s ∧ 128 + s < 128 + 256 := by omega
      have a2 : 256 ≤ 128 + s ∧ 128 + s < 256 + 256 := by omega
      have a3 : ¬(384 ≤ 128 + s ∧ 128 + s < 384 + 256) := by omega
      rw [if_neg a0, if_pos a1, if_pos a2, if_neg a3, hn, add_zero, add_zero, zero_add]
      exact congrArg₂ (fun x y => D 1 x l + D 2 y l) (by omega) (by omega)
    · have a0 : ¬(0 ≤ 128 + s ∧ 128 + s < 0 + 256) := by omega
      have a1 : ¬(128 ≤ 128 + s ∧ 128 + s < 128 + 256) := by omega
      have a2 : 256 ≤ 128 + s ∧ 128 + s < 256 + 256 := by omega
      have a3 : 384 ≤ 128 + s ∧ 128 + s < 384 + 256 := by omega
      rw [if_neg a0, if_neg a1, if_pos a2, if_pos a3, hn, add_zero, add_zero, zero_add]
      exact congrArg₂ (fun x y => D 2 x l + D 3 y l) (by omega) (by omega)
    · omega
  · have a0 : ¬(0 ≤ 128 + s ∧ 128 + s < 0 + 256) := by omega
    have a1 : ¬(128 ≤ 128 + s ∧ 128 + s < 128 + 256) := by omega
    have a2 : ¬(256 ≤ 128 + s ∧ 128 + s < 256 + 256) := by omega
    have a3 : 384 ≤ 128 + s ∧ 128 + s < 384 + 256 := by omega
    have hn3 : s / 128 = 3 := by omega
    rw [if_neg h3, if_neg a0, if_neg a1, if_neg a2, if_pos a3, hn3, add_zero, add_zero, add_zero, add_zero, zero_add]
    exact congrArg (fun x => D 3 x l) (by omega)

/-- The point's output is the reference's residue. -/
theorem out_eq (A : Agree I V r) (F : Reals V r) (s l : ℕ) (hs : s < 512) (hl : l < 768) : I.out s l = Cert.ReferenceIdeal.Stage.out V r s l := by
  unfold Inp.out Cert.ReferenceIdeal.Stage.out
  by_cases h1 : l < 256
  · rw [if_pos h1, if_pos h1]; exact dq_eq A F s l hs h1
  · rw [if_neg h1, if_neg h1]
    by_cases h2 : l < 512
    · rw [if_pos h2, dif_pos h2]
      exact run_eq _ (fun n j => dk V r n ((l - 256) / 64) j ((l - 256) % 64)) _ (fun n j hn => dkb_eq A F n _ j hn (by omega)) s hs
    · rw [if_neg h2, dif_neg h2]
      exact run_eq _ (fun n j => dv V r n ((l - 512) / 64) j ((l - 512) % 64)) _ (fun n j hn => dvb_eq A F n _ j hn (by omega)) s hs

end Cert.Match

end
-- ==== Proof.Main.lean ====
module

public import proofs.«01_k».proof.Proof.Entry
public import proofs.«01_k».proof.Proof.Host
public import proofs.«01_k».proof.Proof.Match
public import proofs.«01_k».proof.Proof.Gen.KernelIdeal.Value

@[expose] public section

set_option maxRecDepth 16384

noncomputable section

open Idealize.ShloMosaic Idealize.ShloMosaic.TcCoe Idealize.SL.Sem

namespace Cert.KernelIdeal.Main

open Cert.KernelIdeal Cert.KernelIdeal.Gen Cert.KernelIdeal.Block Cert.KernelIdeal.Entry Cert.KernelIdeal.Host Cert.Lane Cert.ReferenceIdeal.Stage

/-- Three packed arrays side by side. -/
abbrev three (x y z : FVec Ideal S16x512x256 .f32) : FVec Ideal S16x512x768 .bf16 :=
  truncf .bf16 ((concatenate S16x512x768 2 [⟨S16x512x256, x⟩, ⟨S16x512x256, y⟩, ⟨S16x512x256, z⟩] concatenates_S16x512x256_S16x512x256_S16x512x256_S16x512x768_d2 : FVec Ideal S16x512x768 .f32)) bitsLt_bf16_f32

variable (x y z : FVec Ideal S16x512x256 .f32) (r : Fin 16) (s : Fin 512) (l : Fin 256) (p : Fin 768)

/-- The first of them. -/
theorem three0 (h : p.val = l.val) : three x y z (ix3 r s p) = x (ix3 r s l) := by
  pointwise [three]
  rw [dif_pos (show p.val < 256 by omega)]
  exact congrArg x (ix3_ext _ _ _ _ _ _ rfl rfl h)
/-- The second. -/
theorem three1 (h : p.val = 256 + l.val) : three x y z (ix3 r s p) = y (ix3 r s l) := by
  pointwise [three]
  rw [dif_neg (show ¬ p.val < 256 by omega), dif_pos (show p.val - 256 < 256 by omega)]
  exact congrArg y (ix3_ext _ _ _ _ _ _ rfl rfl (show p.val - 256 = l.val by omega))
/-- The third. -/
theorem three2 (h : p.val = 512 + l.val) : three x y z (ix3 r s p) = z (ix3 r s l) := by
  pointwise [three]
  rw [dif_neg (show ¬ p.val < 256 by omega), dif_neg (show ¬ p.val - 256 < 256 by omega)]
  exact congrArg z (ix3_ext _ _ _ _ _ _ rfl rfl (show p.val - 256 - 256 = l.val by omega))

/-- A packed array narrowed. -/
theorem narrow (a : FVec Ideal S1x8192x4x64 .f32) : (truncf .bf16 (dil a) bitsLt_bf16_f32 : FVec Ideal S16x512x256 .bf16) (ix3 r s l) = lane a r.val s.val l.val :=
  (dil_at a r s l)

variable {m : (ℓ : Loc nD τ sig) → Buf (Elt Ideal) ℓ} {c : Dev nD}
variable {V' : Valuation Cert.ReferenceIdeal.τ Cert.ReferenceIdeal.sig (Elt Ideal)} (H : Args m c V') (t : Fin cfg0.N)

include H

/-- What a grid point reads is its residue of the reference's arguments and saved values. -/
theorem agree : Cert.Match.Agree (inp m c t) V' t.val where
  q s l hs hl := ((at3_eq _ s l hs hl).trans (blk0 m c t ⟨s, hs⟩ ⟨l, hl⟩)).trans
    ((congrFun (v103_eq H) _).trans ((three0 _ _ _ ⟨t.val, lt t⟩ ⟨s, hs⟩ ⟨l, hl⟩ _ rfl).trans (dil_at _ _ _ _)))
  k s l hs hl := ((at3_eq _ s l hs hl).trans (blk1 m c t ⟨s, hs⟩ ⟨l, hl⟩)).trans
    ((congrFun (v103_eq H) _).trans ((three1 _ _ _ ⟨t.val, lt t⟩ ⟨s, hs⟩ ⟨l, hl⟩ _ rfl).trans (dil_at _ _ _ _)))
  v s l hs hl := ((at3_eq _ s l hs hl).trans (blk3 m c t ⟨s, hs⟩ ⟨l, hl⟩)).trans
    ((congrFun (v103_eq H) _).trans ((three2 _ _ _ ⟨t.val, lt t⟩ ⟨s, hs⟩ ⟨l, hl⟩ _ rfl).trans (dil_at _ _ _ _)))
  g s l hs hl := ((at3_eq _ s l hs hl).trans (blk5 m c t ⟨s, hs⟩ ⟨l, hl⟩)).trans
    ((congrFun (v109_eq H) _).trans (narrow ⟨t.val, lt t⟩ ⟨s, hs⟩ ⟨l, hl⟩ _))
  kp s l hs hl := ((at3p_eq _ s l hs hl).trans (blk2 m c t ⟨s, hs⟩ ⟨l, hl⟩)).trans
    ((congrFun (v103_eq H) _).trans ((three1 _ _ _ ⟨t.val, lt t⟩ ⟨s, by omega⟩ ⟨l, hl⟩ _ rfl).trans (dil_at _ _ _ _)))
  vp s l hs hl := ((at3p_eq _ s l hs hl).trans (blk4 m c t ⟨s, hs⟩ ⟨l, hl⟩)).trans
    ((congrFun (v103_eq H) _).trans ((three2 _ _ _ ⟨t.val, lt t⟩ ⟨s, by omega⟩ ⟨l, hl⟩ _ rfl).trans (dil_at _ _ _ _)))
  l n h i hn hh hi := by
    have ht := lt t
    have hs : 128 * n + i < 512 := by omega
    have hl : 64 * h < 256 := by omega
    refine ((at3_eq _ _ _ hs hl).trans (blk6 m c t ⟨128 * n + i, hs⟩ ⟨64 * h, hl⟩)).trans
      ((congrFun (v113_eq H) _).trans ((wide_at _ ⟨t.val, ht⟩ ⟨128 * n + i, hs⟩ ⟨64 * h, hl⟩).trans ?_))
    have e : 64 * h / 64 = h := by omega
    have hp : 16 * (128 * n + i) + t.val < 8192 := by omega
    show col (logs V') t.val (128 * n + i) (64 * h / 64) = _
    rw [e, ← col_eq (logs V') ⟨t.val, ht⟩ ⟨h, hh⟩ ⟨n, hn⟩ ⟨i, hi⟩ ⟨16 * (128 * n + i) + t.val, hp⟩ rfl, logs_at]
    have e1 : (16 * (128 * n + i) + t.val) % 16 = t.val := by omega
    have e2 : (16 * (128 * n + i) + t.val) / 2048 = n := by omega
    have e3 : (16 * (128 * n + i) + t.val) / 16 % 128 = i := by omega
    show Row.lse (Z V' ((16 * (128 * n + i) + t.val) % 16) ((16 * (128 * n + i) + t.val) / 2048) h ((16 * (128 * n + i) + t.val) / 16 % 128)) = _
    rw [e1, e2, e3]
  c n h i hn hh hi := by
    have ht := lt t
    have hs : 128 * n + i < 512 := by omega
    have hl : 64 * h < 256 := by omega
    refine ((at3_eq _ _ _ hs hl).trans (blk7 m c t ⟨128 * n + i, hs⟩ ⟨64 * h, hl⟩)).trans
      ((congrFun (v117_eq H) _).trans ((wide_at _ ⟨t.val, ht⟩ ⟨128 * n + i, hs⟩ ⟨64 * h, hl⟩).trans ?_))
    have e : 64 * h / 64 = h := by omega
    have hp : 16 * (128 * n + i) + t.val < 8192 := by omega
    have e1 : (16 * (128 * n + i) + t.val) % 16 = t.val := by omega
    have e2 : (16 * (128 * n + i) + t.val) / 2048 = n := by omega
    have e3 : (16 * (128 * n + i) + t.val) / 16 % 128 = i := by omega
    show col _ t.val (128 * n + i) (64 * h / 64) = _
    rw [e, ← col_eq _ ⟨t.val, ht⟩ ⟨h, hh⟩ ⟨n, hn⟩ ⟨i, hi⟩ ⟨16 * (128 * n + i) + t.val, hp⟩ rfl, corr_at]
    refine congrArg₂ (fun a b : EReal => a - b) (Finset.sum_congr rfl fun x _ => congrArg₂ (fun a b : EReal => a * b) (lane_eq _ ⟨t.val, ht⟩ ⟨h, hh⟩ ⟨n, hn⟩ ⟨i, hi⟩ x _ rfl) ?_)
      (col_eq _ ⟨t.val, ht⟩ ⟨h, hh⟩ ⟨n, hn⟩ ⟨i, hi⟩ _ rfl)
    refine (means_at V' _ _ _).trans ?_
    show Ideal.div (Row.num (Z V' ((16 * (128 * n + i) + t.val) % 16) ((16 * (128 * n + i) + t.val) / 2048) h ((16 * (128 * n + i) + t.val) / 16 % 128))
      (W V' ((16 * (128 * n + i) + t.val) % 16) ((16 * (128 * n + i) + t.val) / 2048) h) x)
      (Row.den (Z V' ((16 * (128 * n + i) + t.val) % 16) ((16 * (128 * n + i) + t.val) / 2048) h ((16 * (128 * n + i) + t.val) / 16 % 128))) = _
    rw [e1, e2, e3]
  b h i j hh hi hj := ((at2_eq _ _ _ (by omega) hj).trans (blk12 m c t ⟨128 * h + i, by omega⟩ ⟨j, hj⟩)).trans
    (v146_at ⟨h, hh⟩ ⟨i, hi⟩ ⟨j, hj⟩ ⟨128 * h + i, by omega⟩ rfl)

omit H in
/-- Every lane of an array of real numbers is real. -/
theorem lane_real (a : (⟨4, ![1, 8192, 4, 64]⟩ : Shape).Idx → EReal) (h : ∀ i, ∃ x : ℝ, a i = x) (r s l : ℕ) : ∃ x : ℝ, lane a r s l = x := by
  unfold lane
  split
  · exact h _
  · exact ⟨0, rfl⟩
omit H in
/-- The same without channels. -/
theorem col_real (a : (⟨3, ![1, 8192, 4]⟩ : Shape).Idx → EReal) (h : ∀ i, ∃ x : ℝ, a i = x) (r s l : ℕ) : ∃ x : ℝ, col a r s l = x := by
  unfold col
  split
  · exact h _
  · exact ⟨0, rfl⟩

/-- The packed gradients after the launch are the reference's. -/
theorem array_eq (F : ∀ r, Cert.Match.Reals V' r) :
    (dats m 0 c).arrAt 13 cfg0.N = Cert.ReferenceIdeal.Value.val4 V' (Proc.devRef .tc Cert.ReferenceIdeal.main_v159) := by
  refine (dats m 0 c).arrAt_eq_of_covers 13 _ (by decide +kernel) fun t hf y => ?_
  have ho : outsAt0 m c t = fun x => Cert.ReferenceIdeal.Stage.out V' t.val (x 1).val (x 2).val :=
    funext fun x => (outs_at m c t x).trans (Cert.Match.out_eq (agree H t) (F t.val) _ _ (x 1).isLt (x 2).isLt)
  blk_simp
  rw [after0_13, ho]
  refine (result_at V' ⟨t.val, lt t⟩ ⟨(y 1).val, (y 1).isLt⟩ ⟨(y 2).val, (y 2).isLt⟩).symm.trans (congrArg _ ?_)
  blk_ext [idx13 t]

end Cert.KernelIdeal.Main

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite_ffn
public import proofs.«01_k».proof.Proof.Gen.KernelIdeal.Value
public import proofs.«01_k».proof.Proof.Gen.ReferenceIdeal.Run
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Run
public import proofs.«01_k».proof.Proof.Gen.GateUpIdeal.Value
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Run
public import proofs.«01_k».proof.Proof.Gen.DownIdeal.Value
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InRefIdeal.Run
public import proofs.«01_k».proof.Proof.Gen.InIdeal.Value
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnIdeal.Value
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixRefIdeal.Run
public import proofs.«01_k».proof.Proof.Gen.MixIdeal.Value
public import proofs.«01_k».proof.Proof.GateUpDw
public import proofs.«01_k».proof.Proof.DownDw
public import proofs.«01_k».proof.Proof.InDw
public import proofs.«01_k».proof.Proof.FfnMain
public import proofs.«01_k».proof.Proof.MixArr
public import proofs.«01_k».proof.Proof.MixRef
public import proofs.«01_k».proof.Proof.Finite
public import proofs.«01_k».proof.Proof.Main
public import Idealize.ShloMosaic.Adequacy
public import Idealize.ShloMosaic.Init

@[expose] public section

noncomputable section

namespace Cert.Proof

open Idealize.ShloMosaic Idealize.SL.Sem

/-- The reference leaves its arguments and every semaphore as it found them. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The reference started from the kernel's arguments holds the kernel's arguments. -/
theorem same_args {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.Host.Args m c (StableHlo.launchContents m' c) :=
  ⟨h.1, h.2.1, h.2.2.1, h.2.2.2.1, h.2.2.2.2⟩

/-- From arguments that satisfy the precondition, every residue of the reference's arguments is real. -/
theorem reals {m : (ℓ : Loc Cert.KernelIdeal.nD Cert.KernelIdeal.τ Cert.KernelIdeal.sig) → Buf (Elt Ideal) ℓ}
    {V' : Valuation Cert.ReferenceIdeal.τ Cert.ReferenceIdeal.sig (Elt Ideal)} (c : Dev Cert.KernelIdeal.nD)
    (H : Cert.KernelIdeal.Host.Args m c V') (hp : Cert.Pre_KernelIdeal_finite (hPre_finite := Cert.Pre_finite.Gen.facts) m) (r : ℕ) : Cert.Match.Reals V' r := by
  obtain ⟨h0, h1, h2, h3, h4⟩ := Cert.Pre_finite.Real.args_real _ _ _ _ _ (hp c)
  exact ⟨fun s l => Cert.KernelIdeal.Main.lane_real _ (fun i => (congrFun H.h0 i).symm ▸ h0 i) r s l,
    fun s l => Cert.KernelIdeal.Main.lane_real _ (fun i => (congrFun H.h1 i).symm ▸ h1 i) r s l,
    fun s l => Cert.KernelIdeal.Main.lane_real _ (fun i => (congrFun H.h2 i).symm ▸ h2 i) r s l,
    fun s l => Cert.KernelIdeal.Main.lane_real _ (fun i => (congrFun H.h3 i).symm ▸ h3 i) r s l,
    fun s l => Cert.KernelIdeal.Main.col_real _ (fun i => (congrFun H.h4 i).symm ▸ h4 i) r s l⟩

/-- The kernel's gradients are the reference's. -/
theorem gradients : Cert.algebraic_KernelIdeal_ReferenceIdeal_pre_finite (hPre_finite := Cert.Pre_finite.Gen.facts) := by
  intro m g m' g' hp ha
  refine ⟨fun c => (Cert.KernelIdeal.Gen.dats m 0 c).arrAt 13 Cert.KernelIdeal.cfg0.N, Cert.KernelIdeal.Value.run_blocks m g, ?_⟩
  refine (θ_run Cert.ReferenceIdeal.defs _ _).mono (fun r h c => ⟨?_, (h c).2⟩) (Cert.ReferenceIdeal.Value.run (F := Ideal) m' g')
  have H := same_args c (ha c)
  exact (h c).1.trans ((Cert.ReferenceIdeal.Value.val4_main_v159 (StableHlo.launchContents m' c)).symm.trans
    (Cert.KernelIdeal.Main.array_eq H (reals c H hp)).symm)

/-- The gate and up weights' reference terminates and leaves its arguments. -/
theorem frame_GateUp : Cert.quiescent_GateUpRefIdeal := fun m ρ _ =>
  (θ_run Cert.GateUpRefIdeal.defs _ _).mono (fun r h => ⟨fun c => (h c).2.2, Idealize.ShloMosaic.sem_eq_zero_of_no_sems (by decide) r.2⟩)
    (Cert.GateUpRefIdeal.Value.run (F := Ideal) m ρ)

/-- The gate and up weights' kernel's two results are the reference's. -/
theorem weights_GateUp : Cert.algebraic_GateUpIdeal_GateUpRefIdeal := by
  intro m g m' g' _ ha
  refine ⟨_, _, (θ_run Cert.GateUpIdeal.defs _ _).mono (fun r h c => ⟨(h c).1.trans (Cert.GateUpIdeal.Dw.arr2 m c), (h c).2.1.trans (Cert.GateUpIdeal.Dw.arr3 m c), (h c).2.2⟩)
    (Cert.GateUpIdeal.Value.run_blocks m g), (θ_run Cert.GateUpRefIdeal.defs _ _).mono (fun r h c => ?_) (Cert.GateUpRefIdeal.Value.run (F := Ideal) m' g')⟩
  obtain ⟨h1, h2, h3⟩ := h c
  rw [(ha c).1, (ha c).2] at h1 h2
  exact ⟨h1.trans (Cert.GateUpRefIdeal.Dw.wide _ _), h2.trans (Cert.GateUpRefIdeal.Dw.wide _ _), h3⟩

/-- The down weights' reference terminates and leaves its arguments. -/
theorem frame_Down : Cert.quiescent_DownRefIdeal := fun m ρ _ =>
  (θ_run Cert.DownRefIdeal.defs _ _).mono (fun r h => ⟨fun c => (h c).2.2, Idealize.ShloMosaic.sem_eq_zero_of_no_sems (by decide) r.2⟩)
    (Cert.DownRefIdeal.Value.run (F := Ideal) m ρ)

/-- The down weights' kernel's two results are the reference's. -/
theorem weights_Down : Cert.algebraic_DownIdeal_DownRefIdeal := by
  intro m g m' g' _ ha
  refine ⟨_, _, (θ_run Cert.DownIdeal.defs _ _).mono (fun r h c => ⟨(h c).1.trans (Cert.DownIdeal.Dw.arr2 m c), (h c).2.1.trans (Cert.DownIdeal.Dw.arr3 m c), (h c).2.2⟩)
    (Cert.DownIdeal.Value.run_blocks m g), (θ_run Cert.DownRefIdeal.defs _ _).mono (fun r h c => ?_) (Cert.DownRefIdeal.Value.run (F := Ideal) m' g')⟩
  obtain ⟨h1, h2, h3⟩ := h c
  rw [(ha c).1, (ha c).2] at h1 h2
  exact ⟨h1.trans (Cert.DownRefIdeal.Dw.wide _ _), h2.trans (Cert.DownRefIdeal.Dw.wide _ _), h3⟩

/-- The first projection's reference terminates and leaves its arguments. -/
theorem frame_In : Cert.quiescent_InRefIdeal := fun m ρ _ =>
  (θ_run Cert.InRefIdeal.defs _ _).mono (fun r h => ⟨fun c => (h c).2.2, Idealize.ShloMosaic.sem_eq_zero_of_no_sems (by decide) r.2⟩)
    (Cert.InRefIdeal.Value.run (F := Ideal) m ρ)

/-- The first projection's kernel's two results are the reference's. -/
theorem weights_In : Cert.algebraic_InIdeal_InRefIdeal := by
  intro m g m' g' _ ha
  refine ⟨_, _, (θ_run Cert.InIdeal.defs _ _).mono (fun r h c => ⟨(h c).1.trans (Cert.InIdeal.Dw.arr2 m c), (h c).2.1.trans (Cert.InIdeal.Dw.arr3 m c), (h c).2.2⟩)
    (Cert.InIdeal.Value.run_blocks m g), (θ_run Cert.InRefIdeal.defs _ _).mono (fun r h c => ?_) (Cert.InRefIdeal.Value.run (F := Ideal) m' g')⟩
  obtain ⟨h1, h2, h3⟩ := h c
  rw [(ha c).1, (ha c).2] at h1 h2
  exact ⟨h1.trans (Cert.InRefIdeal.Dw.wide _ _), h2.trans (Cert.InRefIdeal.Dw.wide _ _), h3⟩

/-- The feed-forward reference terminates and leaves its arguments. -/
theorem frame_Ffn : Cert.quiescent_FfnRefIdeal := fun m ρ _ =>
  (θ_run Cert.FfnRefIdeal.defs _ _).mono (fun r h => ⟨fun c => (h c).2.2.2.2.2.2.2.2.2, Idealize.ShloMosaic.sem_eq_zero_of_no_sems (by decide) r.2⟩)
    (Cert.FfnRefIdeal.Value.run (F := Ideal) m ρ)

/-- The feed-forward kernel's nine results are the reference's. -/
theorem results_Ffn : Cert.algebraic_FfnIdeal_FfnRefIdeal_pre_finite_ffn (hPre_finite_ffn := Cert.Pre_finite_ffn.Gen.facts) := by
  intro m g m' g' hp ha
  refine ⟨_, _, _, _, _, _, _, _, _, (θ_run Cert.FfnIdeal.defs _ _).mono (fun r h c => by
      obtain ⟨h0, h1, h2, h3, h4, h5, h6, h7, h8, hr⟩ := h c
      exact ⟨h0.trans (Cert.FfnIdeal.Arr.arr6 m c), h1.trans (Cert.FfnIdeal.Arr.arr7 m c), h2.trans (Cert.FfnIdeal.Arr.arr8 m c),
        h3.trans (Cert.FfnIdeal.Arr.arr9 m c), h4.trans (Cert.FfnIdeal.Arr.arr10 m c), h5.trans (Cert.FfnIdeal.Arr.arr11 m c),
        h6.trans (Cert.FfnIdeal.Arr.arr12 m c), h7.trans (Cert.FfnIdeal.Arr.arr13 m c), h8.trans (Cert.FfnIdeal.Arr.arr14 m c), hr⟩)
    (Cert.FfnIdeal.Value.run_blocks m g), (θ_run Cert.FfnRefIdeal.defs _ _).mono (fun r h c => ?_) (Cert.FfnRefIdeal.Value.run (F := Ideal) m' g')⟩
  have A : Cert.FfnMain.Args m c (StableHlo.launchContents m' c) :=
    ⟨(ha c).1, (ha c).2.1, (ha c).2.2.1, (ha c).2.2.2.1, (ha c).2.2.2.2.1, (ha c).2.2.2.2.2⟩
  have R := A.real hp
  obtain ⟨h0, h1, h2, h3, h4, h5, h6, h7, h8, hr⟩ := h c
  have e0 := h0.trans Cert.FfnRefIdeal.Stage.all_f
  have e1 := h1.trans Cert.FfnRefIdeal.Stage.all_act
  have e2 := h2.trans (Cert.FfnRefIdeal.Stage.all_dgu R)
  have e3 := h3.trans (Cert.FfnRefIdeal.Stage.all_dh3 R)
  have e4 := h4.trans (Cert.FfnRefIdeal.Stage.all_dh2 R)
  have e5 := h5.trans (Cert.FfnRefIdeal.Stage.all_dh2b R)
  have e6 := h6.trans (Cert.FfnRefIdeal.Stage.all_dgf R)
  have e7 := h7.trans (Cert.FfnRefIdeal.Stage.all_dgz R)
  have e8 := h8.trans (Cert.FfnRefIdeal.Stage.all_loss R)
  rw [A.W, A.H] at e0 e1
  rw [A.W, A.H, A.T] at e2 e3 e4 e5 e6 e7 e8
  exact ⟨e0, e1, e2, e3, e4, e5, e6, e7, e8, hr⟩

/-- The reference of the step at the first projection terminates and leaves its arguments. -/
theorem frame_Mix : Cert.quiescent_MixRefIdeal := fun m ρ _ =>
  (θ_run Cert.MixRefIdeal.defs _ _).mono (fun r h => ⟨fun c => (h c).2.2.2, Idealize.ShloMosaic.sem_eq_zero_of_no_sems (by decide) r.2⟩)
    (Cert.MixRefIdeal.Value.run (F := Ideal) m ρ)

/-- The three results of the step at the first projection are the reference's. -/
theorem results_Mix : Cert.algebraic_MixIdeal_MixRefIdeal := by
  intro m g m' g' _ ha
  refine ⟨_, _, _, (θ_run Cert.MixIdeal.defs _ _).mono (fun r h c => ⟨(h c).1.trans (Cert.MixIdeal.Arr.arr9 m c), (h c).2.1.trans (Cert.MixIdeal.Arr.arr10 m c),
      (h c).2.2.1.trans (Cert.MixIdeal.Arr.arr11 m c), (h c).2.2.2⟩)
    (Cert.MixIdeal.Value.run_blocks m g), (θ_run Cert.MixRefIdeal.defs _ _).mono (fun r h c => ?_) (Cert.MixRefIdeal.Value.run (F := Ideal) m' g')⟩
  obtain ⟨h0, h1, h2, hr⟩ := h c
  obtain ⟨a0, a1, a2, a3, a4, a5, a6, a7, a8⟩ := ha c
  have e0 := h0.trans (Cert.MixRefIdeal.Stage.all_dx m' c)
  have e1 := h1.trans (Cert.MixRefIdeal.Stage.all_cat m' c)
  have e2 := h2.trans (Cert.MixRefIdeal.Stage.all_dg m' c)
  have d : Cert.MixRefIdeal.Stage.D0 m' c = Cert.MixIdeal.Arr.D m c := by
    unfold Cert.MixRefIdeal.Stage.D0
    rw [a0, a1, a2, a3, a4]
  rw [d, a5, a6, a7, a8] at e0
  rw [d] at e1
  rw [d, a6, a8] at e2
  exact ⟨e0, e1, e2, hr⟩

/-- Everything the certificate claims. -/
theorem claim : Cert.Claim := ⟨Cert.Kernel.Gen.facts, Cert.KernelIdeal.Gen.facts, Cert.ReferenceIdeal.Gen.facts,
  Cert.GateUp.Gen.facts, Cert.GateUpIdeal.Gen.facts, Cert.GateUpRefIdeal.Gen.facts, Cert.Down.Gen.facts, Cert.DownIdeal.Gen.facts, Cert.DownRefIdeal.Gen.facts, Cert.In.Gen.facts, Cert.InIdeal.Gen.facts, Cert.InRefIdeal.Gen.facts,
  Cert.Ffn.Gen.facts, Cert.FfnIdeal.Gen.facts, Cert.FfnRefIdeal.Gen.facts,
  Cert.Mix.Gen.facts, Cert.MixIdeal.Gen.facts, Cert.MixRefIdeal.Gen.facts, Cert.Pre_finite.Gen.facts, Cert.Pre_finite_ffn.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.GateUp.Gen.frame m ρ, fun m ρ _ => Cert.GateUpIdeal.Gen.frame m ρ, frame_GateUp,
  fun m ρ _ => Cert.Down.Gen.frame m ρ, fun m ρ _ => Cert.DownIdeal.Gen.frame m ρ, frame_Down,
  fun m ρ _ => Cert.In.Gen.frame m ρ, fun m ρ _ => Cert.InIdeal.Gen.frame m ρ, frame_In,
  fun m ρ _ => Cert.Ffn.Gen.frame m ρ, fun m ρ _ => Cert.FfnIdeal.Gen.frame m ρ, fun m ρ _ => Cert.FfnIdeal.Gen.frame m ρ, frame_Ffn, fun m ρ _ => frame_Ffn m ρ trivial,
  fun m ρ _ => Cert.Mix.Gen.frame m ρ, fun m ρ _ => Cert.MixIdeal.Gen.frame m ρ, frame_Mix,
  IdealRules.named_const.statement Cert.KernelIdeal.κ "mask" .f32 0xF149F2CA#32 ⊥ rfl, gradients,
  trivial, weights_GateUp, trivial, weights_Down, trivial, weights_In, trivial, results_Ffn, trivial, results_Mix⟩

end Cert.Proof

end
